-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def preserves_Kernel_KernelIdeal : Prop :=
  IdealRules.named_const.Statement Cert.KernelIdeal.κ "log2e_over_temp" .f32 0x4166D4CA#32 (((134217728 / 13421773) * (Real.log 2)⁻¹ : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S512x50x128 : Shape := ⟨3, ![512, 50, 128]⟩
abbrev S512x128 : Shape := ⟨2, ![512, 128]⟩
abbrev S512 : Shape := ⟨1, ![512]⟩
abbrev S64x64 : Shape := ⟨2, ![64, 64]⟩
abbrev S64 : Shape := ⟨1, ![64]⟩
abbrev S65536x64 : Shape := ⟨2, ![65536, 64]⟩
abbrev S128x192 : Shape := ⟨2, ![128, 192]⟩
abbrev S128 : Shape := ⟨1, ![128]⟩
abbrev S50x512x128 : Shape := ⟨3, ![50, 512, 128]⟩
abbrev S128x512 : Shape := ⟨2, ![128, 512]⟩
abbrev S256x512 : Shape := ⟨2, ![256, 512]⟩
abbrev S1x512 : Shape := ⟨2, ![1, 512]⟩
abbrev S512x1x64 : Shape := ⟨3, ![512, 1, 64]⟩
abbrev S512x64 : Shape := ⟨2, ![512, 64]⟩
abbrev S1x64 : Shape := ⟨2, ![1, 64]⟩
abbrev S64x65536 : Shape := ⟨2, ![64, 65536]⟩
abbrev S128x128 : Shape := ⟨2, ![128, 128]⟩
abbrev S128x64 : Shape := ⟨2, ![128, 64]⟩
abbrev S64x128 : Shape := ⟨2, ![64, 128]⟩
abbrev S1x128 : Shape := ⟨2, ![1, 128]⟩
abbrev S1x512x128 : Shape := ⟨3, ![1, 512, 128]⟩
abbrev S512x256 : Shape := ⟨2, ![512, 256]⟩
abbrev S512x512 : Shape := ⟨2, ![512, 512]⟩
abbrev S64x8192 : Shape := ⟨2, ![64, 8192]⟩
abbrev S128x8192 : Shape := ⟨2, ![128, 8192]⟩
abbrev S512x1 : Shape := ⟨2, ![512, 1]⟩
abbrev S8192 : Shape := ⟨1, ![8192]⟩
abbrev S1x8192 : Shape := ⟨2, ![1, 8192]⟩
abbrev S512x8192 : Shape := ⟨2, ![512, 8192]⟩

abbrev nBuf : Space → Nat
  | .hbm => 31
  | .vmem => 22
  | .smem => 0
  | _ => 0

abbrev bufTy : (tb : Table) → Fin (tcTables nBuf tb) → BufTy
  | .hbm, ⟨0, _⟩ => ⟨S512x50x128, .f32⟩
  | .hbm, ⟨1, _⟩ => ⟨S512x128, .f32⟩
  | .hbm, ⟨2, _⟩ => ⟨S512x128, .f32⟩
  | .hbm, ⟨3, _⟩ => ⟨S512, .f32⟩
  | .hbm, ⟨4, _⟩ => ⟨S512, .f32⟩
  | .hbm, ⟨5, _⟩ => ⟨S64x64, .f32⟩
  | .hbm, ⟨6, _⟩ => ⟨S64, .f32⟩
  | .hbm, ⟨7, _⟩ => ⟨S65536x64, .f32⟩
  | .hbm, ⟨8, _⟩ => ⟨S65536x64, .f32⟩
  | .hbm, ⟨9, _⟩ => ⟨S128x192, .f32⟩
  | .hbm, ⟨10, _⟩ => ⟨S128, .f32⟩
  | .hbm, ⟨11, _⟩ => ⟨S50x512x128, .f32⟩
  | .hbm, ⟨12, _⟩ => ⟨S128x512, .f32⟩
  | .hbm, ⟨13, _⟩ => ⟨S128x512, .f32⟩
  | .hbm, ⟨14, _⟩ => ⟨S256x512, .f32⟩
  | .hbm, ⟨15, _⟩ => ⟨S256x512, .bf16⟩
  | .hbm, ⟨16, _⟩ => ⟨S512, .f32⟩
  | .hbm, ⟨17, _⟩ => ⟨S1x512, .f32⟩
  | .hbm, ⟨18, _⟩ => ⟨S512x128, .f32⟩
  | .hbm, ⟨19, _⟩ => ⟨S512x1x64, .f32⟩
  | .hbm, ⟨20, _⟩ => ⟨S512x64, .f32⟩
  | .hbm, ⟨21, _⟩ => ⟨S64x64, .f32⟩
  | .hbm, ⟨22, _⟩ => ⟨S1x64, .f32⟩
  | .hbm, ⟨23, _⟩ => ⟨S64x65536, .f32⟩
  | .hbm, ⟨24, _⟩ => ⟨S64x65536, .f32⟩
  | .hbm, ⟨25, _⟩ => ⟨S128x128, .f32⟩
  | .hbm, ⟨26, _⟩ => ⟨S128x128, .f32⟩
  | .hbm, ⟨27, _⟩ => ⟨S128x64, .f32⟩
  | .hbm, ⟨28, _⟩ => ⟨S64x128, .f32⟩
  | .hbm, ⟨29, _⟩ => ⟨S1x128, .f32⟩
  | .hbm, ⟨30, _⟩ => ⟨S512x128, .f32⟩
  | .local _ .vmem, ⟨0, _⟩ => ⟨S1x512x128, .f32⟩
  | .local _ .vmem, ⟨1, _⟩ => ⟨S1x512x128, .f32⟩
  | .local _ .vmem, ⟨2, _⟩ => ⟨S256x512, .bf16⟩
  | .local _ .vmem, ⟨3, _⟩ => ⟨S1x512, .f32⟩
  | .local _ .vmem, ⟨4, _⟩ => ⟨S512x128, .f32⟩
  | .local _ .vmem, ⟨5, _⟩ => ⟨S512x256, .bf16⟩
  | .local _ .vmem, ⟨6, _⟩ => ⟨S512x128, .f32⟩
  | .local _ .vmem, ⟨7, _⟩ => ⟨S512x64, .f32⟩
  | .local _ .vmem, ⟨8, _⟩ => ⟨S64x64, .f32⟩
  | .local _ .vmem, ⟨9, _⟩ => ⟨S1x64, .f32⟩
  | .local _ .vmem, ⟨10, _⟩ => ⟨S64x8192, .f32⟩
  | .local _ .vmem, ⟨11, _⟩ => ⟨S64x8192, .f32⟩
  | .local _ .vmem, ⟨12, _⟩ => ⟨S64x8192, .f32⟩
  | .local _ .vmem, ⟨13, _⟩ => ⟨S64x8192, .f32⟩
  | .local _ .vmem, ⟨14, _⟩ => ⟨S512x128, .f32⟩
  | .local _ .vmem, ⟨15, _⟩ => ⟨S128x128, .f32⟩
  | .local _ .vmem, ⟨16, _⟩ => ⟨S64x128, .f32⟩
  | .local _ .vmem, ⟨17, _⟩ => ⟨S1x128, .f32⟩
  | .local _ .vmem, ⟨18, _⟩ => ⟨S512x128, .f32⟩
  | .local _ .vmem, ⟨19, _⟩ => ⟨S512x64, .fp8e4m3⟩
  | .local _ .vmem, ⟨20, _⟩ => ⟨S128x8192, .bf16⟩
  | .local _ .vmem, ⟨21, _⟩ => ⟨S512x128, .f32⟩
  | _, _ => ⟨S512x50x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_v5 : Ref sig .tc := ⟨.hbm, 16, rfl⟩
abbrev main_call0_v6 : Ref sig .tc := ⟨.hbm, 17, rfl⟩
abbrev main_call0_v7 : Ref sig .tc := ⟨.hbm, 18, rfl⟩
abbrev main_call0_v8 : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_v12 : Ref sig .tc := ⟨.hbm, 23, rfl⟩
abbrev main_call0_v13 : Ref sig .tc := ⟨.hbm, 24, rfl⟩
abbrev main_call0_v14 : Ref sig .tc := ⟨.hbm, 25, rfl⟩
abbrev main_call0_v15 : Ref sig .tc := ⟨.hbm, 26, rfl⟩
abbrev main_call0_v16 : Ref sig .tc := ⟨.hbm, 27, rfl⟩
abbrev main_call0_v17 : Ref sig .tc := ⟨.hbm, 28, rfl⟩
abbrev main_call0_v18 : Ref sig .tc := ⟨.hbm, 29, rfl⟩
abbrev main_v0 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_scratch0 : Ref sig .tc := ⟨.vmem, 5, rfl⟩
abbrev cc0_scratch1 : Ref sig .tc := ⟨.vmem, 6, rfl⟩
abbrev cc1_stg0_0 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc1_stg4_0 : Ref sig .tc := ⟨.vmem, 12, rfl⟩
abbrev cc1_stg4_1 : Ref sig .tc := ⟨.vmem, 13, rfl⟩
abbrev cc1_stg5_0 : Ref sig .tc := ⟨.vmem, 14, rfl⟩
abbrev cc1_stg6_0 : Ref sig .tc := ⟨.vmem, 15, rfl⟩
abbrev cc1_stg7_0 : Ref sig .tc := ⟨.vmem, 16, rfl⟩
abbrev cc1_stg8_0 : Ref sig .tc := ⟨.vmem, 17, rfl⟩
abbrev cc1_stg9_0 : Ref sig .tc := ⟨.vmem, 18, rfl⟩
abbrev cc1_scratch0 : Ref sig .tc := ⟨.vmem, 19, rfl⟩
abbrev cc1_scratch1 : Ref sig .tc := ⟨.vmem, 20, rfl⟩
abbrev cc1_scratch2 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc1_sem0_0 : DmaSem sig := 5
abbrev cc1_sem1_0 : DmaSem sig := 6
abbrev cc1_sem2_0 : DmaSem sig := 7
abbrev cc1_sem3_0 : DmaSem sig := 8
abbrev cc1_sem3_1 : DmaSem sig := 9
abbrev cc1_sem4_0 : DmaSem sig := 10
abbrev cc1_sem4_1 : DmaSem sig := 11
abbrev cc1_sem5_0 : DmaSem sig := 12
abbrev cc1_sem6_0 : DmaSem sig := 13
abbrev cc1_sem7_0 : DmaSem sig := 14
abbrev cc1_sem8_0 : DmaSem sig := 15
abbrev cc1_sem9_0 : DmaSem sig := 16

abbrev nD : Nat := 1
abbrev τ : Topo := Topo.v7x

variable {F : FTy → Type} [FloatOps F]

abbrev grid0 : Pipeline.Grid := ⟨1, ![50], ![false]⟩

def k0_cond2 (i : grid0.Coords) : BitVec 1 :=
  let arg0 : BitVec 32 := BitVec.ofNat 32 (i 0).val
  let c49_i32 : BitVec 32 := 49#32
  let v56 : BitVec 1 := Scalar.cmpi .eq arg0 c49_i32
  let v57 : BitVec 32 := Scalar.extui v56
  let c0_i32_25 : BitVec 32 := 0#32
  let v58 : BitVec 1 := Scalar.cmpi .ne v57 c0_i32_25
  v58

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev grid1 : Pipeline.Grid := ⟨1, ![8], ![false]⟩

def k1_cond2 (i : grid1.Coords) : BitVec 1 :=
  let arg0 : BitVec 32 := BitVec.ofNat 32 (i 0).val
  let c7_i32 : BitVec 32 := 7#32
  let v33 : BitVec 1 := Scalar.cmpi .eq arg0 c7_i32
  let v34 : BitVec 32 := Scalar.extui v33
  let c0_i32_18 : BitVec 32 := 0#32
  let v35 : BitVec 1 := Scalar.cmpi .ne v34 c0_i32_18
  v35

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S512x64 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S64x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S64x8192 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S64x8192 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 1 → Memref sig .tc .vmem S512x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S128x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S64x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S512x128 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]
-- ==== KernelIdeal.lean ====
variable {F : FTy → Type} [FloatOps F] [Named F]
def κ : String → Option EReal := fun
  | "log2e_over_temp" => some (((134217728 / 13421773) * (Real.log 2)⁻¹ : ℝ) : EReal)
  | _ => none
-- ==== ReferenceIdeal.lean ====
abbrev S512x50x128 : Shape := ⟨3, ![512, 50, 128]⟩
abbrev S512x128 : Shape := ⟨2, ![512, 128]⟩
abbrev S512 : Shape := ⟨1, ![512]⟩
abbrev S64x64 : Shape := ⟨2, ![64, 64]⟩
abbrev S64 : Shape := ⟨1, ![64]⟩
abbrev S65536x64 : Shape := ⟨2, ![65536, 64]⟩
abbrev S128x192 : Shape := ⟨2, ![128, 192]⟩
abbrev S128 : Shape := ⟨1, ![128]⟩
abbrev S_ : Shape := ⟨0, ![]⟩
abbrev S50x512x128 : Shape := ⟨3, ![50, 512, 128]⟩
abbrev S1x512x128 : Shape := ⟨3, ![1, 512, 128]⟩
abbrev S128x512 : Shape := ⟨2, ![128, 512]⟩
abbrev S512x512 : Shape := ⟨2, ![512, 512]⟩
abbrev S1x512 : Shape := ⟨2, ![1, 512]⟩
abbrev S512x1x64 : Shape := ⟨3, ![512, 1, 64]⟩
abbrev S512x64 : Shape := ⟨2, ![512, 64]⟩
abbrev S1x64 : Shape := ⟨2, ![1, 64]⟩
abbrev S512x1 : Shape := ⟨2, ![512, 1]⟩
abbrev S65536 : Shape := ⟨1, ![65536]⟩
abbrev S65536x1 : Shape := ⟨2, ![65536, 1]⟩
abbrev S64x65536 : Shape := ⟨2, ![64, 65536]⟩
abbrev S512x65536 : Shape := ⟨2, ![512, 65536]⟩
abbrev S512x192 : Shape := ⟨2, ![512, 192]⟩
abbrev S192x128 : Shape := ⟨2, ![192, 128]⟩
abbrev S1x128 : Shape := ⟨2, ![1, 128]⟩

abbrev nBuf : Space → Nat
  | .hbm => 131
  | .vmem => 0
  | .smem => 0
  | _ => 0

abbrev hbmTy0_0 (i : Nat) : BufTy := match i % 128 with
  | 0 => ⟨S512x50x128, .f32⟩
  | 1 => ⟨S512x128, .f32⟩
  | 2 => ⟨S512x128, .f32⟩
  | 3 => ⟨S512, .f32⟩
  | 4 => ⟨S512, .f32⟩
  | 5 => ⟨S64x64, .f32⟩
  | 6 => ⟨S64, .f32⟩
  | 7 => ⟨S65536x64, .f32⟩
  | 8 => ⟨S65536x64, .f32⟩
  | 9 => ⟨S128x192, .f32⟩
  | 10 => ⟨S128, .f32⟩
  | 11 => ⟨S_, .f32⟩
  | 12 => ⟨S512x128, .f32⟩
  | 13 => ⟨S_, .f32⟩
  | 14 => ⟨S512x128, .f32⟩
  | 15 => ⟨S50x512x128, .f32⟩
  | 16 => ⟨S_, .i32⟩
  | 17 => ⟨S50x512x128, .f32⟩
  | 18 => ⟨S512x128, .f32⟩
  | 19 => ⟨S512x128, .f32⟩
  | 20 => ⟨S512, .f32⟩
  | 21 => ⟨S512, .f32⟩
  | 22 => ⟨S_, .i32⟩
  | 23 => ⟨S512x128, .f32⟩
  | 24 => ⟨S512x128, .f32⟩
  | 25 => ⟨S_, .i32⟩
  | 26 => ⟨S_, .i1⟩
  | 27 => ⟨S_, .i32⟩
  | 28 => ⟨S_, .i32⟩
  | 29 => ⟨S1x512x128, .f32⟩
  | 30 => ⟨S512x128, .f32⟩
  | 31 => ⟨S128x512, .f32⟩
  | 32 => ⟨S512x512, .f32⟩
  | 33 => ⟨S128x512, .f32⟩
  | 34 => ⟨S512x512, .f32⟩
  | 35 => ⟨S512x512, .f32⟩
  | 36 => ⟨S1x512, .f32⟩
  | 37 => ⟨S512x512, .f32⟩
  | 38 => ⟨S512x512, .f32⟩
  | 39 => ⟨S1x512, .f32⟩
  | 40 => ⟨S512x512, .f32⟩
  | 41 => ⟨S512x512, .f32⟩
  | 42 => ⟨S512x128, .f32⟩
  | 43 => ⟨S512x128, .f32⟩
  | 44 => ⟨S512x128, .f32⟩
  | 45 => ⟨S512x128, .f32⟩
  | 46 => ⟨S512x128, .f32⟩
  | 47 => ⟨S512x128, .f32⟩
  | 48 => ⟨S_, .f32⟩
  | 49 => ⟨S512x128, .f32⟩
  | 50 => ⟨S512x128, .f32⟩
  | 51 => ⟨S_, .f32⟩
  | 52 => ⟨S512x128, .f32⟩
  | 53 => ⟨S512x128, .f32⟩
  | 54 => ⟨S512x128, .f32⟩
  | 55 => ⟨S512x128, .f32⟩
  | 56 => ⟨S_, .f32⟩
  | 57 => ⟨S512x128, .f32⟩
  | 58 => ⟨S512x128, .f32⟩
  | 59 => ⟨S_, .f32⟩
  | 60 => ⟨S512x128, .f32⟩
  | 61 => ⟨S512x128, .f32⟩
  | 62 => ⟨S512x128, .f32⟩
  | 63 => ⟨S512x128, .f32⟩
  | 64 => ⟨S512x128, .f32⟩
  | 65 => ⟨S_, .f32⟩
  | 66 => ⟨S512x128, .f32⟩
  | 67 => ⟨S512x128, .f32⟩
  | 68 => ⟨S_, .f32⟩
  | 69 => ⟨S512x128, .f32⟩
  | 70 => ⟨S512x128, .f32⟩
  | 71 => ⟨S512x128, .f32⟩
  | 72 => ⟨S512x128, .f32⟩
  | 73 => ⟨S512x128, .f32⟩
  | 74 => ⟨S512x128, .f32⟩
  | 75 => ⟨S512x128, .f32⟩
  | 76 => ⟨S_, .i32⟩
  | 77 => ⟨S_, .i32⟩
  | 78 => ⟨S512x1x64, .f32⟩
  | 79 => ⟨S512x64, .f32⟩
  | 80 => ⟨S64x64, .f32⟩
  | 81 => ⟨S512x64, .f32⟩
  | 82 => ⟨S1x64, .f32⟩
  | 83 => ⟨S512x64, .f32⟩
  | 84 => ⟨S512x64, .f32⟩
  | 85 => ⟨S512x64, .f32⟩
  | 86 => ⟨S_, .f32⟩
  | 87 => ⟨S512, .f32⟩
  | 88 => ⟨S512x1, .f32⟩
  | 89 => ⟨S512x1, .f32⟩
  | 90 => ⟨S_, .f32⟩
  | 91 => ⟨S512x1, .f32⟩
  | 92 => ⟨S512x1, .f32⟩
  | 93 => ⟨S512x64, .f32⟩
  | 94 => ⟨S512x64, .f32⟩
  | 95 => ⟨S65536x64, .f32⟩
  | 96 => ⟨S_, .f32⟩
  | 97 => ⟨S65536, .f32⟩
  | 98 => ⟨S65536x1, .f32⟩
  | 99 => ⟨S65536x1, .f32⟩
  | 100 => ⟨S_, .f32⟩
  | 101 => ⟨S65536x1, .f32⟩
  | 102 => ⟨S65536x1, .f32⟩
  | 103 => ⟨S65536x64, .f32⟩
  | 104 => ⟨S65536x64, .f32⟩
  | 105 => ⟨S64x65536, .f32⟩
  | 106 => ⟨S512x65536, .f32⟩
  | 107 => ⟨S_, .f32⟩
  | 108 => ⟨S512x65536, .f32⟩
  | 109 => ⟨S512x65536, .f32⟩
  | 110 => ⟨S_, .f32⟩
  | 111 => ⟨S512, .f32⟩
  | 112 => ⟨S_, .f32⟩
  | 113 => ⟨S512, .f32⟩
  | 114 => ⟨S512, .f32⟩
  | 115 => ⟨S512x1, .f32⟩
  | 116 => ⟨S512x65536, .f32⟩
  | 117 => ⟨S512x65536, .f32⟩
  | 118 => ⟨S512x65536, .f32⟩
  | 119 => ⟨S_, .f32⟩
  | 120 => ⟨S512, .f32⟩
  | 121 => ⟨S512x1, .f32⟩
  | 122 => ⟨S512x65536, .f32⟩
  | 123 => ⟨S512x65536, .f32⟩
  | 124 => ⟨S512x64, .f32⟩
  | 125 => ⟨S512x192, .f32⟩
  | 126 => ⟨S192x128, .f32⟩
  | 127 => ⟨S512x128, .f32⟩
  | _ => ⟨S512x50x128, .f32⟩

abbrev hbmTy0_1 (i : Nat) : BufTy := match i % 128 with
  | 0 => ⟨S1x128, .f32⟩
  | 1 => ⟨S512x128, .f32⟩
  | 2 => ⟨S512x128, .f32⟩
  | _ => ⟨S512x50x128, .f32⟩

abbrev hbmTy (i : Nat) : BufTy := match i / 128 with
  | 0 => hbmTy0_0 i
  | 1 => hbmTy0_1 i
  | _ => ⟨S512x50x128, .f32⟩

abbrev bufTy : (tb : Table) → Fin (tcTables nBuf tb) → BufTy
  | .hbm, ⟨i, _⟩ => hbmTy i
  | _, _ => ⟨S512x50x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_cst_0 : Ref sig .tc := ⟨.hbm, 13, rfl⟩
abbrev main_v1 : Ref sig .tc := ⟨.hbm, 14, rfl⟩
abbrev main_v2 : Ref sig .tc := ⟨.hbm, 15, rfl⟩
abbrev main_c : Ref sig .tc := ⟨.hbm, 16, rfl⟩
abbrev main_v3_0 : Ref sig .tc := ⟨.hbm, 17, rfl⟩
abbrev main_v3_1 : Ref sig .tc := ⟨.hbm, 18, rfl⟩
abbrev main_v3_2 : Ref sig .tc := ⟨.hbm, 19, rfl⟩
abbrev main_v3_3 : Ref sig .tc := ⟨.hbm, 20, rfl⟩
abbrev main_v3_4 : Ref sig .tc := ⟨.hbm, 21, rfl⟩
abbrev main_v3_5 : Ref sig .tc := ⟨.hbm, 22, rfl⟩
abbrev main_v3_6 : Ref sig .tc := ⟨.hbm, 23, rfl⟩
abbrev main_v3_7 : Ref sig .tc := ⟨.hbm, 24, rfl⟩
abbrev main_while0c_c_14 : Ref sig .tc := ⟨.hbm, 25, rfl⟩
abbrev main_while0c_v43 : Ref sig .tc := ⟨.hbm, 26, rfl⟩
abbrev main_while0b_call0_c : Ref sig .tc := ⟨.hbm, 27, rfl⟩
abbrev main_while0b_call0_c_0 : Ref sig .tc := ⟨.hbm, 28, rfl⟩
abbrev main_while0b_call0_v0 : Ref sig .tc := ⟨.hbm, 29, rfl⟩
abbrev main_while0b_v43 : Ref sig .tc := ⟨.hbm, 30, rfl⟩
abbrev main_while0b_v44 : Ref sig .tc := ⟨.hbm, 31, rfl⟩
abbrev main_while0b_v45 : Ref sig .tc := ⟨.hbm, 32, rfl⟩
abbrev main_while0b_v46 : Ref sig .tc := ⟨.hbm, 33, rfl⟩
abbrev main_while0b_v47 : Ref sig .tc := ⟨.hbm, 34, rfl⟩
abbrev main_while0b_v48 : Ref sig .tc := ⟨.hbm, 35, rfl⟩
abbrev main_while0b_v49 : Ref sig .tc := ⟨.hbm, 36, rfl⟩
abbrev main_while0b_v50 : Ref sig .tc := ⟨.hbm, 37, rfl⟩
abbrev main_while0b_v51 : Ref sig .tc := ⟨.hbm, 38, rfl⟩
abbrev main_while0b_v52 : Ref sig .tc := ⟨.hbm, 39, rfl⟩
abbrev main_while0b_v53 : Ref sig .tc := ⟨.hbm, 40, rfl⟩
abbrev main_while0b_v54 : Ref sig .tc := ⟨.hbm, 41, rfl⟩
abbrev main_while0b_v55 : Ref sig .tc := ⟨.hbm, 42, rfl⟩
abbrev main_while0b_v56 : Ref sig .tc := ⟨.hbm, 43, rfl⟩
abbrev main_while0b_v57 : Ref sig .tc := ⟨.hbm, 44, rfl⟩
abbrev main_while0b_v58 : Ref sig .tc := ⟨.hbm, 45, rfl⟩
abbrev main_while0b_v59 : Ref sig .tc := ⟨.hbm, 46, rfl⟩
abbrev main_while0b_v60 : Ref sig .tc := ⟨.hbm, 47, rfl⟩
abbrev main_while0b_cst_14 : Ref sig .tc := ⟨.hbm, 48, rfl⟩
abbrev main_while0b_v61 : Ref sig .tc := ⟨.hbm, 49, rfl⟩
abbrev main_while0b_v62 : Ref sig .tc := ⟨.hbm, 50, rfl⟩
abbrev main_while0b_cst_15 : Ref sig .tc := ⟨.hbm, 51, rfl⟩
abbrev main_while0b_v63 : Ref sig .tc := ⟨.hbm, 52, rfl⟩
abbrev main_while0b_v64 : Ref sig .tc := ⟨.hbm, 53, rfl⟩
abbrev main_while0b_v65 : Ref sig .tc := ⟨.hbm, 54, rfl⟩
abbrev main_while0b_v66 : Ref sig .tc := ⟨.hbm, 55, rfl⟩
abbrev main_while0b_cst_16 : Ref sig .tc := ⟨.hbm, 56, rfl⟩
abbrev main_while0b_v67 : Ref sig .tc := ⟨.hbm, 57, rfl⟩
abbrev main_while0b_v68 : Ref sig .tc := ⟨.hbm, 58, rfl⟩
abbrev main_while0b_cst_17 : Ref sig .tc := ⟨.hbm, 59, rfl⟩
abbrev main_while0b_v69 : Ref sig .tc := ⟨.hbm, 60, rfl⟩
abbrev main_while0b_v70 : Ref sig .tc := ⟨.hbm, 61, rfl⟩
abbrev main_while0b_v71 : Ref sig .tc := ⟨.hbm, 62, rfl⟩
abbrev main_while0b_v72 : Ref sig .tc := ⟨.hbm, 63, rfl⟩
abbrev main_while0b_v73 : Ref sig .tc := ⟨.hbm, 64, rfl⟩
abbrev main_while0b_cst_18 : Ref sig .tc := ⟨.hbm, 65, rfl⟩
abbrev main_while0b_v74 : Ref sig .tc := ⟨.hbm, 66, rfl⟩
abbrev main_while0b_v75 : Ref sig .tc := ⟨.hbm, 67, rfl⟩
abbrev main_while0b_cst_19 : Ref sig .tc := ⟨.hbm, 68, rfl⟩
abbrev main_while0b_v76 : Ref sig .tc := ⟨.hbm, 69, rfl⟩
abbrev main_while0b_v77 : Ref sig .tc := ⟨.hbm, 70, rfl⟩
abbrev main_while0b_v78 : Ref sig .tc := ⟨.hbm, 71, rfl⟩
abbrev main_while0b_v79 : Ref sig .tc := ⟨.hbm, 72, rfl⟩
abbrev main_while0b_v80 : Ref sig .tc := ⟨.hbm, 73, rfl⟩
abbrev main_while0b_v81 : Ref sig .tc := ⟨.hbm, 74, rfl⟩
abbrev main_while0b_v82 : Ref sig .tc := ⟨.hbm, 75, rfl⟩
abbrev main_while0b_c_20 : Ref sig .tc := ⟨.hbm, 76, rfl⟩
abbrev main_while0b_v83 : Ref sig .tc := ⟨.hbm, 77, rfl⟩
abbrev main_v4 : Ref sig .tc := ⟨.hbm, 78, rfl⟩
abbrev main_v5 : Ref sig .tc := ⟨.hbm, 79, rfl⟩
abbrev main_v6 : Ref sig .tc := ⟨.hbm, 80, rfl⟩
abbrev main_v7 : Ref sig .tc := ⟨.hbm, 81, rfl⟩
abbrev main_v8 : Ref sig .tc := ⟨.hbm, 82, rfl⟩
abbrev main_v9 : Ref sig .tc := ⟨.hbm, 83, rfl⟩
abbrev main_v10 : Ref sig .tc := ⟨.hbm, 84, rfl⟩
abbrev main_call1_v0 : Ref sig .tc := ⟨.hbm, 85, rfl⟩
abbrev main_call1_cst : Ref sig .tc := ⟨.hbm, 86, rfl⟩
abbrev main_call1_v1 : Ref sig .tc := ⟨.hbm, 87, rfl⟩
abbrev main_call1_v2 : Ref sig .tc := ⟨.hbm, 88, rfl⟩
abbrev main_v11 : Ref sig .tc := ⟨.hbm, 89, rfl⟩
abbrev main_cst_1 : Ref sig .tc := ⟨.hbm, 90, rfl⟩
abbrev main_v12 : Ref sig .tc := ⟨.hbm, 91, rfl⟩
abbrev main_v13 : Ref sig .tc := ⟨.hbm, 92, rfl⟩
abbrev main_v14 : Ref sig .tc := ⟨.hbm, 93, rfl⟩
abbrev main_v15 : Ref sig .tc := ⟨.hbm, 94, rfl⟩
abbrev main_call2_v0 : Ref sig .tc := ⟨.hbm, 95, rfl⟩
abbrev main_call2_cst : Ref sig .tc := ⟨.hbm, 96, rfl⟩
abbrev main_call2_v1 : Ref sig .tc := ⟨.hbm, 97, rfl⟩
abbrev main_call2_v2 : Ref sig .tc := ⟨.hbm, 98, rfl⟩
abbrev main_v16 : Ref sig .tc := ⟨.hbm, 99, rfl⟩
abbrev main_cst_2 : Ref sig .tc := ⟨.hbm, 100, rfl⟩
abbrev main_v17 : Ref sig .tc := ⟨.hbm, 101, rfl⟩
abbrev main_v18 : Ref sig .tc := ⟨.hbm, 102, rfl⟩
abbrev main_v19 : Ref sig .tc := ⟨.hbm, 103, rfl⟩
abbrev main_v20 : Ref sig .tc := ⟨.hbm, 104, rfl⟩
abbrev main_v21 : Ref sig .tc := ⟨.hbm, 105, rfl⟩
abbrev main_v22 : Ref sig .tc := ⟨.hbm, 106, rfl⟩
abbrev main_cst_3 : Ref sig .tc := ⟨.hbm, 107, rfl⟩
abbrev main_v23 : Ref sig .tc := ⟨.hbm, 108, rfl⟩
abbrev main_v24 : Ref sig .tc := ⟨.hbm, 109, rfl⟩
abbrev main_cst_4 : Ref sig .tc := ⟨.hbm, 110, rfl⟩
abbrev main_v25 : Ref sig .tc := ⟨.hbm, 111, rfl⟩
abbrev main_cst_5 : Ref sig .tc := ⟨.hbm, 112, rfl⟩
abbrev main_v26 : Ref sig .tc := ⟨.hbm, 113, rfl⟩
abbrev main_v27 : Ref sig .tc := ⟨.hbm, 114, rfl⟩
abbrev main_v28 : Ref sig .tc := ⟨.hbm, 115, rfl⟩
abbrev main_v29 : Ref sig .tc := ⟨.hbm, 116, rfl⟩
abbrev main_v30 : Ref sig .tc := ⟨.hbm, 117, rfl⟩
abbrev main_v31 : Ref sig .tc := ⟨.hbm, 118, rfl⟩
abbrev main_cst_6 : Ref sig .tc := ⟨.hbm, 119, rfl⟩
abbrev main_v32 : Ref sig .tc := ⟨.hbm, 120, rfl⟩
abbrev main_v33 : Ref sig .tc := ⟨.hbm, 121, rfl⟩
abbrev main_v34 : Ref sig .tc := ⟨.hbm, 122, rfl⟩
abbrev main_v35 : Ref sig .tc := ⟨.hbm, 123, rfl⟩
abbrev main_v36 : Ref sig .tc := ⟨.hbm, 124, rfl⟩
abbrev main_v37 : Ref sig .tc := ⟨.hbm, 125, rfl⟩
abbrev main_v38 : Ref sig .tc := ⟨.hbm, 126, rfl⟩
abbrev main_v39 : Ref sig .tc := ⟨.hbm, 127, rfl⟩
abbrev main_v40 : Ref sig .tc := ⟨.hbm, 128, rfl⟩
abbrev main_v41 : Ref sig .tc := ⟨.hbm, 129, rfl⟩
abbrev main_v42 : Ref sig .tc := ⟨.hbm, 130, rfl⟩

abbrev nD : Nat := 1
abbrev τ : Topo := Topo.v7x

variable {F : FTy → Type} [FloatOps F]

abbrev main_while0_count : Scf.Loop 32 := ⟨0#32, 50#32, 1#32⟩
-- ==== Proof.KernelIdeal.LstmRuns.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelIdeal.Lstm

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The condition of branch 0 of the body, from the grid coordinates. -/
abbrev cond0_0 (i : grid0.Coords) : Prop := (Scalar.cmpi .ne (Scalar.extui (Scalar.cmpi .eq (BitVec.ofNat 32 (i 0).val) 0#32)) 0#32) = 1#1
/-- It holds at the first point only. -/
theorem hcond0_0 : ∀ t : Fin cfg0.N, cond0_0 (grid0.coords t) ↔ t.val % 50 = 0 :=
  (fun t => by
    have ht : t.val < 50 := Nat.lt_of_lt_of_eq t.isLt N_0
    have e0 : (grid0.coords t 0).val = t.val / 1 % 50 := Pipeline.Grid.coords_val t 0 (by decide) rfl
    simp only [cond0_0, e0]
    word_cmp
   : ∀ t : Fin grid0.N, cond0_0 (grid0.coords t) ↔ t.val % 50 = 0)

/-- The condition of branch 1 of the body, from the grid coordinates. -/
abbrev cond0_1 (i : grid0.Coords) : Prop := k0_cond2 i = 1#1
/-- It holds at the last point only. -/
theorem hcond0_1 : ∀ t : Fin cfg0.N, cond0_1 (grid0.coords t) ↔ t.val % 50 = 49 :=
  (fun t => by
    have ht : t.val < 50 := Nat.lt_of_lt_of_eq t.isLt N_0
    have e0 : (grid0.coords t 0).val = t.val / 1 % 50 := Pipeline.Grid.coords_val t 0 (by decide) rfl
    simp only [cond0_1, k0_cond2, e0]
    word_cmp
   : ∀ t : Fin grid0.N, cond0_1 (grid0.coords t) ↔ t.val % 50 = 49)

/-- The output is idle before the last point, written back only there, and live at it. -/
theorem idleAt0_3_A : ∀ t : Fin cfg0.N, cond0_0 (grid0.coords t) → ¬cond0_1 (grid0.coords t) → cfg0.idle 3 (grid0.coords t) = true := by decide +kernel
/-- The output window is not written back at the first point. -/
theorem noFlush0_3_A : ∀ t : Fin cfg0.N, cond0_0 (grid0.coords t) → ¬cond0_1 (grid0.coords t) → (cfg0.win 3).flush t = false := by decide +kernel
/-- The output window is not touched at a middle point. -/
theorem idleAt0_3_B : ∀ t : Fin cfg0.N, ¬cond0_0 (grid0.coords t) → ¬cond0_1 (grid0.coords t) → cfg0.idle 3 (grid0.coords t) = true := by decide +kernel
/-- The output window is not written back at a middle point. -/
theorem noFlush0_3_B : ∀ t : Fin cfg0.N, ¬cond0_0 (grid0.coords t) → ¬cond0_1 (grid0.coords t) → (cfg0.win 3).flush t = false := by decide +kernel
/-- The output window is written at the last point. -/
theorem liveAt0_3_C : ∀ t : Fin cfg0.N, ¬cond0_0 (grid0.coords t) → cond0_1 (grid0.coords t) → cfg0.idle 3 (grid0.coords t) = false := by decide +kernel

/-- A staging buffer of the output, through which its contents are stated. -/
abbrev VO0_3 : View sig .tc .vmem S512x128 .f32 := (Memref.whole cc0_stg3_0 : Memref sig .tc .vmem S512x128 .f32).view
/-- Each window's current staging memref at a point, and that it is whole. -/
abbrev ms0_0 (t : Fin cfg0.N) : Memref sig .tc .vmem S1x512x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S256x512 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x512 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S512x128 .f32 := win0_3.stage (cfg0.slots t 3)
abbrev hs0_3 (t : Fin cfg0.N) : (ms0_3 t).IsWhole := hstage0_3 ((cfg0.slots t 3).cast nbuf0_3)
/-- The scratch buffers the kernel carries between points. -/
abbrev scM0_0 : Memref sig .tc .vmem S512x256 .bf16 := Memref.whole cc0_scratch0
abbrev scM0_1 : Memref sig .tc .vmem S512x128 .f32 := Memref.whole cc0_scratch1
abbrev VS0_0 : View sig .tc .vmem S512x256 .bf16 := scM0_0.view
abbrev VS0_1 : View sig .tc .vmem S512x128 .f32 := scM0_1.view

/-- What a point of the region leaves alone: the other region's buffers and the generator, at some contents. -/
def rest (c : Dev nD) : sProp 𝕄 :=
  iprop(iprop((∃ f : Buf (Elt F) ((c : Thread nD τ).loc cc1_stg0_0), ((c : Thread nD τ).loc cc1_stg0_0) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg6_0), ((c : Thread nD τ).loc cc1_stg6_0) ↦{fullShare} f) ∗ (∃ f : Buf (Elt F) ((c : Thread nD τ).loc cc1_stg7_0), ((c : Thread nD τ).loc cc1_stg7_0) ↦{fullShare} f) ∗ (∃ f : Buf (Elt F) ((c : Thread nD τ).loc cc1_stg8_0), ((c : Thread nD τ).loc cc1_stg8_0) ↦{fullShare} f) ∗ (∃ f : Buf (Elt F) ((c : Thread nD τ).loc cc1_stg9_0), ((c : Thread nD τ).loc cc1_stg9_0) ↦{fullShare} f) ∗ (∃ f : Buf (Elt F) ((c : Thread nD τ).loc cc1_scratch0), ((c : Thread nD τ).loc cc1_scratch0) ↦{fullShare} f) ∗ (∃ f : Buf (Elt F) ((c : Thread nD τ).loc cc1_scratch1), ((c : Thread nD τ).loc cc1_scratch1) ↦{fullShare} f) ∗ (∃ f : Buf (Elt F) ((c : Thread nD τ).loc cc1_scratch2), ((c : Thread nD τ).loc cc1_scratch2) ↦{fullShare} f)) ∗ (∃ r, prngReg c r))

/-- The region's invariant at entry, regrouped: its own scratch at some contents, then the rest. -/
theorem PhiA_in (c : Dev nD) :
    (Pipeline.ΦA spec0 c : sProp 𝕄) ⊢ iprop(iprop((∃ d, owns (c : Thread nD τ) scM0_0 fullShare d) ∗ (∃ d, owns (c : Thread nD τ) scM0_1 fullShare d)) ∗ rest c) := by
  unfold Pipeline.ΦA rest; rw [scopedRest0_eq]; simp only [scM0_0, scM0_1, owns_whole]
  iintro ⟨⟨HS0, HS1, HO0, HO1, HO2, HO3, HO4, HO5, HO6, HO7, HO8, HO9, HO10, HO11, HO12, HO13, HO14⟩, Hg⟩
  isplitl [HS0 HS1]
  · isplitl [HS0]; · iexact HS0
    iexact HS1
  isplitl [HO0 HO1 HO2 HO3 HO4 HO5 HO6 HO7 HO8 HO9 HO10 HO11 HO12 HO13 HO14]
  · isplitl [HO0]; · iexact HO0
    isplitl [HO1]; · iexact HO1
    isplitl [HO2]; · iexact HO2
    isplitl [HO3]; · iexact HO3
    isplitl [HO4]; · iexact HO4
    isplitl [HO5]; · iexact HO5
    isplitl [HO6]; · iexact HO6
    isplitl [HO7]; · iexact HO7
    isplitl [HO8]; · iexact HO8
    isplitl [HO9]; · iexact HO9
    isplitl [HO10]; · iexact HO10
    isplitl [HO11]; · iexact HO11
    isplitl [HO12]; · iexact HO12
    isplitl [HO13]; · iexact HO13
    iexact HO14
  iexact Hg

/-- And back. -/
theorem PhiA_out (c : Dev nD) :
    iprop(iprop((∃ d, owns (c : Thread nD τ) scM0_0 fullShare d) ∗ (∃ d, owns (c : Thread nD τ) scM0_1 fullShare d)) ∗ rest c) ⊢ (Pipeline.ΦA spec0 c : sProp 𝕄) := by
  unfold Pipeline.ΦA rest; rw [scopedRest0_eq]; simp only [scM0_0, scM0_1, owns_whole]
  iintro ⟨⟨HS0, HS1⟩, ⟨HO0, HO1, HO2, HO3, HO4, HO5, HO6, HO7, HO8, HO9, HO10, HO11, HO12, HO13, HO14⟩, Hg⟩
  isplitl [HS0 HS1 HO0 HO1 HO2 HO3 HO4 HO5 HO6 HO7 HO8 HO9 HO10 HO11 HO12 HO13 HO14]
  · isplitl [HS0]; · iexact HS0
    isplitl [HS1]; · iexact HS1
    isplitl [HO0]; · iexact HO0
    isplitl [HO1]; · iexact HO1
    isplitl [HO2]; · iexact HO2
    isplitl [HO3]; · iexact HO3
    isplitl [HO4]; · iexact HO4
    isplitl [HO5]; · iexact HO5
    isplitl [HO6]; · iexact HO6
    isplitl [HO7]; · iexact HO7
    isplitl [HO8]; · iexact HO8
    isplitl [HO9]; · iexact HO9
    isplitl [HO10]; · iexact HO10
    isplitl [HO11]; · iexact HO11
    isplitl [HO12]; · iexact HO12
    isplitl [HO13]; · iexact HO13
    iexact HO14
  iexact Hg

section Body
variable (c : Dev nD) (i : grid0.Coords) (arg1 : Memref sig .tc .vmem S1x512x128 .f32) (harg1 : arg1.IsWhole) (arg2 : Memref sig .tc .vmem S256x512 .bf16) (harg2 : arg2.IsWhole) (arg3 : Memref sig .tc .vmem S1x512 .f32) (harg3 : arg3.IsWhole) (arg4 : Memref sig .tc .vmem S512x128 .f32) (harg4 : arg4.IsWhole) (arg5 : Memref sig .tc .vmem S512x256 .bf16) (harg5 : arg5.IsWhole) (arg6 : Memref sig .tc .vmem S512x128 .f32) (harg6 : arg6.IsWhole)

set_option maxHeartbeats 1000000 in
/-- The body at a first point, the inputs at `x`, the scratch at anything: what it leaves, as the pieces its run finds. -/
def kernelRun0_A (hc0 : cond0_0 i) (hc1 : ¬cond0_1 i)
    (x0 : Vec F S1x512x128 .f32) (x1 : Vec F S256x512 .bf16) (x2 : Vec F S1x512 .f32) :
    Σ' (L3 : List (View.Piece (Elt F) S512x128 .f32)), Σ' (LS0 : List (View.Piece (Elt F) S512x256 .bf16)), { LS1 : List (View.Piece (Elt F) S512x128 .f32) //
      ∀ (xi3 : Vec F S512x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare xi3 ∗ (∃ d, owns (c : Thread nD τ) arg5 fullShare d) ∗ (∃ d, owns (c : Thread nD τ) arg6 fullShare d)
            ∗ (iprop(owns (c : Thread nD τ) arg1 fullShare x0 ∗ owns (c : Thread nD τ) arg2 fullShare x1 ∗ owns (c : Thread nD τ) arg3 fullShare x2 ∗ owns (c : Thread nD τ) arg4 fullShare xi3 ∗ (∃ f, arg5.view.loc (c : Thread nD τ) ↦[arg5.view.set]{fullShare} arg5.view.writes (Elt F) f LS0) ∗ (∃ f, arg6.view.loc (c : Thread nD τ) ↦[arg6.view.set]{fullShare} arg6.view.writes (Elt F) f LS1)) -∗ K ⟨⟩))
          ⊢ wp frame (wpE (defs₀ (F := F)) Variants.none c none) E (cc0__lstm_step_kernel i arg1 harg1 arg2 harg2 arg3 harg3 arg4 harg4 arg5 harg5 arg6 harg6) K } := by
  refine ⟨[], ?_, ?_, fun xi3 E K => ?run⟩
  case run =>
    simp only [cc0__lstm_step_kernel_eq_skeleton]; unfold cc0__lstm_step_kernel_skel
    simp only [k0_part1_eq_skeleton]
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [HS0]; · iexists _; iexact HS0
    iexists _; iexact HS1

set_option maxHeartbeats 1000000 in
/-- The body at a middle point, the inputs at `x`, the scratch at `xs`: what it leaves, as the pieces its run finds. -/
def kernelRun0_B (hc0 : ¬cond0_0 i) (hc1 : ¬cond0_1 i)
    (x0 : Vec F S1x512x128 .f32) (x1 : Vec F S256x512 .bf16) (x2 : Vec F S1x512 .f32) (xs0 : Vec F S512x256 .bf16) (xs1 : Vec F S512x128 .f32) :
    Σ' (L3 : List (View.Piece (Elt F) S512x128 .f32)), Σ' (LS0 : List (View.Piece (Elt F) S512x256 .bf16)), { LS1 : List (View.Piece (Elt F) S512x128 .f32) //
      ∀ (xi3 : Vec F S512x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare xi3 ∗ owns (c : Thread nD τ) arg5 fullShare xs0 ∗ owns (c : Thread nD τ) arg6 fullShare xs1
            ∗ (iprop(owns (c : Thread nD τ) arg1 fullShare x0 ∗ owns (c : Thread nD τ) arg2 fullShare x1 ∗ owns (c : Thread nD τ) arg3 fullShare x2 ∗ owns (c : Thread nD τ) arg4 fullShare xi3 ∗ (∃ f, arg5.view.loc (c : Thread nD τ) ↦[arg5.view.set]{fullShare} arg5.view.writes (Elt F) f LS0) ∗ (∃ f, arg6.view.loc (c : Thread nD τ) ↦[arg6.view.set]{fullShare} arg6.view.writes (Elt F) f LS1)) -∗ K ⟨⟩))
          ⊢ wp frame (wpE (defs₀ (F := F)) Variants.none c none) E (cc0__lstm_step_kernel i arg1 harg1 arg2 harg2 arg3 harg3 arg4 harg4 arg5 harg5 arg6 harg6) K } := by
  refine ⟨[], ?_, ?_, fun xi3 E K => ?run⟩
  case run =>
    simp only [cc0__lstm_step_kernel_eq_skeleton]; unfold cc0__lstm_step_kernel_skel
    simp only [k0_part1_eq_skeleton]
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hfs0; obtain rfl := harg6.eq_unread hfs1
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [HS0]; · iexists _; iexact HS0
    iexists _; iexact HS1

set_option maxHeartbeats 1000000 in
/-- The body at a last point, the inputs at `x`, the scratch at `xs`: what it leaves, as the pieces its run finds. -/
def kernelRun0_C (hc0 : ¬cond0_0 i) (hc1 : cond0_1 i)
    (x0 : Vec F S1x512x128 .f32) (x1 : Vec F S256x512 .bf16) (x2 : Vec F S1x512 .f32) (xs0 : Vec F S512x256 .bf16) (xs1 : Vec F S512x128 .f32) :
    Σ' (L3 : List (View.Piece (Elt F) S512x128 .f32)), Σ' (LS0 : List (View.Piece (Elt F) S512x256 .bf16)), { LS1 : List (View.Piece (Elt F) S512x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d) ∗ owns (c : Thread nD τ) arg5 fullShare xs0 ∗ owns (c : Thread nD τ) arg6 fullShare xs1
            ∗ (iprop(owns (c : Thread nD τ) arg1 fullShare x0 ∗ owns (c : Thread nD τ) arg2 fullShare x1 ∗ owns (c : Thread nD τ) arg3 fullShare x2 ∗ (∃ f, arg4.view.loc (c : Thread nD τ) ↦[arg4.view.set]{fullShare} arg4.view.writes (Elt F) f L3) ∗ (∃ f, arg5.view.loc (c : Thread nD τ) ↦[arg5.view.set]{fullShare} arg5.view.writes (Elt F) f LS0) ∗ (∃ f, arg6.view.loc (c : Thread nD τ) ↦[arg6.view.set]{fullShare} arg6.view.writes (Elt F) f LS1)) -∗ K ⟨⟩))
          ⊢ wp frame (wpE (defs₀ (F := F)) Variants.none c none) E (cc0__lstm_step_kernel i arg1 harg1 arg2 harg2 arg3 harg3 arg4 harg4 arg5 harg5 arg6 harg6) K } := by
  refine ⟨?_, ?_, ?_, fun E K => ?run⟩
  case run =>
    simp only [cc0__lstm_step_kernel_eq_skeleton]; unfold cc0__lstm_step_kernel_skel
    simp only [k0_part1_eq_skeleton]
    unfold owns
    iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg5.eq_unread hfs0; obtain rfl := harg6.eq_unread hfs1
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    isplitl [HS0]; · iexists _; iexact HS0
    iexists _; iexact HS1

end Body

end Cert.KernelIdeal.Lstm

end
-- ==== Proof.KernelIdeal.LstmDat.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp
public import proofs.«01_k».proof.Proof.KernelIdeal.LstmRuns

@[expose] public section

set_option maxRecDepth 16384

noncomputable section

namespace Cert.KernelIdeal.Lstm

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

section Body
variable (c : Dev nD) (i : grid0.Coords) (arg1 : Memref sig .tc .vmem S1x512x128 .f32) (harg1 : arg1.IsWhole) (arg2 : Memref sig .tc .vmem S256x512 .bf16) (harg2 : arg2.IsWhole) (arg3 : Memref sig .tc .vmem S1x512 .f32) (harg3 : arg3.IsWhole) (arg4 : Memref sig .tc .vmem S512x128 .f32) (harg4 : arg4.IsWhole) (arg5 : Memref sig .tc .vmem S512x256 .bf16) (harg5 : arg5.IsWhole) (arg6 : Memref sig .tc .vmem S512x128 .f32) (harg6 : arg6.IsWhole)

/-- What the output holds after the point (a placeholder where it is idle). -/
def out0_A_3 (hc0 : cond0_0 i) (hc1 : ¬cond0_1 i)
    (x0 : Vec F S1x512x128 .f32) (x1 : Vec F S256x512 .bf16) (x2 : Vec F S1x512 .f32) : Vec F S512x128 .f32 :=
  VO0_3.read (Elt F) (VO0_3.writes (Elt F) VO0_3.junk (kernelRun0_A c i arg1 harg1 arg2 harg2 arg3 harg3 arg4 harg4 arg5 harg5 arg6 harg6 hc0 hc1 x0 x1 x2).1)

/-- The pieces cover scratch 0. -/
theorem scover0_A_0 (hc0 : cond0_0 i) (hc1 : ¬cond0_1 i)
    (x0 : Vec F S1x512x128 .f32) (x1 : Vec F S256x512 .bf16) (x2 : Vec F S1x512 .f32) (y : S512x256.Idx) :
    ∃ pc ∈ (kernelRun0_A c i arg1 harg1 arg2 harg2 arg3 harg3 arg4 harg4 arg5 harg5 arg6 harg6 hc0 hc1 x0 x1 x2).2.1, y ∈ pc.1.set :=
  View.cover_of_wholeMem (kernelRun0_A c i arg1 harg1 arg2 harg2 arg3 harg3 arg4 harg4 arg5 harg5 arg6 harg6 hc0 hc1 x0 x1 x2).2.1 (by sl_whole_mem) y

/-- What scratch 0 holds after the point. -/
def sout0_A_0 (hc0 : cond0_0 i) (hc1 : ¬cond0_1 i)
    (x0 : Vec F S1x512x128 .f32) (x1 : Vec F S256x512 .bf16) (x2 : Vec F S1x512 .f32) : Vec F S512x256 .bf16 :=
  VS0_0.read (Elt F) (VS0_0.writes (Elt F) VS0_0.junk (kernelRun0_A c i arg1 harg1 arg2 harg2 arg3 harg3 arg4 harg4 arg5 harg5 arg6 harg6 hc0 hc1 x0 x1 x2).2.1)

/-- The pieces cover scratch 1. -/
theorem scover0_A_1 (hc0 : cond0_0 i) (hc1 : ¬cond0_1 i)
    (x0 : Vec F S1x512x128 .f32) (x1 : Vec F S256x512 .bf16) (x2 : Vec F S1x512 .f32) (y : S512x128.Idx) :
    ∃ pc ∈ (kernelRun0_A c i arg1 harg1 arg2 harg2 arg3 harg3 arg4 harg4 arg5 harg5 arg6 harg6 hc0 hc1 x0 x1 x2).2.2.1, y ∈ pc.1.set :=
  View.cover_of_tiledL (kernelRun0_A c i arg1 harg1 arg2 harg2 arg3 harg3 arg4 harg4 arg5 harg5 arg6 harg6 hc0 hc1 x0 x1 x2).2.2.1 S512x128.size (by sl_kernel_rfl) y

/-- What scratch 1 holds after the point. -/
def sout0_A_1 (hc0 : cond0_0 i) (hc1 : ¬cond0_1 i)
    (x0 : Vec F S1x512x128 .f32) (x1 : Vec F S256x512 .bf16) (x2 : Vec F S1x512 .f32) : Vec F S512x128 .f32 :=
  VS0_1.read (Elt F) (VS0_1.writes (Elt F) VS0_1.junk (kernelRun0_A c i arg1 harg1 arg2 harg2 arg3 harg3 arg4 harg4 arg5 harg5 arg6 harg6 hc0 hc1 x0 x1 x2).2.2.1)

/-- What the output holds after the point (a placeholder where it is idle). -/
def out0_B_3 (hc0 : ¬cond0_0 i) (hc1 : ¬cond0_1 i)
    (x0 : Vec F S1x512x128 .f32) (x1 : Vec F S256x512 .bf16) (x2 : Vec F S1x512 .f32) (xs0 : Vec F S512x256 .bf16) (xs1 : Vec F S512x128 .f32) : Vec F S512x128 .f32 :=
  VO0_3.read (Elt F) (VO0_3.writes (Elt F) VO0_3.junk (kernelRun0_B c i arg1 harg1 arg2 harg2 arg3 harg3 arg4 harg4 arg5 harg5 arg6 harg6 hc0 hc1 x0 x1 x2 xs0 xs1).1)

/-- The pieces cover scratch 0. -/
theorem scover0_B_0 (hc0 : ¬cond0_0 i) (hc1 : ¬cond0_1 i)
    (x0 : Vec F S1x512x128 .f32) (x1 : Vec F S256x512 .bf16) (x2 : Vec F S1x512 .f32) (xs0 : Vec F S512x256 .bf16) (xs1 : Vec F S512x128 .f32) (y : S512x256.Idx) :
    ∃ pc ∈ (kernelRun0_B c i arg1 harg1 arg2 harg2 arg3 harg3 arg4 harg4 arg5 harg5 arg6 harg6 hc0 hc1 x0 x1 x2 xs0 xs1).2.1, y ∈ pc.1.set :=
  View.cover_of_tiledL (kernelRun0_B c i arg1 harg1 arg2 harg2 arg3 harg3 arg4 harg4 arg5 harg5 arg6 harg6 hc0 hc1 x0 x1 x2 xs0 xs1).2.1 S512x128.size (by sl_kernel_rfl) y

/-- What scratch 0 holds after the point. -/
def sout0_B_0 (hc0 : ¬cond0_0 i) (hc1 : ¬cond0_1 i)
    (x0 : Vec F S1x512x128 .f32) (x1 : Vec F S256x512 .bf16) (x2 : Vec F S1x512 .f32) (xs0 : Vec F S512x256 .bf16) (xs1 : Vec F S512x128 .f32) : Vec F S512x256 .bf16 :=
  VS0_0.read (Elt F) (VS0_0.writes (Elt F) VS0_0.junk (kernelRun0_B c i arg1 harg1 arg2 harg2 arg3 harg3 arg4 harg4 arg5 harg5 arg6 harg6 hc0 hc1 x0 x1 x2 xs0 xs1).2.1)

/-- The pieces cover scratch 1. -/
theorem scover0_B_1 (hc0 : ¬cond0_0 i) (hc1 : ¬cond0_1 i)
    (x0 : Vec F S1x512x128 .f32) (x1 : Vec F S256x512 .bf16) (x2 : Vec F S1x512 .f32) (xs0 : Vec F S512x256 .bf16) (xs1 : Vec F S512x128 .f32) (y : S512x128.Idx) :
    ∃ pc ∈ (kernelRun0_B c i arg1 harg1 arg2 harg2 arg3 harg3 arg4 harg4 arg5 harg5 arg6 harg6 hc0 hc1 x0 x1 x2 xs0 xs1).2.2.1, y ∈ pc.1.set :=
  View.cover_of_tiledL (kernelRun0_B c i arg1 harg1 arg2 harg2 arg3 harg3 arg4 harg4 arg5 harg5 arg6 harg6 hc0 hc1 x0 x1 x2 xs0 xs1).2.2.1 S512x128.size (by sl_kernel_rfl) y

/-- What scratch 1 holds after the point. -/
def sout0_B_1 (hc0 : ¬cond0_0 i) (hc1 : ¬cond0_1 i)
    (x0 : Vec F S1x512x128 .f32) (x1 : Vec F S256x512 .bf16) (x2 : Vec F S1x512 .f32) (xs0 : Vec F S512x256 .bf16) (xs1 : Vec F S512x128 .f32) : Vec F S512x128 .f32 :=
  VS0_1.read (Elt F) (VS0_1.writes (Elt F) VS0_1.junk (kernelRun0_B c i arg1 harg1 arg2 harg2 arg3 harg3 arg4 harg4 arg5 harg5 arg6 harg6 hc0 hc1 x0 x1 x2 xs0 xs1).2.2.1)

/-- The last point's pieces cover the output. -/
theorem cover0_C_3 (hc0 : ¬cond0_0 i) (hc1 : cond0_1 i)
    (x0 : Vec F S1x512x128 .f32) (x1 : Vec F S256x512 .bf16) (x2 : Vec F S1x512 .f32) (xs0 : Vec F S512x256 .bf16) (xs1 : Vec F S512x128 .f32) (y : S512x128.Idx) :
    ∃ pc ∈ (kernelRun0_C c i arg1 harg1 arg2 harg2 arg3 harg3 arg4 harg4 arg5 harg5 arg6 harg6 hc0 hc1 x0 x1 x2 xs0 xs1).1, y ∈ pc.1.set :=
  View.cover_of_tiledL (kernelRun0_C c i arg1 harg1 arg2 harg2 arg3 harg3 arg4 harg4 arg5 harg5 arg6 harg6 hc0 hc1 x0 x1 x2 xs0 xs1).1 S512x128.size (by sl_kernel_rfl) y

/-- What the output holds after the point (a placeholder where it is idle). -/
def out0_C_3 (hc0 : ¬cond0_0 i) (hc1 : cond0_1 i)
    (x0 : Vec F S1x512x128 .f32) (x1 : Vec F S256x512 .bf16) (x2 : Vec F S1x512 .f32) (xs0 : Vec F S512x256 .bf16) (xs1 : Vec F S512x128 .f32) : Vec F S512x128 .f32 :=
  VO0_3.read (Elt F) (VO0_3.writes (Elt F) VO0_3.junk (kernelRun0_C c i arg1 harg1 arg2 harg2 arg3 harg3 arg4 harg4 arg5 harg5 arg6 harg6 hc0 hc1 x0 x1 x2 xs0 xs1).1)

/-- The pieces cover scratch 0. -/
theorem scover0_C_0 (hc0 : ¬cond0_0 i) (hc1 : cond0_1 i)
    (x0 : Vec F S1x512x128 .f32) (x1 : Vec F S256x512 .bf16) (x2 : Vec F S1x512 .f32) (xs0 : Vec F S512x256 .bf16) (xs1 : Vec F S512x128 .f32) (y : S512x256.Idx) :
    ∃ pc ∈ (kernelRun0_C c i arg1 harg1 arg2 harg2 arg3 harg3 arg4 harg4 arg5 harg5 arg6 harg6 hc0 hc1 x0 x1 x2 xs0 xs1).2.1, y ∈ pc.1.set :=
  View.cover_of_tiledL (kernelRun0_C c i arg1 harg1 arg2 harg2 arg3 harg3 arg4 harg4 arg5 harg5 arg6 harg6 hc0 hc1 x0 x1 x2 xs0 xs1).2.1 S512x128.size (by sl_kernel_rfl) y

/-- What scratch 0 holds after the point. -/
def sout0_C_0 (hc0 : ¬cond0_0 i) (hc1 : cond0_1 i)
    (x0 : Vec F S1x512x128 .f32) (x1 : Vec F S256x512 .bf16) (x2 : Vec F S1x512 .f32) (xs0 : Vec F S512x256 .bf16) (xs1 : Vec F S512x128 .f32) : Vec F S512x256 .bf16 :=
  VS0_0.read (Elt F) (VS0_0.writes (Elt F) VS0_0.junk (kernelRun0_C c i arg1 harg1 arg2 harg2 arg3 harg3 arg4 harg4 arg5 harg5 arg6 harg6 hc0 hc1 x0 x1 x2 xs0 xs1).2.1)

/-- The pieces cover scratch 1. -/
theorem scover0_C_1 (hc0 : ¬cond0_0 i) (hc1 : cond0_1 i)
    (x0 : Vec F S1x512x128 .f32) (x1 : Vec F S256x512 .bf16) (x2 : Vec F S1x512 .f32) (xs0 : Vec F S512x256 .bf16) (xs1 : Vec F S512x128 .f32) (y : S512x128.Idx) :
    ∃ pc ∈ (kernelRun0_C c i arg1 harg1 arg2 harg2 arg3 harg3 arg4 harg4 arg5 harg5 arg6 harg6 hc0 hc1 x0 x1 x2 xs0 xs1).2.2.1, y ∈ pc.1.set :=
  View.cover_of_tiledL (kernelRun0_C c i arg1 harg1 arg2 harg2 arg3 harg3 arg4 harg4 arg5 harg5 arg6 harg6 hc0 hc1 x0 x1 x2 xs0 xs1).2.2.1 S512x128.size (by sl_kernel_rfl) y

/-- What scratch 1 holds after the point. -/
def sout0_C_1 (hc0 : ¬cond0_0 i) (hc1 : cond0_1 i)
    (x0 : Vec F S1x512x128 .f32) (x1 : Vec F S256x512 .bf16) (x2 : Vec F S1x512 .f32) (xs0 : Vec F S512x256 .bf16) (xs1 : Vec F S512x128 .f32) : Vec F S512x128 .f32 :=
  VS0_1.read (Elt F) (VS0_1.writes (Elt F) VS0_1.junk (kernelRun0_C c i arg1 harg1 arg2 harg2 arg3 harg3 arg4 harg4 arg5 harg5 arg6 harg6 hc0 hc1 x0 x1 x2 xs0 xs1).2.2.1)

end Body

/-- What a first point leaves: the output and the scratch. -/
def ptA (c : Dev nD) (t : Fin cfg0.N) (h0 : t.val % 50 = 0) (h1 : ¬t.val % 50 = 49)
    (x0 : Vec F S1x512x128 .f32) (x1 : Vec F S256x512 .bf16) (x2 : Vec F S1x512 .f32) : Vec F S512x128 .f32 × Vec F S512x256 .bf16 × Vec F S512x128 .f32 :=
  (out0_A_3 c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) (fun h => h1 ((hcond0_1 t).mp h)) x0 x1 x2,
    sout0_A_0 c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) (fun h => h1 ((hcond0_1 t).mp h)) x0 x1 x2,
    sout0_A_1 c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) (fun h => h1 ((hcond0_1 t).mp h)) x0 x1 x2)

/-- What a middle point leaves: the output and the scratch. -/
def ptB (c : Dev nD) (t : Fin cfg0.N) (h0 : ¬t.val % 50 = 0) (h1 : ¬t.val % 50 = 49)
    (x0 : Vec F S1x512x128 .f32) (x1 : Vec F S256x512 .bf16) (x2 : Vec F S1x512 .f32) (xs0 : Vec F S512x256 .bf16) (xs1 : Vec F S512x128 .f32) : Vec F S512x128 .f32 × Vec F S512x256 .bf16 × Vec F S512x128 .f32 :=
  (out0_B_3 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) x0 x1 x2 xs0 xs1,
    sout0_B_0 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) x0 x1 x2 xs0 xs1,
    sout0_B_1 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) x0 x1 x2 xs0 xs1)

/-- What a last point leaves: the output and the scratch. -/
def ptC (c : Dev nD) (t : Fin cfg0.N) (h0 : ¬t.val % 50 = 0) (h1 : t.val % 50 = 49)
    (x0 : Vec F S1x512x128 .f32) (x1 : Vec F S256x512 .bf16) (x2 : Vec F S1x512 .f32) (xs0 : Vec F S512x256 .bf16) (xs1 : Vec F S512x128 .f32) : Vec F S512x128 .f32 × Vec F S512x256 .bf16 × Vec F S512x128 .f32 :=
  (out0_C_3 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) x0 x1 x2 xs0 xs1,
    sout0_C_0 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) x0 x1 x2 xs0 xs1,
    sout0_C_1 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) x0 x1 x2 xs0 xs1)

variable (V : (c : Dev nD) → (b : Ref sig .tc) → Buf (Elt F) ((c : Thread nD τ).loc b))

/-- The output and the scratch after point `n`, by recursion on the points. -/
def outsAt0 (c : Dev nD) : (n : ℕ) → n < cfg0.N → Vec F S512x128 .f32 × Vec F S512x256 .bf16 × Vec F S512x128 .f32
  | 0, hn => ptA c ⟨0, hn⟩ (Nat.zero_mod _) (fun h => by (try dsimp only at h); omega) (iblk V c 0 ⟨0, hn⟩) (iblk V c 1 ⟨0, hn⟩) (iblk V c 2 ⟨0, hn⟩)
  | n + 1, hn =>
    if h0 : (n + 1) % 50 = 0 then
      if h1 : (n + 1) % 50 = 49 then False.elim (by omega)
      else ptA c ⟨n + 1, hn⟩ h0 h1 (iblk V c 0 ⟨n + 1, hn⟩) (iblk V c 1 ⟨n + 1, hn⟩) (iblk V c 2 ⟨n + 1, hn⟩)
    else
      if h1 : (n + 1) % 50 = 49 then
        ptC c ⟨n + 1, hn⟩ h0 h1 (iblk V c 0 ⟨n + 1, hn⟩) (iblk V c 1 ⟨n + 1, hn⟩) (iblk V c 2 ⟨n + 1, hn⟩) (outsAt0 c n (Nat.lt_of_succ_lt hn)).2.1 (outsAt0 c n (Nat.lt_of_succ_lt hn)).2.2
      else
        ptB c ⟨n + 1, hn⟩ h0 h1 (iblk V c 0 ⟨n + 1, hn⟩) (iblk V c 1 ⟨n + 1, hn⟩) (iblk V c 2 ⟨n + 1, hn⟩) (outsAt0 c n (Nat.lt_of_succ_lt hn)).2.1 (outsAt0 c n (Nat.lt_of_succ_lt hn)).2.2

/-- The recursion at a first point. -/
theorem outsAt0_A (c : Dev nD) (t : Fin cfg0.N) (h0 : t.val % 50 = 0) (h1 : ¬t.val % 50 = 49) :
    outsAt0 V c t.val t.isLt = ptA c t h0 h1 (iblk V c 0 t) (iblk V c 1 t) (iblk V c 2 t) := by
  obtain ⟨n, hn⟩ := t
  cases n with
  | zero => exact rfl
  | succ n => exact (dif_pos h0).trans ((dif_neg h1).trans rfl)

/-- The recursion at a middle point. -/
theorem outsAt0_B (c : Dev nD) (t : Fin cfg0.N) (h0 : ¬t.val % 50 = 0) (h1 : ¬t.val % 50 = 49) :
    outsAt0 V c t.val t.isLt = ptB c t h0 h1 (iblk V c 0 t) (iblk V c 1 t) (iblk V c 2 t) (outsAt0 V c (t.val - 1) (Nat.lt_of_le_of_lt (Nat.sub_le _ _) t.isLt)).2.1 (outsAt0 V c (t.val - 1) (Nat.lt_of_le_of_lt (Nat.sub_le _ _) t.isLt)).2.2 := by
  obtain ⟨n, hn⟩ := t
  cases n with
  | zero => exact absurd (Nat.zero_mod _) h0
  | succ n => exact (dif_neg h0).trans ((dif_neg h1).trans rfl)

/-- The recursion at a last point. -/
theorem outsAt0_C (c : Dev nD) (t : Fin cfg0.N) (h0 : ¬t.val % 50 = 0) (h1 : t.val % 50 = 49) :
    outsAt0 V c t.val t.isLt = ptC c t h0 h1 (iblk V c 0 t) (iblk V c 1 t) (iblk V c 2 t) (outsAt0 V c (t.val - 1) (Nat.lt_of_le_of_lt (Nat.sub_le _ _) t.isLt)).2.1 (outsAt0 V c (t.val - 1) (Nat.lt_of_le_of_lt (Nat.sub_le _ _) t.isLt)).2.2 := by
  obtain ⟨n, hn⟩ := t
  cases n with
  | zero => exact absurd (Nat.zero_mod _) h0
  | succ n => exact (dif_neg h0).trans ((dif_pos h1).trans rfl)

/-- The region's invariant: before the first point any scratch, afterwards what the point before left. -/
def PhiS (c : Dev nD) : (n : ℕ) → n ≤ cfg0.N → sProp 𝕄
  | 0, _ => iprop(iprop((∃ d, owns (c : Thread nD τ) scM0_0 fullShare d) ∗ (∃ d, owns (c : Thread nD τ) scM0_1 fullShare d)) ∗ rest c)
  | n + 1, hn => iprop(iprop(owns (c : Thread nD τ) scM0_0 fullShare ((outsAt0 V c n hn).2.1) ∗ owns (c : Thread nD τ) scM0_1 fullShare ((outsAt0 V c n hn).2.2)) ∗ rest c)

/-- Before the first point the scratch buffers hold anything. -/
theorem PhiS_zero (c : Dev nD) (n : ℕ) (h : n ≤ cfg0.N) (hz : n = 0) : PhiS V c n h = iprop(iprop((∃ d, owns (c : Thread nD τ) scM0_0 fullShare d) ∗ (∃ d, owns (c : Thread nD τ) scM0_1 fullShare d)) ∗ rest c) := by
  subst hz; rfl

/-- After a point the scratch buffers hold what that point leaves in them. -/
theorem PhiS_succ (c : Dev nD) (n : ℕ) (hn : n < cfg0.N) :
    PhiS V c (n + 1) hn = iprop(iprop(owns (c : Thread nD τ) scM0_0 fullShare ((outsAt0 V c n hn).2.1) ∗ owns (c : Thread nD τ) scM0_1 fullShare ((outsAt0 V c n hn).2.2)) ∗ rest c) := rfl

/-- Before a later point the scratch buffers hold what the point before left in them. -/
theorem PhiS_pos (c : Dev nD) (n : ℕ) (h : n ≤ cfg0.N) (hz : n ≠ 0) :
    PhiS V c n h = iprop(iprop(owns (c : Thread nD τ) scM0_0 fullShare ((outsAt0 V c (n - 1) (by omega)).2.1) ∗ owns (c : Thread nD τ) scM0_1 fullShare ((outsAt0 V c (n - 1) (by omega)).2.2)) ∗ rest c) := by
  cases n with
  | zero => exact absurd rfl hz
  | succ n => rfl

/-- The region's proof data: its arrays as found, the inputs left at their blocks, the output and scratch as `outsAt0`. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => (outsAt0 V c t.val t.isLt).1
  Φ t := PhiS V c t.val (Nat.le_of_lt_succ t.isLt)
  q _ := fullShare
  owed _ := 0

/-- The array behind a window starts as its contents when the call is reached. -/
theorem A_eq (c : Dev nD) (w : Fin cfg0.W) : (dat V c).A w = V c (Pipeline.arrRef spec0 w) := by
  dsimp only [dat]

/-- What is known before a point is the state of the scratch buffers there. -/
theorem PhiS_castSucc (c : Dev nD) (t : Fin cfg0.N) :
    (dat V c).Φ t.castSucc = PhiS V c t.val (Nat.le_of_lt t.isLt) := by
  dsimp only [dat]; exact Pipeline.Dat.Φ_castSucc (PhiS V c) t

/-- After a point, input window 0 still holds its block. -/
theorem after0_0 (c : Dev nD) (t : Fin cfg0.N) : (dat V c).after 0 t = iblk V c 0 t := by dsimp only [dat]
/-- After a point, input window 1 still holds its block. -/
theorem after0_1 (c : Dev nD) (t : Fin cfg0.N) : (dat V c).after 1 t = iblk V c 1 t := by dsimp only [dat]
/-- After a point, input window 2 still holds its block. -/
theorem after0_2 (c : Dev nD) (t : Fin cfg0.N) : (dat V c).after 2 t = iblk V c 2 t := by dsimp only [dat]
/-- After a point, window 3 holds that point's output. -/
theorem after0_3 (c : Dev nD) (t : Fin cfg0.N) : (dat V c).after 3 t = (outsAt0 V c t.val t.isLt).1 := by dsimp only [dat]

/-- Before a point, input window 0 holds its block. -/
theorem before0_0 (c : Dev nD) (t : Fin cfg0.N) (d) : (dat V c).before 0 t d = iblk V c 0 t :=
  ((dat V c).before_in_eq_fetched 0 rfl (fun _ => rfl) (fun _ _ _ => rfl) (fun t => by rw [after0_0]; unfold Dat.blockOf iblk; rw [A_eq]) t d).trans
    (by unfold Dat.fetched Dat.blockOf iblk; rw [A_eq]; try rfl)
/-- Before a point, input window 1 holds its block. -/
theorem before0_1 (c : Dev nD) (t : Fin cfg0.N) (d) : (dat V c).before 1 t d = iblk V c 1 t :=
  ((dat V c).before_in_eq_fetched 1 rfl (fun _ => rfl) (fun _ _ _ => rfl) (fun t => by rw [after0_1]; unfold Dat.blockOf iblk; rw [A_eq]) t d).trans
    (by unfold Dat.fetched Dat.blockOf iblk; rw [A_eq]; try rfl)
/-- Before a point, input window 2 holds its block. -/
theorem before0_2 (c : Dev nD) (t : Fin cfg0.N) (d) : (dat V c).before 2 t d = iblk V c 2 t :=
  ((dat V c).before_in_eq_fetched 2 rfl (fun _ => rfl) (fun _ _ _ => rfl) (fun t => by rw [after0_2]; unfold Dat.blockOf iblk; rw [A_eq]) t d).trans
    (by unfold Dat.fetched Dat.blockOf iblk; rw [A_eq]; try rfl)

/-- A point leaves the block of input window 0 as it was. -/
theorem leaves_0 (c : Dev nD) (t : Fin cfg0.N) : (dat V c).leavesExact 0 t = owns (c : Thread nD τ) (ms0_0 t) fullShare (iblk V c 0 t) := by
  unfold Dat.leavesExact; rw [show cfg0.idle 0 (grid0.coords t) = false from rfl, after0_0]
/-- A point leaves the block of input window 1 as it was. -/
theorem leaves_1 (c : Dev nD) (t : Fin cfg0.N) : (dat V c).leavesExact 1 t = owns (c : Thread nD τ) (ms0_1 t) fullShare (iblk V c 1 t) := by
  unfold Dat.leavesExact; rw [show cfg0.idle 1 (grid0.coords t) = false from rfl, after0_1]
/-- A point leaves the block of input window 2 as it was. -/
theorem leaves_2 (c : Dev nD) (t : Fin cfg0.N) : (dat V c).leavesExact 2 t = owns (c : Thread nD τ) (ms0_2 t) fullShare (iblk V c 2 t) := by
  unfold Dat.leavesExact; rw [show cfg0.idle 2 (grid0.coords t) = false from rfl, after0_2]

/-- What the body is called with at a point, window by window, and what it returns. -/
def bodyPre (c : Dev nD) (t : Fin cfg0.N) : sProp 𝕄 :=
  iprop((dat V c).Φ t.castSucc ∗ (dat V c).owesAt () t.castSucc
    ∗ (∃ d, owns (c : Thread nD τ) (ms0_0 t) fullShare ((dat V c).before 0 t d))
    ∗ (∃ d, owns (c : Thread nD τ) (ms0_1 t) fullShare ((dat V c).before 1 t d))
    ∗ (∃ d, owns (c : Thread nD τ) (ms0_2 t) fullShare ((dat V c).before 2 t d))
    ∗ (∃ d, owns (c : Thread nD τ) (ms0_3 t) fullShare ((dat V c).before 3 t d)))

def bodyPost (c : Dev nD) (t : Fin cfg0.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t)

set_option maxHeartbeats 4800000 in
/-- The body at a point, run from what is known before it, ends in what is known after it. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before0_0, before0_1, before0_2]
  rw [show (dat V c).owesAt () t.succ = (dat V c).owesAt () t.castSucc from rfl]
  rw [show (dat V c).Φ t.succ = PhiS V c (t.val + 1) t.isLt from rfl, PhiS_succ]
  rw [leaves_0, leaves_1, leaves_2]
  have hN : t.val < 50 := lt_of_lt_of_eq t.isLt (show cfg0.N = 50 from N_0)
  by_cases h0 : t.val % 50 = 0
  · by_cases h1 : t.val % 50 = 49
    · exfalso; omega
    · rw [Dat.leavesExact_idle (dat V c) 3 t (idleAt0_3_A t ((hcond0_0 t).mpr h0) (fun h => h1 ((hcond0_1 t).mp h))) (noFlush0_3_A t ((hcond0_0 t).mpr h0) (fun h => h1 ((hcond0_1 t).mp h)))]
      by_cases hz : t.val = 0
      · rw [PhiS_castSucc V c t, PhiS_zero V c _ _ hz]
        rw [outsAt0_A V c t h0 h1]
        unfold ptA sout0_A_0 sout0_A_1; (try dsimp only)
        iintro ⟨⟨⟨HS0, HS1⟩, Hg⟩, Ho, ⟨%d0, H0⟩, ⟨%d1, H1⟩, ⟨%d2, H2⟩, ⟨%d3, H3⟩⟩
        iapply ((kernelRun0_A c (grid0.coords t) _ _ _ _ _ _ _ _ _ _ _ _ ((hcond0_0 t).mpr h0) (fun h => h1 ((hcond0_1 t).mp h)) (iblk V c 0 t) (iblk V c 1 t) (iblk V c 2 t)).2.2.2 _ Set.univ _)
        isplitl [H0]; · iexact H0
        isplitl [H1]; · iexact H1
        isplitl [H2]; · iexact H2
        isplitl [H3]; · iexact H3
        isplitl [HS0]; · iexact HS0
        isplitl [HS1]; · iexact HS1
        iintro ⟨H0, H1, H2, H3, ⟨%es0, HS0⟩, ⟨%es1, HS1⟩⟩
        isplitl [HS0 HS1 Hg]
        · isplitl [HS0 HS1]
          · isplitl [HS0]
            · unfold owns; iexists _; isplitr
              swap; · iexact HS0
              ipureintro; exact View.read_writes_of_cover _ _ _ _ _ (scover0_A_0 c _ _ _ _ _ _ _ _ _ _ _ _ _ _ _ _ _ _)
            unfold owns; iexists _; isplitr
            swap; · iexact HS1
            ipureintro; exact View.read_writes_of_cover _ _ _ _ _ (scover0_A_1 c _ _ _ _ _ _ _ _ _ _ _ _ _ _ _ _ _ _)
          iexact Hg
        isplitl [Ho]; · iexact Ho
        isplitl [H0]; · iexact H0
        isplitl [H1]; · iexact H1
        isplitl [H2]; · iexact H2
        iexists _; iexact H3
      · exfalso; have hN : t.val < 50 := lt_of_lt_of_eq t.isLt (show cfg0.N = 50 from N_0); omega
  · by_cases h1 : t.val % 50 = 49
    · rw [show (dat V c).leavesExact 3 t = owns (c : Thread nD τ) (ms0_3 t) fullShare ((dat V c).after 3 t) from by
      unfold Dat.leavesExact; rw [liveAt0_3_C t (fun h => h0 ((hcond0_0 t).mp h)) ((hcond0_1 t).mpr h1)], after0_3]
      by_cases hz : t.val = 0
      · exfalso; have hN : t.val < 50 := lt_of_lt_of_eq t.isLt (show cfg0.N = 50 from N_0); omega
      · rw [PhiS_castSucc V c t, PhiS_pos V c _ _ hz]
        rw [outsAt0_C V c t h0 h1]
        unfold ptC out0_C_3 sout0_C_0 sout0_C_1; (try dsimp only)
        iintro ⟨⟨⟨HS0, HS1⟩, Hg⟩, Ho, ⟨%d0, H0⟩, ⟨%d1, H1⟩, ⟨%d2, H2⟩, ⟨%d3, H3⟩⟩
        iapply ((kernelRun0_C c (grid0.coords t) _ _ _ _ _ _ _ _ _ _ _ _ (fun h => h0 ((hcond0_0 t).mp h)) ((hcond0_1 t).mpr h1) (iblk V c 0 t) (iblk V c 1 t) (iblk V c 2 t) _ _).2.2.2 Set.univ _)
        isplitl [H0]; · iexact H0
        isplitl [H1]; · iexact H1
        isplitl [H2]; · iexact H2
        isplitl [H3]; · iexists _; iexact H3
        isplitl [HS0]; · iexact HS0
        isplitl [HS1]; · iexact HS1
        iintro ⟨H0, H1, H2, ⟨%e3, H3⟩, ⟨%es0, HS0⟩, ⟨%es1, HS1⟩⟩
        isplitl [HS0 HS1 Hg]
        · isplitl [HS0 HS1]
          · isplitl [HS0]
            · unfold owns; iexists _; isplitr
              swap; · iexact HS0
              ipureintro; exact View.read_writes_of_cover _ _ _ _ _ (scover0_C_0 c _ _ _ _ _ _ _ _ _ _ _ _ _ _ _ _ _ _ _ _)
            unfold owns; iexists _; isplitr
            swap; · iexact HS1
            ipureintro; exact View.read_writes_of_cover _ _ _ _ _ (scover0_C_1 c _ _ _ _ _ _ _ _ _ _ _ _ _ _ _ _ _ _ _ _)
          iexact Hg
        isplitl [Ho]; · iexact Ho
        isplitl [H0]; · iexact H0
        isplitl [H1]; · iexact H1
        isplitl [H2]; · iexact H2
        unfold owns; iexists _; isplitr
        swap; · iexact H3
        ipureintro; exact View.read_writes_of_cover _ _ _ _ _ (cover0_C_3 c _ _ _ _ _ _ _ _ _ _ _ _ _ _ _ _ _ _ _ _)
    · rw [Dat.leavesExact_idle (dat V c) 3 t (idleAt0_3_B t (fun h => h0 ((hcond0_0 t).mp h)) (fun h => h1 ((hcond0_1 t).mp h))) (noFlush0_3_B t (fun h => h0 ((hcond0_0 t).mp h)) (fun h => h1 ((hcond0_1 t).mp h)))]
      by_cases hz : t.val = 0
      · exfalso; have hN : t.val < 50 := lt_of_lt_of_eq t.isLt (show cfg0.N = 50 from N_0); omega
      · rw [PhiS_castSucc V c t, PhiS_pos V c _ _ hz]
        rw [outsAt0_B V c t h0 h1]
        unfold ptB sout0_B_0 sout0_B_1; (try dsimp only)
        iintro ⟨⟨⟨HS0, HS1⟩, Hg⟩, Ho, ⟨%d0, H0⟩, ⟨%d1, H1⟩, ⟨%d2, H2⟩, ⟨%d3, H3⟩⟩
        iapply ((kernelRun0_B c (grid0.coords t) _ _ _ _ _ _ _ _ _ _ _ _ (fun h => h0 ((hcond0_0 t).mp h)) (fun h => h1 ((hcond0_1 t).mp h)) (iblk V c 0 t) (iblk V c 1 t) (iblk V c 2 t) _ _).2.2.2 _ Set.univ _)
        isplitl [H0]; · iexact H0
        isplitl [H1]; · iexact H1
        isplitl [H2]; · iexact H2
        isplitl [H3]; · iexact H3
        isplitl [HS0]; · iexact HS0
        isplitl [HS1]; · iexact HS1
        iintro ⟨H0, H1, H2, H3, ⟨%es0, HS0⟩, ⟨%es1, HS1⟩⟩
        isplitl [HS0 HS1 Hg]
        · isplitl [HS0 HS1]
          · isplitl [HS0]
            · unfold owns; iexists _; isplitr
              swap; · iexact HS0
              ipureintro; exact View.read_writes_of_cover _ _ _ _ _ (scover0_B_0 c _ _ _ _ _ _ _ _ _ _ _ _ _ _ _ _ _ _ _ _)
            unfold owns; iexists _; isplitr
            swap; · iexact HS1
            ipureintro; exact View.read_writes_of_cover _ _ _ _ _ (scover0_B_1 c _ _ _ _ _ _ _ _ _ _ _ _ _ _ _ _ _ _ _ _)
          iexact Hg
        isplitl [Ho]; · iexact Ho
        isplitl [H0]; · iexact H0
        isplitl [H1]; · iexact H1
        isplitl [H2]; · iexact H2
        iexists _; iexact H3

/-- The call's code at a point is its body at that point. -/
theorem defs₀_row (t : Fin cfg0.N) :
    defs₀ (F := F) .tc cfg0.body (cfg0.bodyArgs t (cfg0.slots t)) = bodyAt0 t := by
  unfold defs₀; rw [Defs.onTc_tc]

/-- The body meets the pipeline's obligation at every point. -/
theorem body_obligation (c : Dev nD) : BodyObligation (dat (F := F) V c) (defs₀ (F := F)) Variants.none () Set.univ := fun t => by
  rw [bigSep_W0, bigSep_W0, defs₀_row]
  exact triple_restated (sound_body V c t) rfl .rfl fun _ => .rfl

/-- The entry invariant is the pipeline's, and the exit invariant gives it back. -/
theorem hin (c : Dev nD) : Pipeline.ΦA spec0 c ⊢ (dat V c).Φ 0 := by
  rw [show (dat V c).Φ 0 = PhiS V c 0 (Nat.zero_le _) from rfl, PhiS_zero V c 0 _ rfl]
  exact PhiA_in c

/-- What is known after the first point gives back the scratch buffers with some contents. -/
theorem Phi_out (c : Dev nD) (t : Fin (cfg0.N + 1)) (ht : t.val ≠ 0) : (dat V c).Φ t ⊢ Pipeline.ΦA spec0 c := by
  rw [show (dat V c).Φ t = PhiS V c t.val (Nat.le_of_lt_succ t.isLt) from rfl, PhiS_pos V c _ _ ht]
  iintro ⟨⟨HS0, HS1⟩, Hg⟩
  iapply (PhiA_out c)
  isplitl [HS0 HS1]
  · isplitl [HS0]
    · iexists _; iexact HS0
    iexists _; iexact HS1
  iexact Hg

/-- What is known at the end gives back the scratch buffers with some contents. -/
theorem hout (c : Dev nD) : (dat V c).Φ (Fin.last cfg0.N) ⊢ Pipeline.ΦA spec0 c :=
  Phi_out V c _ (by rw [Fin.val_last]; have : cfg0.N = 50 := N_0; omega)

end Cert.KernelIdeal.Lstm

end
-- ==== Proof.KernelIdeal.MemRuns.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelIdeal.Mem

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The condition of branch 0 of the body, from the grid coordinates. -/
abbrev cond0_0 (i : grid1.Coords) : Prop := (Scalar.cmpi .ne (Scalar.extui (Scalar.cmpi .eq (BitVec.ofNat 32 (i 0).val) 0#32)) 0#32) = 1#1
/-- It holds at the first point only. -/
theorem hcond0_0 : ∀ t : Fin cfg1.N, cond0_0 (grid1.coords t) ↔ t.val % 8 = 0 :=
  (fun t => by
    have ht : t.val < 8 := Nat.lt_of_lt_of_eq t.isLt N_1
    have e0 : (grid1.coords t 0).val = t.val / 1 % 8 := Pipeline.Grid.coords_val t 0 (by decide) rfl
    simp only [cond0_0, e0]
    word_cmp
   : ∀ t : Fin grid1.N, cond0_0 (grid1.coords t) ↔ t.val % 8 = 0)

/-- The condition of branch 1 of the body, from the grid coordinates. -/
abbrev cond0_1 (i : grid1.Coords) : Prop := k1_cond2 i = 1#1
/-- It holds at the last point only. -/
theorem hcond0_1 : ∀ t : Fin cfg1.N, cond0_1 (grid1.coords t) ↔ t.val % 8 = 7 :=
  (fun t => by
    have ht : t.val < 8 := Nat.lt_of_lt_of_eq t.isLt N_1
    have e0 : (grid1.coords t 0).val = t.val / 1 % 8 := Pipeline.Grid.coords_val t 0 (by decide) rfl
    simp only [cond0_1, k1_cond2, e0]
    word_cmp
   : ∀ t : Fin grid1.N, cond0_1 (grid1.coords t) ↔ t.val % 8 = 7)

/-- The output is idle before the last point, written back only there, and live at it. -/
theorem idleAt0_9_A : ∀ t : Fin cfg1.N, cond0_0 (grid1.coords t) → ¬cond0_1 (grid1.coords t) → cfg1.idle 9 (grid1.coords t) = true := by decide +kernel
/-- The output window is not written back at the first point. -/
theorem noFlush0_9_A : ∀ t : Fin cfg1.N, cond0_0 (grid1.coords t) → ¬cond0_1 (grid1.coords t) → (cfg1.win 9).flush t = false := by decide +kernel
/-- The output window is not touched at a middle point. -/
theorem idleAt0_9_B : ∀ t : Fin cfg1.N, ¬cond0_0 (grid1.coords t) → ¬cond0_1 (grid1.coords t) → cfg1.idle 9 (grid1.coords t) = true := by decide +kernel
/-- The output window is not written back at a middle point. -/
theorem noFlush0_9_B : ∀ t : Fin cfg1.N, ¬cond0_0 (grid1.coords t) → ¬cond0_1 (grid1.coords t) → (cfg1.win 9).flush t = false := by decide +kernel
/-- The output window is written at the last point. -/
theorem liveAt0_9_C : ∀ t : Fin cfg1.N, ¬cond0_0 (grid1.coords t) → cond0_1 (grid1.coords t) → cfg1.idle 9 (grid1.coords t) = false := by decide +kernel

/-- A staging buffer of the output, through which its contents are stated. -/
abbrev VO0_9 : View sig .tc .vmem S512x128 .f32 := (Memref.whole cc1_stg9_0 : Memref sig .tc .vmem S512x128 .f32).view
/-- Each window's current staging memref at a point, and that it is whole. -/
abbrev ms0_0 (t : Fin cfg1.N) : Memref sig .tc .vmem S512x64 .f32 := win1_0.stage (cfg1.slots t 0)
abbrev hs0_0 (t : Fin cfg1.N) : (ms0_0 t).IsWhole := hstage1_0 ((cfg1.slots t 0).cast nbuf1_0)
abbrev ms0_1 (t : Fin cfg1.N) : Memref sig .tc .vmem S64x64 .f32 := win1_1.stage (cfg1.slots t 1)
abbrev hs0_1 (t : Fin cfg1.N) : (ms0_1 t).IsWhole := hstage1_1 ((cfg1.slots t 1).cast nbuf1_1)
abbrev ms0_2 (t : Fin cfg1.N) : Memref sig .tc .vmem S1x64 .f32 := win1_2.stage (cfg1.slots t 2)
abbrev hs0_2 (t : Fin cfg1.N) : (ms0_2 t).IsWhole := hstage1_2 ((cfg1.slots t 2).cast nbuf1_2)
abbrev ms0_3 (t : Fin cfg1.N) : Memref sig .tc .vmem S64x8192 .f32 := win1_3.stage (cfg1.slots t 3)
abbrev hs0_3 (t : Fin cfg1.N) : (ms0_3 t).IsWhole := hstage1_3 ((cfg1.slots t 3).cast nbuf1_3)
abbrev ms0_4 (t : Fin cfg1.N) : Memref sig .tc .vmem S64x8192 .f32 := win1_4.stage (cfg1.slots t 4)
abbrev hs0_4 (t : Fin cfg1.N) : (ms0_4 t).IsWhole := hstage1_4 ((cfg1.slots t 4).cast nbuf1_4)
abbrev ms0_5 (t : Fin cfg1.N) : Memref sig .tc .vmem S512x128 .f32 := win1_5.stage (cfg1.slots t 5)
abbrev hs0_5 (t : Fin cfg1.N) : (ms0_5 t).IsWhole := hstage1_5 ((cfg1.slots t 5).cast nbuf1_5)
abbrev ms0_6 (t : Fin cfg1.N) : Memref sig .tc .vmem S128x128 .f32 := win1_6.stage (cfg1.slots t 6)
abbrev hs0_6 (t : Fin cfg1.N) : (ms0_6 t).IsWhole := hstage1_6 ((cfg1.slots t 6).cast nbuf1_6)
abbrev ms0_7 (t : Fin cfg1.N) : Memref sig .tc .vmem S64x128 .f32 := win1_7.stage (cfg1.slots t 7)
abbrev hs0_7 (t : Fin cfg1.N) : (ms0_7 t).IsWhole := hstage1_7 ((cfg1.slots t 7).cast nbuf1_7)
abbrev ms0_8 (t : Fin cfg1.N) : Memref sig .tc .vmem S1x128 .f32 := win1_8.stage (cfg1.slots t 8)
abbrev hs0_8 (t : Fin cfg1.N) : (ms0_8 t).IsWhole := hstage1_8 ((cfg1.slots t 8).cast nbuf1_8)
abbrev ms0_9 (t : Fin cfg1.N) : Memref sig .tc .vmem S512x128 .f32 := win1_9.stage (cfg1.slots t 9)
abbrev hs0_9 (t : Fin cfg1.N) : (ms0_9 t).IsWhole := hstage1_9 ((cfg1.slots t 9).cast nbuf1_9)
/-- The scratch buffers the kernel carries between points. -/
abbrev scM0_0 : Memref sig .tc .vmem S512x64 .fp8e4m3 := Memref.whole cc1_scratch0
abbrev scM0_1 : Memref sig .tc .vmem S128x8192 .bf16 := Memref.whole cc1_scratch1
abbrev scM0_2 : Memref sig .tc .vmem S512x128 .f32 := Memref.whole cc1_scratch2
abbrev VS0_0 : View sig .tc .vmem S512x64 .fp8e4m3 := scM0_0.view
abbrev VS0_1 : View sig .tc .vmem S128x8192 .bf16 := scM0_1.view
abbrev VS0_2 : View sig .tc .vmem S512x128 .f32 := scM0_2.view

/-- What a point of the region leaves alone: the other region's buffers and the generator, at some contents. -/
def rest (c : Dev nD) : sProp 𝕄 :=
  iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f)) ∗ (∃ r, prngReg c r))

/-- The region's invariant at entry, regrouped: its own scratch at some contents, then the rest. -/
theorem PhiA_in (c : Dev nD) :
    (Pipeline.ΦA spec1 c : sProp 𝕄) ⊢ iprop(iprop((∃ d, owns (c : Thread nD τ) scM0_0 fullShare d) ∗ (∃ d, owns (c : Thread nD τ) scM0_1 fullShare d) ∗ (∃ d, owns (c : Thread nD τ) scM0_2 fullShare d)) ∗ rest c) := by
  unfold Pipeline.ΦA rest; rw [scopedRest1_eq]; simp only [scM0_0, scM0_1, scM0_2, owns_whole]
  iintro ⟨⟨HO0, HO1, HO2, HO3, HO4, HO5, HO6, HS0, HS1, HS2⟩, Hg⟩
  isplitl [HS0 HS1 HS2]
  · isplitl [HS0]; · iexact HS0
    isplitl [HS1]; · iexact HS1
    iexact HS2
  isplitl [HO0 HO1 HO2 HO3 HO4 HO5 HO6]
  · isplitl [HO0]; · iexact HO0
    isplitl [HO1]; · iexact HO1
    isplitl [HO2]; · iexact HO2
    isplitl [HO3]; · iexact HO3
    isplitl [HO4]; · iexact HO4
    isplitl [HO5]; · iexact HO5
    iexact HO6
  iexact Hg

/-- And back. -/
theorem PhiA_out (c : Dev nD) :
    iprop(iprop((∃ d, owns (c : Thread nD τ) scM0_0 fullShare d) ∗ (∃ d, owns (c : Thread nD τ) scM0_1 fullShare d) ∗ (∃ d, owns (c : Thread nD τ) scM0_2 fullShare d)) ∗ rest c) ⊢ (Pipeline.ΦA spec1 c : sProp 𝕄) := by
  unfold Pipeline.ΦA rest; rw [scopedRest1_eq]; simp only [scM0_0, scM0_1, scM0_2, owns_whole]
  iintro ⟨⟨HS0, HS1, HS2⟩, ⟨HO0, HO1, HO2, HO3, HO4, HO5, HO6⟩, Hg⟩
  isplitl [HO0 HO1 HO2 HO3 HO4 HO5 HO6 HS0 HS1 HS2]
  · isplitl [HO0]; · iexact HO0
    isplitl [HO1]; · iexact HO1
    isplitl [HO2]; · iexact HO2
    isplitl [HO3]; · iexact HO3
    isplitl [HO4]; · iexact HO4
    isplitl [HO5]; · iexact HO5
    isplitl [HO6]; · iexact HO6
    isplitl [HS0]; · iexact HS0
    isplitl [HS1]; · iexact HS1
    iexact HS2
  iexact Hg

section Body
variable (c : Dev nD) (i : grid1.Coords) (arg1 : Memref sig .tc .vmem S512x64 .f32) (harg1 : arg1.IsWhole) (arg2 : Memref sig .tc .vmem S64x64 .f32) (harg2 : arg2.IsWhole) (arg3 : Memref sig .tc .vmem S1x64 .f32) (harg3 : arg3.IsWhole) (arg4 : Memref sig .tc .vmem S64x8192 .f32) (harg4 : arg4.IsWhole) (arg5 : Memref sig .tc .vmem S64x8192 .f32) (harg5 : arg5.IsWhole) (arg6 : Memref sig .tc .vmem S512x128 .f32) (harg6 : arg6.IsWhole) (arg7 : Memref sig .tc .vmem S128x128 .f32) (harg7 : arg7.IsWhole) (arg8 : Memref sig .tc .vmem S64x128 .f32) (harg8 : arg8.IsWhole) (arg9 : Memref sig .tc .vmem S1x128 .f32) (harg9 : arg9.IsWhole) (arg10 : Memref sig .tc .vmem S512x128 .f32) (harg10 : arg10.IsWhole) (arg11 : Memref sig .tc .vmem S512x64 .fp8e4m3) (harg11 : arg11.IsWhole) (arg12 : Memref sig .tc .vmem S128x8192 .bf16) (harg12 : arg12.IsWhole) (arg13 : Memref sig .tc .vmem S512x128 .f32) (harg13 : arg13.IsWhole)

set_option maxHeartbeats 1000000 in
/-- The body at a first point, the inputs at `x`, the scratch at anything: what it leaves, as the pieces its run finds. -/
def kernelRun0_A (hc0 : cond0_0 i) (hc1 : ¬cond0_1 i)
    (x0 : Vec F S512x64 .f32) (x1 : Vec F S64x64 .f32) (x2 : Vec F S1x64 .f32) (x3 : Vec F S64x8192 .f32) (x4 : Vec F S64x8192 .f32) (x5 : Vec F S512x128 .f32) (x6 : Vec F S128x128 .f32) (x7 : Vec F S64x128 .f32) (x8 : Vec F S1x128 .f32) :
    Σ' (L9 : List (View.Piece (Elt F) S512x128 .f32)), Σ' (LS0 : List (View.Piece (Elt F) S512x64 .fp8e4m3)), Σ' (LS1 : List (View.Piece (Elt F) S128x8192 .bf16)), { LS2 : List (View.Piece (Elt F) S512x128 .f32) //
      ∀ (xi9 : Vec F S512x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare xi9 ∗ (∃ d, owns (c : Thread nD τ) arg11 fullShare d) ∗ (∃ d, owns (c : Thread nD τ) arg12 fullShare d) ∗ (∃ d, owns (c : Thread nD τ) arg13 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare xi9 ∗ (∃ f, arg11.view.loc (c : Thread nD τ) ↦[arg11.view.set]{fullShare} arg11.view.writes (Elt F) f LS0) ∗ (∃ f, arg12.view.loc (c : Thread nD τ) ↦[arg12.view.set]{fullShare} arg12.view.writes (Elt F) f LS1) ∗ (∃ f, arg13.view.loc (c : Thread nD τ) ↦[arg13.view.set]{fullShare} arg13.view.writes (Elt F) f LS2)) -∗ K ⟨⟩))
          ⊢ wp frame (wpE (defs₀ (F := F)) Variants.none c none) E (cc1__mem_read_kernel i arg1 harg1 arg2 harg2 arg3 harg3 arg4 harg4 arg5 harg5 arg6 harg6 arg7 harg7 arg8 harg8 arg9 harg9 arg10 harg10 arg11 harg11 arg12 harg12 arg13 harg13) K } := by
  refine ⟨[], ?_, ?_, ?_, fun xi9 E K => ?run⟩
  case run =>
    simp only [cc1__mem_read_kernel_eq_skeleton]; unfold cc1__mem_read_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%ds0, %fs0, -, HS0⟩, ⟨%ds1, %fs1, -, HS1⟩, ⟨%ds2, %fs2, -, HS2⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [HS0]; · iexists _; iexact HS0
    isplitl [HS1]; · iexists _; iexact HS1
    iexists _; iexact HS2

set_option maxHeartbeats 1200000 in
/-- The body at a middle point, the inputs at `x`, the scratch at `xs`: what it leaves, as the pieces its run finds. -/
def kernelRun0_B (hc0 : ¬cond0_0 i) (hc1 : ¬cond0_1 i)
    (x0 : Vec F S512x64 .f32) (x1 : Vec F S64x64 .f32) (x2 : Vec F S1x64 .f32) (x3 : Vec F S64x8192 .f32) (x4 : Vec F S64x8192 .f32) (x5 : Vec F S512x128 .f32) (x6 : Vec F S128x128 .f32) (x7 : Vec F S64x128 .f32) (x8 : Vec F S1x128 .f32) (xs0 : Vec F S512x64 .fp8e4m3) (xs1 : Vec F S128x8192 .bf16) (xs2 : Vec F S512x128 .f32) :
    Σ' (L9 : List (View.Piece (Elt F) S512x128 .f32)), Σ' (LS0 : List (View.Piece (Elt F) S512x64 .fp8e4m3)), Σ' (LS1 : List (View.Piece (Elt F) S128x8192 .bf16)), { LS2 : List (View.Piece (Elt F) S512x128 .f32) //
      ∀ (xi9 : Vec F S512x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare xi9 ∗ owns (c : Thread nD τ) arg11 fullShare xs0 ∗ owns (c : Thread nD τ) arg12 fullShare xs1 ∗ owns (c : Thread nD τ) arg13 fullShare xs2
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare xi9 ∗ owns (c : Thread nD τ) arg11 fullShare xs0 ∗ (arg12.view.loc (c : Thread nD τ) ↦[arg12.view.set]{fullShare} arg12.view.writes (Elt F) (harg12.unread xs1) LS1) ∗ (∃ f, arg13.view.loc (c : Thread nD τ) ↦[arg13.view.set]{fullShare} arg13.view.writes (Elt F) f LS2)) -∗ K ⟨⟩))
          ⊢ wp frame (wpE (defs₀ (F := F)) Variants.none c none) E (cc1__mem_read_kernel i arg1 harg1 arg2 harg2 arg3 harg3 arg4 harg4 arg5 harg5 arg6 harg6 arg7 harg7 arg8 harg8 arg9 harg9 arg10 harg10 arg11 harg11 arg12 harg12 arg13 harg13) K } := by
  refine ⟨[], [], ?_, ?_, fun xi9 E K => ?run⟩
  case run =>
    simp only [cc1__mem_read_kernel_eq_skeleton]; unfold cc1__mem_read_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%fs0, %hfs0, HS0⟩, ⟨%fs1, %hfs1, HS1⟩, ⟨%fs2, %hfs2, HS2⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hfs0; obtain rfl := harg12.eq_unread hfs1; obtain rfl := harg13.eq_unread hfs2
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [HS0]
    · iexists _; isplitr; · ipureintro; exact harg11.read_unread _
      iexact HS0
    isplitl [HS1]; · iexact HS1
    iexists _; iexact HS2

set_option maxHeartbeats 1200000 in
/-- The body at a last point, the inputs at `x`, the scratch at `xs`: what it leaves, as the pieces its run finds. -/
def kernelRun0_C (hc0 : ¬cond0_0 i) (hc1 : cond0_1 i)
    (x0 : Vec F S512x64 .f32) (x1 : Vec F S64x64 .f32) (x2 : Vec F S1x64 .f32) (x3 : Vec F S64x8192 .f32) (x4 : Vec F S64x8192 .f32) (x5 : Vec F S512x128 .f32) (x6 : Vec F S128x128 .f32) (x7 : Vec F S64x128 .f32) (x8 : Vec F S1x128 .f32) (xs0 : Vec F S512x64 .fp8e4m3) (xs1 : Vec F S128x8192 .bf16) (xs2 : Vec F S512x128 .f32) :
    Σ' (L9 : List (View.Piece (Elt F) S512x128 .f32)), Σ' (LS0 : List (View.Piece (Elt F) S512x64 .fp8e4m3)), Σ' (LS1 : List (View.Piece (Elt F) S128x8192 .bf16)), { LS2 : List (View.Piece (Elt F) S512x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ owns (c : Thread nD τ) arg11 fullShare xs0 ∗ owns (c : Thread nD τ) arg12 fullShare xs1 ∗ owns (c : Thread nD τ) arg13 fullShare xs2
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ f, arg10.view.loc (c : Thread nD τ) ↦[arg10.view.set]{fullShare} arg10.view.writes (Elt F) f L9) ∗ owns (c : Thread nD τ) arg11 fullShare xs0 ∗ (arg12.view.loc (c : Thread nD τ) ↦[arg12.view.set]{fullShare} arg12.view.writes (Elt F) (harg12.unread xs1) LS1) ∗ (∃ f, arg13.view.loc (c : Thread nD τ) ↦[arg13.view.set]{fullShare} arg13.view.writes (Elt F) f LS2)) -∗ K ⟨⟩))
          ⊢ wp frame (wpE (defs₀ (F := F)) Variants.none c none) E (cc1__mem_read_kernel i arg1 harg1 arg2 harg2 arg3 harg3 arg4 harg4 arg5 harg5 arg6 harg6 arg7 harg7 arg8 harg8 arg9 harg9 arg10 harg10 arg11 harg11 arg12 harg12 arg13 harg13) K } := by
  refine ⟨?_, [], ?_, ?_, fun E K => ?run⟩
  case run =>
    simp only [cc1__mem_read_kernel_eq_skeleton]; unfold cc1__mem_read_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%fs0, %hfs0, HS0⟩, ⟨%fs1, %hfs1, HS1⟩, ⟨%fs2, %hfs2, HS2⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg11.eq_unread hfs0; obtain rfl := harg12.eq_unread hfs1; obtain rfl := harg13.eq_unread hfs2
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]; · iexists _; iexact H9
    isplitl [HS0]
    · iexists _; isplitr; · ipureintro; exact harg11.read_unread _
      iexact HS0
    isplitl [HS1]; · iexact HS1
    iexists _; iexact HS2

end Body

end Cert.KernelIdeal.Mem

end
-- ==== Proof.KernelIdeal.MemDat.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp
public import proofs.«01_k».proof.Proof.KernelIdeal.MemRuns

@[expose] public section

set_option maxRecDepth 16384

noncomputable section

namespace Cert.KernelIdeal.Mem

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

section Body
variable (c : Dev nD) (i : grid1.Coords) (arg1 : Memref sig .tc .vmem S512x64 .f32) (harg1 : arg1.IsWhole) (arg2 : Memref sig .tc .vmem S64x64 .f32) (harg2 : arg2.IsWhole) (arg3 : Memref sig .tc .vmem S1x64 .f32) (harg3 : arg3.IsWhole) (arg4 : Memref sig .tc .vmem S64x8192 .f32) (harg4 : arg4.IsWhole) (arg5 : Memref sig .tc .vmem S64x8192 .f32) (harg5 : arg5.IsWhole) (arg6 : Memref sig .tc .vmem S512x128 .f32) (harg6 : arg6.IsWhole) (arg7 : Memref sig .tc .vmem S128x128 .f32) (harg7 : arg7.IsWhole) (arg8 : Memref sig .tc .vmem S64x128 .f32) (harg8 : arg8.IsWhole) (arg9 : Memref sig .tc .vmem S1x128 .f32) (harg9 : arg9.IsWhole) (arg10 : Memref sig .tc .vmem S512x128 .f32) (harg10 : arg10.IsWhole) (arg11 : Memref sig .tc .vmem S512x64 .fp8e4m3) (harg11 : arg11.IsWhole) (arg12 : Memref sig .tc .vmem S128x8192 .bf16) (harg12 : arg12.IsWhole) (arg13 : Memref sig .tc .vmem S512x128 .f32) (harg13 : arg13.IsWhole)

/-- What the output holds after the point (a placeholder where it is idle). -/
def out0_A_9 (hc0 : cond0_0 i) (hc1 : ¬cond0_1 i)
    (x0 : Vec F S512x64 .f32) (x1 : Vec F S64x64 .f32) (x2 : Vec F S1x64 .f32) (x3 : Vec F S64x8192 .f32) (x4 : Vec F S64x8192 .f32) (x5 : Vec F S512x128 .f32) (x6 : Vec F S128x128 .f32) (x7 : Vec F S64x128 .f32) (x8 : Vec F S1x128 .f32) : Vec F S512x128 .f32 :=
  VO0_9.read (Elt F) (VO0_9.writes (Elt F) VO0_9.junk (kernelRun0_A c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8).1)

/-- The pieces cover scratch 0. -/
theorem scover0_A_0 (hc0 : cond0_0 i) (hc1 : ¬cond0_1 i)
    (x0 : Vec F S512x64 .f32) (x1 : Vec F S64x64 .f32) (x2 : Vec F S1x64 .f32) (x3 : Vec F S64x8192 .f32) (x4 : Vec F S64x8192 .f32) (x5 : Vec F S512x128 .f32) (x6 : Vec F S128x128 .f32) (x7 : Vec F S64x128 .f32) (x8 : Vec F S1x128 .f32) (y : S512x64.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8).2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8).2.1 S512x64.size (by sl_kernel_rfl) y

/-- What scratch 0 holds after the point. -/
def sout0_A_0 (hc0 : cond0_0 i) (hc1 : ¬cond0_1 i)
    (x0 : Vec F S512x64 .f32) (x1 : Vec F S64x64 .f32) (x2 : Vec F S1x64 .f32) (x3 : Vec F S64x8192 .f32) (x4 : Vec F S64x8192 .f32) (x5 : Vec F S512x128 .f32) (x6 : Vec F S128x128 .f32) (x7 : Vec F S64x128 .f32) (x8 : Vec F S1x128 .f32) : Vec F S512x64 .fp8e4m3 :=
  VS0_0.read (Elt F) (VS0_0.writes (Elt F) VS0_0.junk (kernelRun0_A c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8).2.1)

/-- The pieces cover scratch 1. -/
theorem scover0_A_1 (hc0 : cond0_0 i) (hc1 : ¬cond0_1 i)
    (x0 : Vec F S512x64 .f32) (x1 : Vec F S64x64 .f32) (x2 : Vec F S1x64 .f32) (x3 : Vec F S64x8192 .f32) (x4 : Vec F S64x8192 .f32) (x5 : Vec F S512x128 .f32) (x6 : Vec F S128x128 .f32) (x7 : Vec F S64x128 .f32) (x8 : Vec F S1x128 .f32) (y : S128x8192.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8).2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8).2.2.1 S64x8192.size (by sl_kernel_rfl) y

/-- What scratch 1 holds after the point. -/
def sout0_A_1 (hc0 : cond0_0 i) (hc1 : ¬cond0_1 i)
    (x0 : Vec F S512x64 .f32) (x1 : Vec F S64x64 .f32) (x2 : Vec F S1x64 .f32) (x3 : Vec F S64x8192 .f32) (x4 : Vec F S64x8192 .f32) (x5 : Vec F S512x128 .f32) (x6 : Vec F S128x128 .f32) (x7 : Vec F S64x128 .f32) (x8 : Vec F S1x128 .f32) : Vec F S128x8192 .bf16 :=
  VS0_1.read (Elt F) (VS0_1.writes (Elt F) VS0_1.junk (kernelRun0_A c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8).2.2.1)

/-- The pieces cover scratch 2. -/
theorem scover0_A_2 (hc0 : cond0_0 i) (hc1 : ¬cond0_1 i)
    (x0 : Vec F S512x64 .f32) (x1 : Vec F S64x64 .f32) (x2 : Vec F S1x64 .f32) (x3 : Vec F S64x8192 .f32) (x4 : Vec F S64x8192 .f32) (x5 : Vec F S512x128 .f32) (x6 : Vec F S128x128 .f32) (x7 : Vec F S64x128 .f32) (x8 : Vec F S1x128 .f32) (y : S512x128.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8).2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8).2.2.2.1 S512x128.size (by sl_kernel_rfl) y

/-- What scratch 2 holds after the point. -/
def sout0_A_2 (hc0 : cond0_0 i) (hc1 : ¬cond0_1 i)
    (x0 : Vec F S512x64 .f32) (x1 : Vec F S64x64 .f32) (x2 : Vec F S1x64 .f32) (x3 : Vec F S64x8192 .f32) (x4 : Vec F S64x8192 .f32) (x5 : Vec F S512x128 .f32) (x6 : Vec F S128x128 .f32) (x7 : Vec F S64x128 .f32) (x8 : Vec F S1x128 .f32) : Vec F S512x128 .f32 :=
  VS0_2.read (Elt F) (VS0_2.writes (Elt F) VS0_2.junk (kernelRun0_A c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8).2.2.2.1)

/-- What the output holds after the point (a placeholder where it is idle). -/
def out0_B_9 (hc0 : ¬cond0_0 i) (hc1 : ¬cond0_1 i)
    (x0 : Vec F S512x64 .f32) (x1 : Vec F S64x64 .f32) (x2 : Vec F S1x64 .f32) (x3 : Vec F S64x8192 .f32) (x4 : Vec F S64x8192 .f32) (x5 : Vec F S512x128 .f32) (x6 : Vec F S128x128 .f32) (x7 : Vec F S64x128 .f32) (x8 : Vec F S1x128 .f32) (xs0 : Vec F S512x64 .fp8e4m3) (xs1 : Vec F S128x8192 .bf16) (xs2 : Vec F S512x128 .f32) : Vec F S512x128 .f32 :=
  VO0_9.read (Elt F) (VO0_9.writes (Elt F) VO0_9.junk (kernelRun0_B c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs0 xs1 xs2).1)

/-- What scratch 1 holds after the point. -/
def sout0_B_1 (hc0 : ¬cond0_0 i) (hc1 : ¬cond0_1 i)
    (x0 : Vec F S512x64 .f32) (x1 : Vec F S64x64 .f32) (x2 : Vec F S1x64 .f32) (x3 : Vec F S64x8192 .f32) (x4 : Vec F S64x8192 .f32) (x5 : Vec F S512x128 .f32) (x6 : Vec F S128x128 .f32) (x7 : Vec F S64x128 .f32) (x8 : Vec F S1x128 .f32) (xs0 : Vec F S512x64 .fp8e4m3) (xs1 : Vec F S128x8192 .bf16) (xs2 : Vec F S512x128 .f32) : Vec F S128x8192 .bf16 :=
  arg12.view.read (Elt F) (arg12.view.writes (Elt F) (harg12.unread xs1) (kernelRun0_B c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs0 xs1 xs2).2.2.1)

/-- The pieces cover scratch 2. -/
theorem scover0_B_2 (hc0 : ¬cond0_0 i) (hc1 : ¬cond0_1 i)
    (x0 : Vec F S512x64 .f32) (x1 : Vec F S64x64 .f32) (x2 : Vec F S1x64 .f32) (x3 : Vec F S64x8192 .f32) (x4 : Vec F S64x8192 .f32) (x5 : Vec F S512x128 .f32) (x6 : Vec F S128x128 .f32) (x7 : Vec F S64x128 .f32) (x8 : Vec F S1x128 .f32) (xs0 : Vec F S512x64 .fp8e4m3) (xs1 : Vec F S128x8192 .bf16) (xs2 : Vec F S512x128 .f32) (y : S512x128.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs0 xs1 xs2).2.2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs0 xs1 xs2).2.2.2.1 S512x128.size (by sl_kernel_rfl) y

/-- What scratch 2 holds after the point. -/
def sout0_B_2 (hc0 : ¬cond0_0 i) (hc1 : ¬cond0_1 i)
    (x0 : Vec F S512x64 .f32) (x1 : Vec F S64x64 .f32) (x2 : Vec F S1x64 .f32) (x3 : Vec F S64x8192 .f32) (x4 : Vec F S64x8192 .f32) (x5 : Vec F S512x128 .f32) (x6 : Vec F S128x128 .f32) (x7 : Vec F S64x128 .f32) (x8 : Vec F S1x128 .f32) (xs0 : Vec F S512x64 .fp8e4m3) (xs1 : Vec F S128x8192 .bf16) (xs2 : Vec F S512x128 .f32) : Vec F S512x128 .f32 :=
  VS0_2.read (Elt F) (VS0_2.writes (Elt F) VS0_2.junk (kernelRun0_B c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs0 xs1 xs2).2.2.2.1)

/-- The last point's pieces cover the output. -/
theorem cover0_C_9 (hc0 : ¬cond0_0 i) (hc1 : cond0_1 i)
    (x0 : Vec F S512x64 .f32) (x1 : Vec F S64x64 .f32) (x2 : Vec F S1x64 .f32) (x3 : Vec F S64x8192 .f32) (x4 : Vec F S64x8192 .f32) (x5 : Vec F S512x128 .f32) (x6 : Vec F S128x128 .f32) (x7 : Vec F S64x128 .f32) (x8 : Vec F S1x128 .f32) (xs0 : Vec F S512x64 .fp8e4m3) (xs1 : Vec F S128x8192 .bf16) (xs2 : Vec F S512x128 .f32) (y : S512x128.Idx) :
    ∃ pc ∈ (kernelRun0_C c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs0 xs1 xs2).1, y ∈ pc.1.set :=
  View.cover_of_tiledL (kernelRun0_C c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs0 xs1 xs2).1 S512x128.size (by sl_kernel_rfl) y

/-- What the output holds after the point (a placeholder where it is idle). -/
def out0_C_9 (hc0 : ¬cond0_0 i) (hc1 : cond0_1 i)
    (x0 : Vec F S512x64 .f32) (x1 : Vec F S64x64 .f32) (x2 : Vec F S1x64 .f32) (x3 : Vec F S64x8192 .f32) (x4 : Vec F S64x8192 .f32) (x5 : Vec F S512x128 .f32) (x6 : Vec F S128x128 .f32) (x7 : Vec F S64x128 .f32) (x8 : Vec F S1x128 .f32) (xs0 : Vec F S512x64 .fp8e4m3) (xs1 : Vec F S128x8192 .bf16) (xs2 : Vec F S512x128 .f32) : Vec F S512x128 .f32 :=
  VO0_9.read (Elt F) (VO0_9.writes (Elt F) VO0_9.junk (kernelRun0_C c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs0 xs1 xs2).1)

/-- What scratch 1 holds after the point. -/
def sout0_C_1 (hc0 : ¬cond0_0 i) (hc1 : cond0_1 i)
    (x0 : Vec F S512x64 .f32) (x1 : Vec F S64x64 .f32) (x2 : Vec F S1x64 .f32) (x3 : Vec F S64x8192 .f32) (x4 : Vec F S64x8192 .f32) (x5 : Vec F S512x128 .f32) (x6 : Vec F S128x128 .f32) (x7 : Vec F S64x128 .f32) (x8 : Vec F S1x128 .f32) (xs0 : Vec F S512x64 .fp8e4m3) (xs1 : Vec F S128x8192 .bf16) (xs2 : Vec F S512x128 .f32) : Vec F S128x8192 .bf16 :=
  arg12.view.read (Elt F) (arg12.view.writes (Elt F) (harg12.unread xs1) (kernelRun0_C c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs0 xs1 xs2).2.2.1)

/-- The pieces cover scratch 2. -/
theorem scover0_C_2 (hc0 : ¬cond0_0 i) (hc1 : cond0_1 i)
    (x0 : Vec F S512x64 .f32) (x1 : Vec F S64x64 .f32) (x2 : Vec F S1x64 .f32) (x3 : Vec F S64x8192 .f32) (x4 : Vec F S64x8192 .f32) (x5 : Vec F S512x128 .f32) (x6 : Vec F S128x128 .f32) (x7 : Vec F S64x128 .f32) (x8 : Vec F S1x128 .f32) (xs0 : Vec F S512x64 .fp8e4m3) (xs1 : Vec F S128x8192 .bf16) (xs2 : Vec F S512x128 .f32) (y : S512x128.Idx) :
    ∃ pc ∈ (kernelRun0_C c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs0 xs1 xs2).2.2.2.1, y ∈ pc.1.set :=
  View.cover_of_tiledL (kernelRun0_C c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs0 xs1 xs2).2.2.2.1 S512x128.size (by sl_kernel_rfl) y

/-- What scratch 2 holds after the point. -/
def sout0_C_2 (hc0 : ¬cond0_0 i) (hc1 : cond0_1 i)
    (x0 : Vec F S512x64 .f32) (x1 : Vec F S64x64 .f32) (x2 : Vec F S1x64 .f32) (x3 : Vec F S64x8192 .f32) (x4 : Vec F S64x8192 .f32) (x5 : Vec F S512x128 .f32) (x6 : Vec F S128x128 .f32) (x7 : Vec F S64x128 .f32) (x8 : Vec F S1x128 .f32) (xs0 : Vec F S512x64 .fp8e4m3) (xs1 : Vec F S128x8192 .bf16) (xs2 : Vec F S512x128 .f32) : Vec F S512x128 .f32 :=
  VS0_2.read (Elt F) (VS0_2.writes (Elt F) VS0_2.junk (kernelRun0_C c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs0 xs1 xs2).2.2.2.1)

end Body

/-- What a first point leaves: the output and the scratch. -/
def ptA (c : Dev nD) (t : Fin cfg1.N) (h0 : t.val % 8 = 0) (h1 : ¬t.val % 8 = 7)
    (x0 : Vec F S512x64 .f32) (x1 : Vec F S64x64 .f32) (x2 : Vec F S1x64 .f32) (x3 : Vec F S64x8192 .f32) (x4 : Vec F S64x8192 .f32) (x5 : Vec F S512x128 .f32) (x6 : Vec F S128x128 .f32) (x7 : Vec F S64x128 .f32) (x8 : Vec F S1x128 .f32) : Vec F S512x128 .f32 × Vec F S512x64 .fp8e4m3 × Vec F S128x8192 .bf16 × Vec F S512x128 .f32 :=
  (out0_A_9 c (grid1.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) ((hcond0_0 t).mpr h0) (fun h => h1 ((hcond0_1 t).mp h)) x0 x1 x2 x3 x4 x5 x6 x7 x8,
    sout0_A_0 c (grid1.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) ((hcond0_0 t).mpr h0) (fun h => h1 ((hcond0_1 t).mp h)) x0 x1 x2 x3 x4 x5 x6 x7 x8,
    sout0_A_1 c (grid1.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) ((hcond0_0 t).mpr h0) (fun h => h1 ((hcond0_1 t).mp h)) x0 x1 x2 x3 x4 x5 x6 x7 x8,
    sout0_A_2 c (grid1.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) ((hcond0_0 t).mpr h0) (fun h => h1 ((hcond0_1 t).mp h)) x0 x1 x2 x3 x4 x5 x6 x7 x8)

/-- What a middle point leaves: the output and the scratch. -/
def ptB (c : Dev nD) (t : Fin cfg1.N) (h0 : ¬t.val % 8 = 0) (h1 : ¬t.val % 8 = 7)
    (x0 : Vec F S512x64 .f32) (x1 : Vec F S64x64 .f32) (x2 : Vec F S1x64 .f32) (x3 : Vec F S64x8192 .f32) (x4 : Vec F S64x8192 .f32) (x5 : Vec F S512x128 .f32) (x6 : Vec F S128x128 .f32) (x7 : Vec F S64x128 .f32) (x8 : Vec F S1x128 .f32) (xs0 : Vec F S512x64 .fp8e4m3) (xs1 : Vec F S128x8192 .bf16) (xs2 : Vec F S512x128 .f32) : Vec F S512x128 .f32 × Vec F S512x64 .fp8e4m3 × Vec F S128x8192 .bf16 × Vec F S512x128 .f32 :=
  (out0_B_9 c (grid1.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) (fun h => h0 ((hcond0_0 t).mp h)) (fun h => h1 ((hcond0_1 t).mp h)) x0 x1 x2 x3 x4 x5 x6 x7 x8 xs0 xs1 xs2,
    xs0,
    sout0_B_1 c (grid1.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) (fun h => h0 ((hcond0_0 t).mp h)) (fun h => h1 ((hcond0_1 t).mp h)) x0 x1 x2 x3 x4 x5 x6 x7 x8 xs0 xs1 xs2,
    sout0_B_2 c (grid1.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) (fun h => h0 ((hcond0_0 t).mp h)) (fun h => h1 ((hcond0_1 t).mp h)) x0 x1 x2 x3 x4 x5 x6 x7 x8 xs0 xs1 xs2)

/-- What a last point leaves: the output and the scratch. -/
def ptC (c : Dev nD) (t : Fin cfg1.N) (h0 : ¬t.val % 8 = 0) (h1 : t.val % 8 = 7)
    (x0 : Vec F S512x64 .f32) (x1 : Vec F S64x64 .f32) (x2 : Vec F S1x64 .f32) (x3 : Vec F S64x8192 .f32) (x4 : Vec F S64x8192 .f32) (x5 : Vec F S512x128 .f32) (x6 : Vec F S128x128 .f32) (x7 : Vec F S64x128 .f32) (x8 : Vec F S1x128 .f32) (xs0 : Vec F S512x64 .fp8e4m3) (xs1 : Vec F S128x8192 .bf16) (xs2 : Vec F S512x128 .f32) : Vec F S512x128 .f32 × Vec F S512x64 .fp8e4m3 × Vec F S128x8192 .bf16 × Vec F S512x128 .f32 :=
  (out0_C_9 c (grid1.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) (fun h => h0 ((hcond0_0 t).mp h)) ((hcond0_1 t).mpr h1) x0 x1 x2 x3 x4 x5 x6 x7 x8 xs0 xs1 xs2,
    xs0,
    sout0_C_1 c (grid1.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) (fun h => h0 ((hcond0_0 t).mp h)) ((hcond0_1 t).mpr h1) x0 x1 x2 x3 x4 x5 x6 x7 x8 xs0 xs1 xs2,
    sout0_C_2 c (grid1.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) (fun h => h0 ((hcond0_0 t).mp h)) ((hcond0_1 t).mpr h1) x0 x1 x2 x3 x4 x5 x6 x7 x8 xs0 xs1 xs2)

variable (V : (c : Dev nD) → (b : Ref sig .tc) → Buf (Elt F) ((c : Thread nD τ).loc b))

/-- The output and the scratch after point `n`, by recursion on the points. -/
def outsAt0 (c : Dev nD) : (n : ℕ) → n < cfg1.N → Vec F S512x128 .f32 × Vec F S512x64 .fp8e4m3 × Vec F S128x8192 .bf16 × Vec F S512x128 .f32
  | 0, hn => ptA c ⟨0, hn⟩ (Nat.zero_mod _) (fun h => by (try dsimp only at h); omega) (iblk V c 0 ⟨0, hn⟩) (iblk V c 1 ⟨0, hn⟩) (iblk V c 2 ⟨0, hn⟩) (iblk V c 3 ⟨0, hn⟩) (iblk V c 4 ⟨0, hn⟩) (iblk V c 5 ⟨0, hn⟩) (iblk V c 6 ⟨0, hn⟩) (iblk V c 7 ⟨0, hn⟩) (iblk V c 8 ⟨0, hn⟩)
  | n + 1, hn =>
    if h0 : (n + 1) % 8 = 0 then
      if h1 : (n + 1) % 8 = 7 then False.elim (by omega)
      else ptA c ⟨n + 1, hn⟩ h0 h1 (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩) (iblk V c 6 ⟨n + 1, hn⟩) (iblk V c 7 ⟨n + 1, hn⟩) (iblk V c 8 ⟨n + 1, hn⟩)
    else
      if h1 : (n + 1) % 8 = 7 then
        ptC c ⟨n + 1, hn⟩ h0 h1 (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩) (iblk V c 6 ⟨n + 1, hn⟩) (iblk V c 7 ⟨n + 1, hn⟩) (iblk V c 8 ⟨n + 1, hn⟩) (outsAt0 c n (Nat.lt_of_succ_lt hn)).2.1 (outsAt0 c n (Nat.lt_of_succ_lt hn)).2.2.1 (outsAt0 c n (Nat.lt_of_succ_lt hn)).2.2.2
      else
        ptB c ⟨n + 1, hn⟩ h0 h1 (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩) (iblk V c 6 ⟨n + 1, hn⟩) (iblk V c 7 ⟨n + 1, hn⟩) (iblk V c 8 ⟨n + 1, hn⟩) (outsAt0 c n (Nat.lt_of_succ_lt hn)).2.1 (outsAt0 c n (Nat.lt_of_succ_lt hn)).2.2.1 (outsAt0 c n (Nat.lt_of_succ_lt hn)).2.2.2

/-- The recursion at a first point. -/
theorem outsAt0_A (c : Dev nD) (t : Fin cfg1.N) (h0 : t.val % 8 = 0) (h1 : ¬t.val % 8 = 7) :
    outsAt0 V c t.val t.isLt = ptA c t h0 h1 (iblk V c 0 t) (iblk V c 1 t) (iblk V c 2 t) (iblk V c 3 t) (iblk V c 4 t) (iblk V c 5 t) (iblk V c 6 t) (iblk V c 7 t) (iblk V c 8 t) := by
  obtain ⟨n, hn⟩ := t
  cases n with
  | zero => exact rfl
  | succ n => exact (dif_pos h0).trans ((dif_neg h1).trans rfl)

/-- The recursion at a middle point. -/
theorem outsAt0_B (c : Dev nD) (t : Fin cfg1.N) (h0 : ¬t.val % 8 = 0) (h1 : ¬t.val % 8 = 7) :
    outsAt0 V c t.val t.isLt = ptB c t h0 h1 (iblk V c 0 t) (iblk V c 1 t) (iblk V c 2 t) (iblk V c 3 t) (iblk V c 4 t) (iblk V c 5 t) (iblk V c 6 t) (iblk V c 7 t) (iblk V c 8 t) (outsAt0 V c (t.val - 1) (Nat.lt_of_le_of_lt (Nat.sub_le _ _) t.isLt)).2.1 (outsAt0 V c (t.val - 1) (Nat.lt_of_le_of_lt (Nat.sub_le _ _) t.isLt)).2.2.1 (outsAt0 V c (t.val - 1) (Nat.lt_of_le_of_lt (Nat.sub_le _ _) t.isLt)).2.2.2 := by
  obtain ⟨n, hn⟩ := t
  cases n with
  | zero => exact absurd (Nat.zero_mod _) h0
  | succ n => exact (dif_neg h0).trans ((dif_neg h1).trans rfl)

/-- The recursion at a last point. -/
theorem outsAt0_C (c : Dev nD) (t : Fin cfg1.N) (h0 : ¬t.val % 8 = 0) (h1 : t.val % 8 = 7) :
    outsAt0 V c t.val t.isLt = ptC c t h0 h1 (iblk V c 0 t) (iblk V c 1 t) (iblk V c 2 t) (iblk V c 3 t) (iblk V c 4 t) (iblk V c 5 t) (iblk V c 6 t) (iblk V c 7 t) (iblk V c 8 t) (outsAt0 V c (t.val - 1) (Nat.lt_of_le_of_lt (Nat.sub_le _ _) t.isLt)).2.1 (outsAt0 V c (t.val - 1) (Nat.lt_of_le_of_lt (Nat.sub_le _ _) t.isLt)).2.2.1 (outsAt0 V c (t.val - 1) (Nat.lt_of_le_of_lt (Nat.sub_le _ _) t.isLt)).2.2.2 := by
  obtain ⟨n, hn⟩ := t
  cases n with
  | zero => exact absurd (Nat.zero_mod _) h0
  | succ n => exact (dif_neg h0).trans ((dif_pos h1).trans rfl)

/-- The region's invariant: before the first point any scratch, afterwards what the point before left. -/
def PhiS (c : Dev nD) : (n : ℕ) → n ≤ cfg1.N → sProp 𝕄
  | 0, _ => iprop(iprop((∃ d, owns (c : Thread nD τ) scM0_0 fullShare d) ∗ (∃ d, owns (c : Thread nD τ) scM0_1 fullShare d) ∗ (∃ d, owns (c : Thread nD τ) scM0_2 fullShare d)) ∗ rest c)
  | n + 1, hn => iprop(iprop(owns (c : Thread nD τ) scM0_0 fullShare ((outsAt0 V c n hn).2.1) ∗ owns (c : Thread nD τ) scM0_1 fullShare ((outsAt0 V c n hn).2.2.1) ∗ owns (c : Thread nD τ) scM0_2 fullShare ((outsAt0 V c n hn).2.2.2)) ∗ rest c)

/-- Before the first point the scratch buffers hold anything. -/
theorem PhiS_zero (c : Dev nD) (n : ℕ) (h : n ≤ cfg1.N) (hz : n = 0) : PhiS V c n h = iprop(iprop((∃ d, owns (c : Thread nD τ) scM0_0 fullShare d) ∗ (∃ d, owns (c : Thread nD τ) scM0_1 fullShare d) ∗ (∃ d, owns (c : Thread nD τ) scM0_2 fullShare d)) ∗ rest c) := by
  subst hz; rfl

/-- After a point the scratch buffers hold what that point leaves in them. -/
theorem PhiS_succ (c : Dev nD) (n : ℕ) (hn : n < cfg1.N) :
    PhiS V c (n + 1) hn = iprop(iprop(owns (c : Thread nD τ) scM0_0 fullShare ((outsAt0 V c n hn).2.1) ∗ owns (c : Thread nD τ) scM0_1 fullShare ((outsAt0 V c n hn).2.2.1) ∗ owns (c : Thread nD τ) scM0_2 fullShare ((outsAt0 V c n hn).2.2.2)) ∗ rest c) := rfl

/-- Before a later point the scratch buffers hold what the point before left in them. -/
theorem PhiS_pos (c : Dev nD) (n : ℕ) (h : n ≤ cfg1.N) (hz : n ≠ 0) :
    PhiS V c n h = iprop(iprop(owns (c : Thread nD τ) scM0_0 fullShare ((outsAt0 V c (n - 1) (by omega)).2.1) ∗ owns (c : Thread nD τ) scM0_1 fullShare ((outsAt0 V c (n - 1) (by omega)).2.2.1) ∗ owns (c : Thread nD τ) scM0_2 fullShare ((outsAt0 V c (n - 1) (by omega)).2.2.2)) ∗ rest c) := by
  cases n with
  | zero => exact absurd rfl hz
  | succ n => rfl

/-- The region's proof data: its arrays as found, the inputs left at their blocks, the output and scratch as `outsAt0`. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => iblk V c 6 t
    | ⟨7, _⟩ => iblk V c 7 t
    | ⟨8, _⟩ => iblk V c 8 t
    | ⟨9, _⟩ => (outsAt0 V c t.val t.isLt).1
  Φ t := PhiS V c t.val (Nat.le_of_lt_succ t.isLt)
  q _ := fullShare
  owed _ := 0

/-- The array behind a window starts as its contents when the call is reached. -/
theorem A_eq (c : Dev nD) (w : Fin cfg1.W) : (dat V c).A w = V c (Pipeline.arrRef spec1 w) := by
  dsimp only [dat]

/-- What is known before a point is the state of the scratch buffers there. -/
theorem PhiS_castSucc (c : Dev nD) (t : Fin cfg1.N) :
    (dat V c).Φ t.castSucc = PhiS V c t.val (Nat.le_of_lt t.isLt) := by
  dsimp only [dat]; exact Pipeline.Dat.Φ_castSucc (PhiS V c) t

/-- After a point, input window 0 still holds its block. -/
theorem after0_0 (c : Dev nD) (t : Fin cfg1.N) : (dat V c).after 0 t = iblk V c 0 t := by dsimp only [dat]
/-- After a point, input window 1 still holds its block. -/
theorem after0_1 (c : Dev nD) (t : Fin cfg1.N) : (dat V c).after 1 t = iblk V c 1 t := by dsimp only [dat]
/-- After a point, input window 2 still holds its block. -/
theorem after0_2 (c : Dev nD) (t : Fin cfg1.N) : (dat V c).after 2 t = iblk V c 2 t := by dsimp only [dat]
/-- After a point, input window 3 still holds its block. -/
theorem after0_3 (c : Dev nD) (t : Fin cfg1.N) : (dat V c).after 3 t = iblk V c 3 t := by dsimp only [dat]
/-- After a point, input window 4 still holds its block. -/
theorem after0_4 (c : Dev nD) (t : Fin cfg1.N) : (dat V c).after 4 t = iblk V c 4 t := by dsimp only [dat]
/-- After a point, input window 5 still holds its block. -/
theorem after0_5 (c : Dev nD) (t : Fin cfg1.N) : (dat V c).after 5 t = iblk V c 5 t := by dsimp only [dat]
/-- After a point, input window 6 still holds its block. -/
theorem after0_6 (c : Dev nD) (t : Fin cfg1.N) : (dat V c).after 6 t = iblk V c 6 t := by dsimp only [dat]
/-- After a point, input window 7 still holds its block. -/
theorem after0_7 (c : Dev nD) (t : Fin cfg1.N) : (dat V c).after 7 t = iblk V c 7 t := by dsimp only [dat]
/-- After a point, input window 8 still holds its block. -/
theorem after0_8 (c : Dev nD) (t : Fin cfg1.N) : (dat V c).after 8 t = iblk V c 8 t := by dsimp only [dat]
/-- After a point, window 9 holds that point's output. -/
theorem after0_9 (c : Dev nD) (t : Fin cfg1.N) : (dat V c).after 9 t = (outsAt0 V c t.val t.isLt).1 := by dsimp only [dat]

/-- Before a point, input window 0 holds its block. -/
theorem before0_0 (c : Dev nD) (t : Fin cfg1.N) (d) : (dat V c).before 0 t d = iblk V c 0 t :=
  ((dat V c).before_in_eq_fetched 0 rfl (fun _ => rfl) (fun _ _ _ => rfl) (fun t => by rw [after0_0]; unfold Dat.blockOf iblk; rw [A_eq]) t d).trans
    (by unfold Dat.fetched Dat.blockOf iblk; rw [A_eq]; try rfl)
/-- Before a point, input window 1 holds its block. -/
theorem before0_1 (c : Dev nD) (t : Fin cfg1.N) (d) : (dat V c).before 1 t d = iblk V c 1 t :=
  ((dat V c).before_in_eq_fetched 1 rfl (fun _ => rfl) (fun _ _ _ => rfl) (fun t => by rw [after0_1]; unfold Dat.blockOf iblk; rw [A_eq]) t d).trans
    (by unfold Dat.fetched Dat.blockOf iblk; rw [A_eq]; try rfl)
/-- Before a point, input window 2 holds its block. -/
theorem before0_2 (c : Dev nD) (t : Fin cfg1.N) (d) : (dat V c).before 2 t d = iblk V c 2 t :=
  ((dat V c).before_in_eq_fetched 2 rfl (fun _ => rfl) (fun _ _ _ => rfl) (fun t => by rw [after0_2]; unfold Dat.blockOf iblk; rw [A_eq]) t d).trans
    (by unfold Dat.fetched Dat.blockOf iblk; rw [A_eq]; try rfl)
/-- Before a point, input window 3 holds its block. -/
theorem before0_3 (c : Dev nD) (t : Fin cfg1.N) (d) : (dat V c).before 3 t d = iblk V c 3 t :=
  ((dat V c).before_in_eq_fetched 3 rfl (fun _ => rfl) (fun _ _ _ => rfl) (fun t => by rw [after0_3]; unfold Dat.blockOf iblk; rw [A_eq]) t d).trans
    (by unfold Dat.fetched Dat.blockOf iblk; rw [A_eq]; try rfl)
/-- Before a point, input window 4 holds its block. -/
theorem before0_4 (c : Dev nD) (t : Fin cfg1.N) (d) : (dat V c).before 4 t d = iblk V c 4 t :=
  ((dat V c).before_in_eq_fetched 4 rfl (fun _ => rfl) (fun _ _ _ => rfl) (fun t => by rw [after0_4]; unfold Dat.blockOf iblk; rw [A_eq]) t d).trans
    (by unfold Dat.fetched Dat.blockOf iblk; rw [A_eq]; try rfl)
/-- Before a point, input window 5 holds its block. -/
theorem before0_5 (c : Dev nD) (t : Fin cfg1.N) (d) : (dat V c).before 5 t d = iblk V c 5 t :=
  ((dat V c).before_in_eq_fetched 5 rfl (fun _ => rfl) (fun _ _ _ => rfl) (fun t => by rw [after0_5]; unfold Dat.blockOf iblk; rw [A_eq]) t d).trans
    (by unfold Dat.fetched Dat.blockOf iblk; rw [A_eq]; try rfl)
/-- Before a point, input window 6 holds its block. -/
theorem before0_6 (c : Dev nD) (t : Fin cfg1.N) (d) : (dat V c).before 6 t d = iblk V c 6 t :=
  ((dat V c).before_in_eq_fetched 6 rfl (fun _ => rfl) (fun _ _ _ => rfl) (fun t => by rw [after0_6]; unfold Dat.blockOf iblk; rw [A_eq]) t d).trans
    (by unfold Dat.fetched Dat.blockOf iblk; rw [A_eq]; try rfl)
/-- Before a point, input window 7 holds its block. -/
theorem before0_7 (c : Dev nD) (t : Fin cfg1.N) (d) : (dat V c).before 7 t d = iblk V c 7 t :=
  ((dat V c).before_in_eq_fetched 7 rfl (fun _ => rfl) (fun _ _ _ => rfl) (fun t => by rw [after0_7]; unfold Dat.blockOf iblk; rw [A_eq]) t d).trans
    (by unfold Dat.fetched Dat.blockOf iblk; rw [A_eq]; try rfl)
/-- Before a point, input window 8 holds its block. -/
theorem before0_8 (c : Dev nD) (t : Fin cfg1.N) (d) : (dat V c).before 8 t d = iblk V c 8 t :=
  ((dat V c).before_in_eq_fetched 8 rfl (fun _ => rfl) (fun _ _ _ => rfl) (fun t => by rw [after0_8]; unfold Dat.blockOf iblk; rw [A_eq]) t d).trans
    (by unfold Dat.fetched Dat.blockOf iblk; rw [A_eq]; try rfl)

/-- A point leaves the block of input window 0 as it was. -/
theorem leaves_0 (c : Dev nD) (t : Fin cfg1.N) : (dat V c).leavesExact 0 t = owns (c : Thread nD τ) (ms0_0 t) fullShare (iblk V c 0 t) := by
  unfold Dat.leavesExact; rw [show cfg1.idle 0 (grid1.coords t) = false from rfl, after0_0]
/-- A point leaves the block of input window 1 as it was. -/
theorem leaves_1 (c : Dev nD) (t : Fin cfg1.N) : (dat V c).leavesExact 1 t = owns (c : Thread nD τ) (ms0_1 t) fullShare (iblk V c 1 t) := by
  unfold Dat.leavesExact; rw [show cfg1.idle 1 (grid1.coords t) = false from rfl, after0_1]
/-- A point leaves the block of input window 2 as it was. -/
theorem leaves_2 (c : Dev nD) (t : Fin cfg1.N) : (dat V c).leavesExact 2 t = owns (c : Thread nD τ) (ms0_2 t) fullShare (iblk V c 2 t) := by
  unfold Dat.leavesExact; rw [show cfg1.idle 2 (grid1.coords t) = false from rfl, after0_2]
/-- A point leaves the block of input window 3 as it was. -/
theorem leaves_3 (c : Dev nD) (t : Fin cfg1.N) : (dat V c).leavesExact 3 t = owns (c : Thread nD τ) (ms0_3 t) fullShare (iblk V c 3 t) := by
  unfold Dat.leavesExact; rw [show cfg1.idle 3 (grid1.coords t) = false from rfl, after0_3]
/-- A point leaves the block of input window 4 as it was. -/
theorem leaves_4 (c : Dev nD) (t : Fin cfg1.N) : (dat V c).leavesExact 4 t = owns (c : Thread nD τ) (ms0_4 t) fullShare (iblk V c 4 t) := by
  unfold Dat.leavesExact; rw [show cfg1.idle 4 (grid1.coords t) = false from rfl, after0_4]
/-- A point leaves the block of input window 5 as it was. -/
theorem leaves_5 (c : Dev nD) (t : Fin cfg1.N) : (dat V c).leavesExact 5 t = owns (c : Thread nD τ) (ms0_5 t) fullShare (iblk V c 5 t) := by
  unfold Dat.leavesExact; rw [show cfg1.idle 5 (grid1.coords t) = false from rfl, after0_5]
/-- A point leaves the block of input window 6 as it was. -/
theorem leaves_6 (c : Dev nD) (t : Fin cfg1.N) : (dat V c).leavesExact 6 t = owns (c : Thread nD τ) (ms0_6 t) fullShare (iblk V c 6 t) := by
  unfold Dat.leavesExact; rw [show cfg1.idle 6 (grid1.coords t) = false from rfl, after0_6]
/-- A point leaves the block of input window 7 as it was. -/
theorem leaves_7 (c : Dev nD) (t : Fin cfg1.N) : (dat V c).leavesExact 7 t = owns (c : Thread nD τ) (ms0_7 t) fullShare (iblk V c 7 t) := by
  unfold Dat.leavesExact; rw [show cfg1.idle 7 (grid1.coords t) = false from rfl, after0_7]
/-- A point leaves the block of input window 8 as it was. -/
theorem leaves_8 (c : Dev nD) (t : Fin cfg1.N) : (dat V c).leavesExact 8 t = owns (c : Thread nD τ) (ms0_8 t) fullShare (iblk V c 8 t) := by
  unfold Dat.leavesExact; rw [show cfg1.idle 8 (grid1.coords t) = false from rfl, after0_8]

/-- What the body is called with at a point, window by window, and what it returns. -/
def bodyPre (c : Dev nD) (t : Fin cfg1.N) : sProp 𝕄 :=
  iprop((dat V c).Φ t.castSucc ∗ (dat V c).owesAt () t.castSucc
    ∗ (∃ d, owns (c : Thread nD τ) (ms0_0 t) fullShare ((dat V c).before 0 t d))
    ∗ (∃ d, owns (c : Thread nD τ) (ms0_1 t) fullShare ((dat V c).before 1 t d))
    ∗ (∃ d, owns (c : Thread nD τ) (ms0_2 t) fullShare ((dat V c).before 2 t d))
    ∗ (∃ d, owns (c : Thread nD τ) (ms0_3 t) fullShare ((dat V c).before 3 t d))
    ∗ (∃ d, owns (c : Thread nD τ) (ms0_4 t) fullShare ((dat V c).before 4 t d))
    ∗ (∃ d, owns (c : Thread nD τ) (ms0_5 t) fullShare ((dat V c).before 5 t d))
    ∗ (∃ d, owns (c : Thread nD τ) (ms0_6 t) fullShare ((dat V c).before 6 t d))
    ∗ (∃ d, owns (c : Thread nD τ) (ms0_7 t) fullShare ((dat V c).before 7 t d))
    ∗ (∃ d, owns (c : Thread nD τ) (ms0_8 t) fullShare ((dat V c).before 8 t d))
    ∗ (∃ d, owns (c : Thread nD τ) (ms0_9 t) fullShare ((dat V c).before 9 t d)))

def bodyPost (c : Dev nD) (t : Fin cfg1.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t
    ∗ (dat V c).leavesExact 4 t
    ∗ (dat V c).leavesExact 5 t
    ∗ (dat V c).leavesExact 6 t
    ∗ (dat V c).leavesExact 7 t
    ∗ (dat V c).leavesExact 8 t
    ∗ (dat V c).leavesExact 9 t)

set_option maxHeartbeats 14400000 in
/-- The body at a point, run from what is known before it, ends in what is known after it. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before0_0, before0_1, before0_2, before0_3, before0_4, before0_5, before0_6, before0_7, before0_8]
  rw [show (dat V c).owesAt () t.succ = (dat V c).owesAt () t.castSucc from rfl]
  rw [show (dat V c).Φ t.succ = PhiS V c (t.val + 1) t.isLt from rfl, PhiS_succ]
  rw [leaves_0, leaves_1, leaves_2, leaves_3, leaves_4, leaves_5, leaves_6, leaves_7, leaves_8]
  have hN : t.val < 8 := lt_of_lt_of_eq t.isLt (show cfg1.N = 8 from N_1)
  by_cases h0 : t.val % 8 = 0
  · by_cases h1 : t.val % 8 = 7
    · exfalso; omega
    · rw [Dat.leavesExact_idle (dat V c) 9 t (idleAt0_9_A t ((hcond0_0 t).mpr h0) (fun h => h1 ((hcond0_1 t).mp h))) (noFlush0_9_A t ((hcond0_0 t).mpr h0) (fun h => h1 ((hcond0_1 t).mp h)))]
      by_cases hz : t.val = 0
      · rw [PhiS_castSucc V c t, PhiS_zero V c _ _ hz]
        rw [outsAt0_A V c t h0 h1]
        unfold ptA sout0_A_0 sout0_A_1 sout0_A_2; (try dsimp only)
        iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
        iapply ((kernelRun0_A c (grid1.coords t) _ _ _ _ _ _ _ _ _ _ _ _ _ _ _ _ _ _ _ _ _ _ _ _ _ _ ((hcond0_0 t).mpr h0) (fun h => h1 ((hcond0_1 t).mp h)) (iblk V c 0 t) (iblk V c 1 t) (iblk V c 2 t) (iblk V c 3 t) (iblk V c 4 t) (iblk V c 5 t) (iblk V c 6 t) (iblk V c 7 t) (iblk V c 8 t)).2.2.2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [HS0]; · iexact HS0
        isplitl [HS1]; · iexact HS1
        isplitl [HS2]; · iexact HS2
        iintro ⟨H0, H1, H2, H3, H4, H5, H6, H7, H8, H9, ⟨%es0, HS0⟩, ⟨%es1, HS1⟩, ⟨%es2, HS2⟩⟩
        isplitl [HS0 HS1 HS2 Hg]
        · isplitl [HS0 HS1 HS2]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _ _ _ _ _ _ _ _ _ _ _ _ _ _ _ _ _)
            isplitl [HS1]
            · unfold owns; iexists _; isplitr
              swap; · iexact HS1
              ipureintro; exact View.read_writes_of_cover _ _ _ _ _ (scover0_A_1 c _ _ _ _ _ _ _ _ _ _ _ _ _ _ _ _ _ _ _ _ _ _ _ _ _ _ _ _ _ _ _ _ _ _ _ _ _ _)
            unfold owns; iexists _; isplitr
            swap; · iexact HS2
            ipureintro; exact View.read_writes_of_cover _ _ _ _ _ (scover0_A_2 c _ _ _ _ _ _ _ _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        iexists _; iexact H9
      · exfalso; have hN : t.val < 8 := lt_of_lt_of_eq t.isLt (show cfg1.N = 8 from N_1); omega
  · by_cases h1 : t.val % 8 = 7
    · rw [show (dat V c).leavesExact 9 t = owns (c : Thread nD τ) (ms0_9 t) fullShare ((dat V c).after 9 t) from by
      unfold Dat.leavesExact; rw [liveAt0_9_C t (fun h => h0 ((hcond0_0 t).mp h)) ((hcond0_1 t).mpr h1)], after0_9]
      by_cases hz : t.val = 0
      · exfalso; have hN : t.val < 8 := lt_of_lt_of_eq t.isLt (show cfg1.N = 8 from N_1); omega
      · rw [PhiS_castSucc V c t, PhiS_pos V c _ _ hz]
        rw [outsAt0_C V c t h0 h1]
        unfold ptC out0_C_9 sout0_C_1 sout0_C_2; (try dsimp only)
        iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
        iapply ((kernelRun0_C c (grid1.coords t) _ _ _ _ _ _ _ _ _ _ _ _ _ _ _ _ _ _ _ _ _ _ _ _ _ _ (fun h => h0 ((hcond0_0 t).mp h)) ((hcond0_1 t).mpr h1) (iblk V c 0 t) (iblk V c 1 t) (iblk V c 2 t) (iblk V c 3 t) (iblk V c 4 t) (iblk V c 5 t) (iblk V c 6 t) (iblk V c 7 t) (iblk V c 8 t) _ _ _).2.2.2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexists _; iexact H9
        isplitl [HS0]; · iexact HS0
        isplitl [HS1]; · iexact HS1
        isplitl [HS2]; · iexact HS2
        iintro ⟨H0, H1, H2, H3, H4, H5, H6, H7, H8, ⟨%e9, H9⟩, HS0, HS1, ⟨%es2, HS2⟩⟩
        isplitl [HS0 HS1 HS2 Hg]
        · isplitl [HS0 HS1 HS2]
          · isplitl [HS0]
            · iexact HS0
            isplitl [HS1]
            · unfold owns; iexists _; isplitr
              swap; · iexact HS1
              ipureintro; rfl
            unfold owns; iexists _; isplitr
            swap; · iexact HS2
            ipureintro; exact View.read_writes_of_cover _ _ _ _ _ (scover0_C_2 c _ _ _ _ _ _ _ _ _ _ _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        unfold owns; iexists _; isplitr
        swap; · iexact H9
        ipureintro; exact View.read_writes_of_cover _ _ _ _ _ (cover0_C_9 c _ _ _ _ _ _ _ _ _ _ _ _ _ _ _ _ _ _ _ _ _ _ _ _ _ _ _ _ _ _ _ _ _ _ _ _ _ _ _ _ _)
    · rw [Dat.leavesExact_idle (dat V c) 9 t (idleAt0_9_B t (fun h => h0 ((hcond0_0 t).mp h)) (fun h => h1 ((hcond0_1 t).mp h))) (noFlush0_9_B t (fun h => h0 ((hcond0_0 t).mp h)) (fun h => h1 ((hcond0_1 t).mp h)))]
      by_cases hz : t.val = 0
      · exfalso; have hN : t.val < 8 := lt_of_lt_of_eq t.isLt (show cfg1.N = 8 from N_1); omega
      · rw [PhiS_castSucc V c t, PhiS_pos V c _ _ hz]
        rw [outsAt0_B V c t h0 h1]
        unfold ptB sout0_B_1 sout0_B_2; (try dsimp only)
        iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
        iapply ((kernelRun0_B c (grid1.coords t) _ _ _ _ _ _ _ _ _ _ _ _ _ _ _ _ _ _ _ _ _ _ _ _ _ _ (fun h => h0 ((hcond0_0 t).mp h)) (fun h => h1 ((hcond0_1 t).mp h)) (iblk V c 0 t) (iblk V c 1 t) (iblk V c 2 t) (iblk V c 3 t) (iblk V c 4 t) (iblk V c 5 t) (iblk V c 6 t) (iblk V c 7 t) (iblk V c 8 t) _ _ _).2.2.2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [HS0]; · iexact HS0
        isplitl [HS1]; · iexact HS1
        isplitl [HS2]; · iexact HS2
        iintro ⟨H0, H1, H2, H3, H4, H5, H6, H7, H8, H9, HS0, HS1, ⟨%es2, HS2⟩⟩
        isplitl [HS0 HS1 HS2 Hg]
        · isplitl [HS0 HS1 HS2]
          · isplitl [HS0]
            · iexact HS0
            isplitl [HS1]
            · unfold owns; iexists _; isplitr
              swap; · iexact HS1
              ipureintro; rfl
            unfold owns; iexists _; isplitr
            swap; · iexact HS2
            ipureintro; exact View.read_writes_of_cover _ _ _ _ _ (scover0_B_2 c _ _ _ _ _ _ _ _ _ _ _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        iexists _; iexact H9

/-- The call's code at a point is its body at that point. -/
theorem defs₀_row (t : Fin cfg1.N) :
    defs₀ (F := F) .tc cfg1.body (cfg1.bodyArgs t (cfg1.slots t)) = bodyAt1 t := by
  unfold defs₀; rw [Defs.onTc_tc]

/-- The body meets the pipeline's obligation at every point. -/
theorem body_obligation (c : Dev nD) : BodyObligation (dat (F := F) V c) (defs₀ (F := F)) Variants.none () Set.univ := fun t => by
  rw [bigSep_W1, bigSep_W1, defs₀_row]
  exact triple_restated (sound_body V c t) rfl .rfl fun _ => .rfl

/-- The entry invariant is the pipeline's, and the exit invariant gives it back. -/
theorem hin (c : Dev nD) : Pipeline.ΦA spec1 c ⊢ (dat V c).Φ 0 := by
  rw [show (dat V c).Φ 0 = PhiS V c 0 (Nat.zero_le _) from rfl, PhiS_zero V c 0 _ rfl]
  exact PhiA_in c

/-- What is known after the first point gives back the scratch buffers with some contents. -/
theorem Phi_out (c : Dev nD) (t : Fin (cfg1.N + 1)) (ht : t.val ≠ 0) : (dat V c).Φ t ⊢ Pipeline.ΦA spec1 c := by
  rw [show (dat V c).Φ t = PhiS V c t.val (Nat.le_of_lt_succ t.isLt) from rfl, PhiS_pos V c _ _ ht]
  iintro ⟨⟨HS0, HS1, HS2⟩, Hg⟩
  iapply (PhiA_out c)
  isplitl [HS0 HS1 HS2]
  · isplitl [HS0]
    · iexists _; iexact HS0
    isplitl [HS1]
    · iexists _; iexact HS1
    iexists _; iexact HS2
  iexact Hg

/-- What is known at the end gives back the scratch buffers with some contents. -/
theorem hout (c : Dev nD) : (dat V c).Φ (Fin.last cfg1.N) ⊢ Pipeline.ΦA spec1 c :=
  Phi_out V c _ (by rw [Fin.val_last]; have : cfg1.N = 8 := N_1; omega)

end Cert.KernelIdeal.Mem

end
-- ==== Proof.KernelIdeal.Whole.lean ====
module

public import proofs.«01_k».proof.Proof.KernelIdeal.LstmDat
public import proofs.«01_k».proof.Proof.KernelIdeal.MemDat
public import Idealize.ShloMosaic.Lib.Pipeline.RegionsLoop
public import Idealize.ShloMosaic.Lib.Pipeline.FrameSuffix
public import Idealize.ShloMosaic.Lib.Claim

@[expose] public section

set_option maxRecDepth 16384

noncomputable section

namespace Cert.KernelIdeal.Whole

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The arguments' arrays. -/
abbrev argRefs : List (Ref sig .tc) := [main_arg0, main_arg1, main_arg2, main_arg3, main_arg4, main_arg5, main_arg6, main_arg7, main_arg8, main_arg9, main_arg10]

/-- The stretch allocates no buffer, writes the references listed, and none of them is an argument. -/
theorem hostOps0_fresh : (hostOps0 : List (HloOp τ sig (Elt F))).Forall fun op => op.fresh = ∅ := by
  simp only [List.Forall]; repeat' constructor
abbrev hostOps0_W : List (Ref sig .tc) := [main_call0_v0, main_call0_v1, main_call0_v2, main_call0_v3, main_call0_v4, main_call0_v5, main_call0_v6]
/-- The operations before the first call write only the listed buffers. -/
theorem hostOps0_writes : (hostOps0 : List (HloOp τ sig (Elt F))).Forall fun op => op.writes ⊆ (hostOps0_W.map (Proc.devRef (τ := τ) .tc)).toFinset :=
  StableHlo.forall_writes_sub_of_map rfl
/-- No argument is among the buffers written before the first call. -/
theorem hostOps0_args : ∀ a ∈ argRefs, a ∉ hostOps0_W := ListAll.forall_mem_of_all_decide (by decide +kernel)

/-- The stretch allocates no buffer, writes the references listed, and none of them is an argument. -/
theorem hostOps1_fresh : (hostOps1 : List (HloOp τ sig (Elt F))).Forall fun op => op.fresh = ∅ := by
  simp only [List.Forall]; repeat' constructor
abbrev hostOps1_W : List (Ref sig .tc) := [main_call0_v8, main_call0_v9, main_call0_v10, main_call0_v11, main_call0_v12, main_call0_v13, main_call0_v14, main_call0_v15, main_call0_v16, main_call0_v17, main_call0_v18]
/-- The operations before the second call write only the listed buffers. -/
theorem hostOps1_writes : (hostOps1 : List (HloOp τ sig (Elt F))).Forall fun op => op.writes ⊆ (hostOps1_W.map (Proc.devRef (τ := τ) .tc)).toFinset :=
  StableHlo.forall_writes_sub_of_map rfl
/-- No argument is among the buffers written before the second call. -/
theorem hostOps1_args : ∀ a ∈ argRefs, a ∉ hostOps1_W := ListAll.forall_mem_of_all_decide (by decide +kernel)

/-- The buffers at launch. -/
abbrev W0 : Dev nD → Valuation τ sig (Elt F) := fun c b => (s₀ m ρ).mem ((c : Dev nD), b)
/-- At the start the arguments hold what they were given. -/
theorem W0_args (c : Dev nD) : ∀ a ∈ argRefs, W0 m ρ c (Proc.devRef .tc a) = m ((c : Thread nD τ).loc a) := fun _ _ => rfl
/-- The buffers after the first host stretch. -/
abbrev W1 : Dev nD → Valuation τ sig (Elt F) := fun c => StableHlo.after hostOps0 (W0 m ρ c)
/-- The operations before the call leave the buffers they do not write as they were. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
/-- When the first call is reached the arguments are unchanged. -/
theorem W1_args (c : Dev nD) : ∀ a ∈ argRefs, W1 m ρ c (Proc.devRef .tc a) = m ((c : Thread nD τ).loc a) :=
  fun a ha => (W1_of m ρ c a (hostOps0_args a ha)).trans (W0_args m ρ c a ha)
abbrev V1 : (c : Dev nD) → (b : Ref sig .tc) → Buf (Elt F) ((c : Thread nD τ).loc b) := fun c b => W1 m ρ c b
/-- The buffers after the first kernel call: its arrays as its write-backs leave them. -/
def W2 (c : Dev nD) : Valuation τ sig (Elt F) :=
  Pipeline.withArrays spec0 c (W1 m ρ c) fun w => (Lstm.dat (V1 m ρ) c).arrAt w cfg0.N
/-- After a call the array behind a window holds what the call's last point leaves. -/
theorem W2_arr (c : Dev nD) (w : Fin cfg0.W) :
    W2 m ρ c (Proc.devRef .tc (Pipeline.arrRef spec0 w)) = (Lstm.dat (V1 m ρ) c).arrAt w cfg0.N := by
  unfold W2; exact Pipeline.withArrays_arr spec0 launch0.win.arr_inj c _ _ w
/-- A call leaves a buffer behind none of its windows as it was. -/
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- A call leaves a buffer that is none of its outputs as it was. -/
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((Lstm.dat (V1 m ρ) c).arrAt_in w (h w rfl) _).trans (Lstm.A_eq (V1 m ρ) c w))
  · exact W2_of_ne m ρ c r fun w e => hw ⟨w, e⟩
/-- An argument behind a window of the call is an input. -/
theorem argsIn0 : ∀ a ∈ argRefs, ∀ w : Fin cfg0.W, Pipeline.arrRef spec0 w = a → (cfg0.win w).isOut = false :=
  ListAll.forall_mem_of_all_decide (by decide +kernel)
/-- After the first call the arguments are unchanged. -/
theorem W2_args (c : Dev nD) : ∀ a ∈ argRefs, W2 m ρ c (Proc.devRef .tc a) = m ((c : Thread nD τ).loc a) :=
  fun a ha => (W2_of m ρ c a (argsIn0 a ha)).trans (W1_args m ρ c a ha)
abbrev V2 : (c : Dev nD) → (b : Ref sig .tc) → Buf (Elt F) ((c : Thread nD τ).loc b) := fun c b => W2 m ρ c b
/-- What the call leaves in its arrays is what the buffers hold afterwards. -/
theorem hF0 (c : Dev nD) (w : Fin cfg0.W) : (Lstm.dat (V1 m ρ) c).arrAt w cfg0.N = V2 m ρ c (Pipeline.arrRef spec0 w) :=
  (W2_arr m ρ c w).symm
/-- Buffers behind no window hold the same before and after the call. -/
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- The buffers after the second host stretch. -/
abbrev W3 : Dev nD → Valuation τ sig (Elt F) := fun c => StableHlo.after hostOps1 (W2 m ρ c)
/-- The operations before the call leave the buffers they do not write as they were. -/
theorem W3_of (c : Dev nD) (r : Ref sig .tc) (h : r ∉ hostOps1_W) : W3 m ρ c (Proc.devRef .tc r) = W2 m ρ c (Proc.devRef .tc r) :=
  StableHlo.after_of_writes_sub hostOps1 _ hostOps1_writes h
/-- When the second call is reached the arguments are unchanged. -/
theorem W3_args (c : Dev nD) : ∀ a ∈ argRefs, W3 m ρ c (Proc.devRef .tc a) = m ((c : Thread nD τ).loc a) :=
  fun a ha => (W3_of m ρ c a (hostOps1_args a ha)).trans (W2_args m ρ c a ha)
abbrev V3 : (c : Dev nD) → (b : Ref sig .tc) → Buf (Elt F) ((c : Thread nD τ).loc b) := fun c b => W3 m ρ c b
/-- The buffers after the second kernel call. -/
def W4 (c : Dev nD) : Valuation τ sig (Elt F) :=
  Pipeline.withArrays spec1 c (W3 m ρ c) fun w => (Mem.dat (V3 m ρ) c).arrAt w cfg1.N
/-- After a call the array behind a window holds what the call's last point leaves. -/
theorem W4_arr (c : Dev nD) (w : Fin cfg1.W) :
    W4 m ρ c (Proc.devRef .tc (Pipeline.arrRef spec1 w)) = (Mem.dat (V3 m ρ) c).arrAt w cfg1.N := by
  unfold W4; exact Pipeline.withArrays_arr spec1 launch1.win.arr_inj c _ _ w
/-- A call leaves a buffer behind none of its windows as it was. -/
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- A call leaves a buffer that is none of its outputs as it was. -/
theorem W4_of (c : Dev nD) (r : Ref sig .tc) (h : ∀ w : Fin cfg1.W, Pipeline.arrRef spec1 w = r → (cfg1.win w).isOut = false) :
    W4 m ρ c (Proc.devRef .tc r) = W3 m ρ c (Proc.devRef .tc r) := by
  by_cases hw : ∃ w : Fin cfg1.W, Pipeline.arrRef spec1 w = r
  · obtain ⟨w, rfl⟩ := hw
    exact (W4_arr m ρ c w).trans (((Mem.dat (V3 m ρ) c).arrAt_in w (h w rfl) _).trans (Mem.A_eq (V3 m ρ) c w))
  · exact W4_of_ne m ρ c r fun w e => hw ⟨w, e⟩
/-- An argument behind a window of the call is an input. -/
theorem argsIn1 : ∀ a ∈ argRefs, ∀ w : Fin cfg1.W, Pipeline.arrRef spec1 w = a → (cfg1.win w).isOut = false :=
  ListAll.forall_mem_of_all_decide (by decide +kernel)
/-- After the second call the arguments are unchanged. -/
theorem W4_args (c : Dev nD) : ∀ a ∈ argRefs, W4 m ρ c (Proc.devRef .tc a) = m ((c : Thread nD τ).loc a) :=
  fun a ha => (W4_of m ρ c a (argsIn1 a ha)).trans (W3_args m ρ c a ha)
abbrev V4 : (c : Dev nD) → (b : Ref sig .tc) → Buf (Elt F) ((c : Thread nD τ).loc b) := fun c b => W4 m ρ c b
/-- What the call leaves in its arrays is what the buffers hold afterwards. -/
theorem hF1 (c : Dev nD) (w : Fin cfg1.W) : (Mem.dat (V3 m ρ) c).arrAt w cfg1.N = V4 m ρ c (Pipeline.arrRef spec1 w) :=
  (W4_arr m ρ c w).symm
/-- Buffers behind no window hold the same before and after the call. -/
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

abbrev adm : (p : Fin 2) → (pcfgs (F := F) p).Adm := fun p => (cfgs p).toPCfg_adm
/-- Each kernel call's proof data at its entry contents. -/
def pdats : (p : Fin 2) → (c : Dev nD) → Dat τ (Elt F) Unit ℕ (UR sig nD τ) ℕ (Pipeline.pin (pcfgs (F := F)) adm p) c
  | ⟨0, _⟩ => fun c => Lstm.dat (V1 m ρ) c
  | ⟨1, _⟩ => fun c => Mem.dat (V3 m ρ) c
abbrev 𝒱₀ : Variants := Variants.none
abbrev L : GSem nD τ sig → Finset Unit := fun _ => ∅
abbrev lv : GSem nD τ sig → Unit → ℕ := fun _ _ => 0
/-- What rides beside the buffers: the generator and nothing owed. -/
abbrev R (c : Dev nD) : sProp 𝕄 := iprop((∃ r, prngReg c r) ∗ ∃ W, owes (c : Thread nD τ) (0 : CellTallies nD τ sig Unit) W)
/-- A host stretch as a segment. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- A buffer of the whole program is among those that are never allocated anew. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last state. -/
abbrev Tₙ (c : Dev nD) : sProp 𝕄 := iprop(StableHlo.held (c : Thread nD τ) (Pipeline.ucRefs τ sig) (W4 m ρ c) ∗ ∃ r, prngReg c r)

set_option backward.isDefEq.respectTransparency.types false in
/-- The first kernel call as a segment. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (Lstm.body_obligation (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) (Lstm.A_eq (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = (Lstm.dat (V1 m ρ) c).Φ 0 from rfl]
    iintro ⟨Hp, -, Hr⟩
    iapply (Lstm.hin (V1 m ρ) c)
    unfold Pipeline.ΦA
    isplitl [Hr]; · iexact Hr
    iexact Hp
  hout c := by
    have h := Lstm.hout (V1 m ρ) c
    unfold Pipeline.ΦA at h
    rw [Pipeline.ownSems0_none, show (pdats m ρ 0 c).Φ (Fin.last _) = (Lstm.dat (V1 m ρ) c).Φ (Fin.last _) from rfl]
    iintro H
    ihave H2 := h $$ H
    icases H2 with ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second kernel call as a segment. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (Mem.body_obligation (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) (Mem.A_eq (V3 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = (Mem.dat (V3 m ρ) c).Φ 0 from rfl]
    iintro ⟨Hp, -, Hr⟩
    iapply (Mem.hin (V3 m ρ) c)
    unfold Pipeline.ΦA
    isplitl [Hr]; · iexact Hr
    iexact Hp
  hout c := by
    have h := Mem.hout (V3 m ρ) c
    unfold Pipeline.ΦA at h
    rw [Pipeline.ownSems0_none, show (pdats m ρ 1 c).Φ (Fin.last _) = (Mem.dat (V3 m ρ) c).Φ (Fin.last _) from rfl]
    iintro H
    ihave H2 := h $$ H
    icases H2 with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-- The segments of the program. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ) ]
/-- The program is the run of its segments. -/
theorem main_run (c : Dev nD) : main (F := F) c = Pipeline.Seg.run (segs m ρ) := (main_chain c).trans (by chain_rfl)

/-- Every counter belongs to a call. -/
theorem no_unscoped : ∀ sm : SemLoc sig, sm.isScoped .tc = true := by decide

set_option backward.isDefEq.respectTransparency.types false in
/-- Every run ends, with the unscoped buffers at `W4` and every semaphore at zero. -/
theorem run : θ_run defs (onTc (τ := τ) (main (F := F))) ⟨m, fun _ => 0, ρ⟩ (fun r => (∀ c : Dev nD,
      ∀ b ∈ Pipeline.ucRefs τ sig, r.2.mem (((c : Thread nD τ)).1, b) = W4 m ρ c b)
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h hz => ⟨h, funext fun g => hz g (.inr (no_unscoped g.2))⟩)

/-- Every run leaves the arguments as launched and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10))
      ∧ r.2.sem = fun _ => 0) :=
  (θ_run defs _ _).mono (fun _ ⟨h, hs⟩ => ⟨fun c =>
      ⟨(h c _ (mem_uc main_arg0 (by decide))).trans (W4_args m ρ c main_arg0 (by decide)),
       (h c _ (mem_uc main_arg1 (by decide))).trans (W4_args m ρ c main_arg1 (by decide)),
       (h c _ (mem_uc main_arg2 (by decide))).trans (W4_args m ρ c main_arg2 (by decide)),
       (h c _ (mem_uc main_arg3 (by decide))).trans (W4_args m ρ c main_arg3 (by decide)),
       (h c _ (mem_uc main_arg4 (by decide))).trans (W4_args m ρ c main_arg4 (by decide)),
       (h c _ (mem_uc main_arg5 (by decide))).trans (W4_args m ρ c main_arg5 (by decide)),
       (h c _ (mem_uc main_arg6 (by decide))).trans (W4_args m ρ c main_arg6 (by decide)),
       (h c _ (mem_uc main_arg7 (by decide))).trans (W4_args m ρ c main_arg7 (by decide)),
       (h c _ (mem_uc main_arg8 (by decide))).trans (W4_args m ρ c main_arg8 (by decide)),
       (h c _ (mem_uc main_arg9 (by decide))).trans (W4_args m ρ c main_arg9 (by decide)),
       (h c _ (mem_uc main_arg10 (by decide))).trans (W4_args m ρ c main_arg10 (by decide))⟩, hs⟩) (run m ρ)

/-- Every run leaves the second call's output array in the result, and the arguments as launched. -/
theorem value : θ_run defs (onTc (τ := τ) (main (F := F))) ⟨m, fun _ => 0, ρ⟩ (fun r => ∀ c : Dev nD,
      r.2.mem ((c.tc : Thread nD τ).loc main_v0) = (Mem.dat (V3 m ρ) c).arrAt 9 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ ⟨h, _⟩ c =>
      ⟨(h c _ (mem_uc main_v0 (by decide))).trans (W4_arr m ρ c 9),
       (h c _ (mem_uc main_arg0 (by decide))).trans (W4_args m ρ c main_arg0 (by decide)),
       (h c _ (mem_uc main_arg1 (by decide))).trans (W4_args m ρ c main_arg1 (by decide)),
       (h c _ (mem_uc main_arg2 (by decide))).trans (W4_args m ρ c main_arg2 (by decide)),
       (h c _ (mem_uc main_arg3 (by decide))).trans (W4_args m ρ c main_arg3 (by decide)),
       (h c _ (mem_uc main_arg4 (by decide))).trans (W4_args m ρ c main_arg4 (by decide)),
       (h c _ (mem_uc main_arg5 (by decide))).trans (W4_args m ρ c main_arg5 (by decide)),
       (h c _ (mem_uc main_arg6 (by decide))).trans (W4_args m ρ c main_arg6 (by decide)),
       (h c _ (mem_uc main_arg7 (by decide))).trans (W4_args m ρ c main_arg7 (by decide)),
       (h c _ (mem_uc main_arg8 (by decide))).trans (W4_args m ρ c main_arg8 (by decide)),
       (h c _ (mem_uc main_arg9 (by decide))).trans (W4_args m ρ c main_arg9 (by decide)),
       (h c _ (mem_uc main_arg10 (by decide))).trans (W4_args m ρ c main_arg10 (by decide))⟩) (run m ρ)

end Cert.KernelIdeal.Whole

end
-- ==== Proof.KernelIdeal.HostVal.lean ====
module

public import proofs.«01_k».proof.Proof.KernelIdeal.Whole
public import Idealize.ShloMosaic.Lib.Pointwise
public import Idealize.ShloMosaic.Lib.StableHlo.Run

/-!
# The two host stretches over the extended reals, read at an index

Each array a kernel call reads, in terms of the arguments.
-/

@[expose] public section

set_option maxRecDepth 16384

noncomputable section

namespace Cert.KernelIdeal.Whole

open Cert.KernelIdeal Cert.KernelIdeal.Gen
open Idealize.ShloMosaic Idealize.ShloMosaic.TcCoe Idealize.ShloMosaic.StableHlo

variable [Named Ideal]
variable (m : (ℓ : Loc nD τ sig) → Buf (Elt Ideal) ℓ) (ρ : Dev nD → PrngReg) (c : Dev nD)

/-- Argument 0 on a device. -/
abbrev A0 : (⟨S512x50x128, .f32⟩ : BufTy).Contents (Elt Ideal) := m ((c.tc : Thread nD τ).loc main_arg0)
/-- Argument 1 on a device. -/
abbrev A1 : (⟨S512x128, .f32⟩ : BufTy).Contents (Elt Ideal) := m ((c.tc : Thread nD τ).loc main_arg1)
/-- Argument 2 on a device. -/
abbrev A2 : (⟨S512x128, .f32⟩ : BufTy).Contents (Elt Ideal) := m ((c.tc : Thread nD τ).loc main_arg2)
/-- Argument 3 on a device. -/
abbrev A3 : (⟨S512, .f32⟩ : BufTy).Contents (Elt Ideal) := m ((c.tc : Thread nD τ).loc main_arg3)
/-- Argument 4 on a device. -/
abbrev A4 : (⟨S512, .f32⟩ : BufTy).Contents (Elt Ideal) := m ((c.tc : Thread nD τ).loc main_arg4)
/-- Argument 5 on a device. -/
abbrev A5 : (⟨S64x64, .f32⟩ : BufTy).Contents (Elt Ideal) := m ((c.tc : Thread nD τ).loc main_arg5)
/-- Argument 6 on a device. -/
abbrev A6 : (⟨S64, .f32⟩ : BufTy).Contents (Elt Ideal) := m ((c.tc : Thread nD τ).loc main_arg6)
/-- Argument 7 on a device. -/
abbrev A7 : (⟨S65536x64, .f32⟩ : BufTy).Contents (Elt Ideal) := m ((c.tc : Thread nD τ).loc main_arg7)
/-- Argument 8 on a device. -/
abbrev A8 : (⟨S65536x64, .f32⟩ : BufTy).Contents (Elt Ideal) := m ((c.tc : Thread nD τ).loc main_arg8)
/-- Argument 9 on a device. -/
abbrev A9 : (⟨S128x192, .f32⟩ : BufTy).Contents (Elt Ideal) := m ((c.tc : Thread nD τ).loc main_arg9)
/-- Argument 10 on a device. -/
abbrev A10 : (⟨S128, .f32⟩ : BufTy).Contents (Elt Ideal) := m ((c.tc : Thread nD τ).loc main_arg10)

/-- The input, time first. -/
theorem v0_apply (t : Fin 50) (r : Fin 512) (j : Fin 128) :
    (V1 m ρ c main_call0_v0 : (⟨S50x512x128, .f32⟩ : BufTy).Contents (Elt Ideal)) (ix3 t r j) = A0 m c (ix3 r t j) := by
  show after hostOps0 (W0 m ρ c) (Proc.devRef .tc main_call0_v0) _ = _
  unfold hostOps0
  after_results
  simp only [StableHlo.TRef.toBuf, StableHlo.TRef.ofBuf, cast_cast, cast_eq]
  pointwise

/-- The joined weights' first half. -/
theorem v4_lo (k : Fin 128) (j : Fin 512) :
    (V1 m ρ c main_call0_v4 : (⟨S256x512, .bf16⟩ : BufTy).Contents (Elt Ideal)) (ix2 ⟨k.val, by omega⟩ j) = A1 m c (ix2 j k) := by
  show after hostOps0 (W0 m ρ c) (Proc.devRef .tc main_call0_v4) _ = _
  unfold hostOps0
  after_results
  simp only [StableHlo.TRef.toBuf, StableHlo.TRef.ofBuf, cast_cast, cast_eq]
  pointwise

/-- The joined weights' second half. -/
theorem v4_hi (k : Fin 128) (j : Fin 512) :
    (V1 m ρ c main_call0_v4 : (⟨S256x512, .bf16⟩ : BufTy).Contents (Elt Ideal)) (ix2 ⟨128 + k.val, by omega⟩ j) = A2 m c (ix2 j k) := by
  show after hostOps0 (W0 m ρ c) (Proc.devRef .tc main_call0_v4) _ = _
  unfold hostOps0
  after_results
  simp only [StableHlo.TRef.toBuf, StableHlo.TRef.ofBuf, cast_cast, cast_eq]
  pointwise

/-- The summed biases as a row. -/
theorem v6_apply (j : Fin 512) :
    (V1 m ρ c main_call0_v6 : (⟨S1x512, .f32⟩ : BufTy).Contents (Elt Ideal)) (ix2 0 j) = (A3 m c (ix1 j) : EReal) + (A4 m c (ix1 j) : EReal) := by
  show after hostOps0 (W0 m ρ c) (Proc.devRef .tc main_call0_v6) _ = _
  unfold hostOps0
  after_results
  simp only [StableHlo.TRef.toBuf, StableHlo.TRef.ofBuf, cast_cast, cast_eq]
  pointwise

/-- The query columns of the last time. -/
theorem v9_apply (r : Fin 512) (j : Fin 64) :
    (V3 m ρ c main_call0_v9 : (⟨S512x64, .f32⟩ : BufTy).Contents (Elt Ideal)) (ix2 r j) = A0 m c (ix3 r 49 ⟨j.val, by omega⟩) := by
  show after hostOps1 (W2 m ρ c) (Proc.devRef .tc main_call0_v9) _ = _
  unfold hostOps1
  after_results
  rw [W2_args m ρ c main_arg0 (by decide)]
  simp only [StableHlo.TRef.toBuf, StableHlo.TRef.ofBuf, cast_cast, cast_eq]
  pointwise

/-- The query weights transposed. -/
theorem v10_apply (k j : Fin 64) :
    (V3 m ρ c main_call0_v10 : (⟨S64x64, .f32⟩ : BufTy).Contents (Elt Ideal)) (ix2 k j) = A5 m c (ix2 j k) := by
  show after hostOps1 (W2 m ρ c) (Proc.devRef .tc main_call0_v10) _ = _
  unfold hostOps1
  after_results
  rw [W2_args m ρ c main_arg5 (by decide)]
  simp only [StableHlo.TRef.toBuf, StableHlo.TRef.ofBuf, cast_cast, cast_eq]
  pointwise

/-- The query bias as a row. -/
theorem v11_apply (j : Fin 64) :
    (V3 m ρ c main_call0_v11 : (⟨S1x64, .f32⟩ : BufTy).Contents (Elt Ideal)) (ix2 0 j) = A6 m c (ix1 j) := by
  show after hostOps1 (W2 m ρ c) (Proc.devRef .tc main_call0_v11) _ = _
  unfold hostOps1
  after_results
  rw [W2_args m ρ c main_arg6 (by decide)]
  simp only [StableHlo.TRef.toBuf, StableHlo.TRef.ofBuf, cast_cast, cast_eq]
  pointwise

/-- The keys transposed. -/
theorem v12_apply (d : Fin 64) (s : Fin 65536) :
    (V3 m ρ c main_call0_v12 : (⟨S64x65536, .f32⟩ : BufTy).Contents (Elt Ideal)) (ix2 d s) = A7 m c (ix2 s d) := by
  show after hostOps1 (W2 m ρ c) (Proc.devRef .tc main_call0_v12) _ = _
  unfold hostOps1
  after_results
  rw [W2_args m ρ c main_arg7 (by decide)]
  simp only [StableHlo.TRef.toBuf, StableHlo.TRef.ofBuf, cast_cast, cast_eq]
  pointwise

/-- The values transposed. -/
theorem v13_apply (d : Fin 64) (s : Fin 65536) :
    (V3 m ρ c main_call0_v13 : (⟨S64x65536, .f32⟩ : BufTy).Contents (Elt Ideal)) (ix2 d s) = A8 m c (ix2 s d) := by
  show after hostOps1 (W2 m ρ c) (Proc.devRef .tc main_call0_v13) _ = _
  unfold hostOps1
  after_results
  rw [W2_args m ρ c main_arg8 (by decide)]
  simp only [StableHlo.TRef.toBuf, StableHlo.TRef.ofBuf, cast_cast, cast_eq]
  pointwise

/-- The output weights' hidden columns transposed. -/
theorem v15_apply (k j : Fin 128) :
    (V3 m ρ c main_call0_v15 : (⟨S128x128, .f32⟩ : BufTy).Contents (Elt Ideal)) (ix2 k j) = A9 m c (ix2 j ⟨k.val, by omega⟩) := by
  show after hostOps1 (W2 m ρ c) (Proc.devRef .tc main_call0_v15) _ = _
  unfold hostOps1
  after_results
  rw [W2_args m ρ c main_arg9 (by decide)]
  simp only [StableHlo.TRef.toBuf, StableHlo.TRef.ofBuf, cast_cast, cast_eq]
  pointwise

/-- The output weights' context columns transposed. -/
theorem v17_apply (k : Fin 64) (j : Fin 128) :
    (V3 m ρ c main_call0_v17 : (⟨S64x128, .f32⟩ : BufTy).Contents (Elt Ideal)) (ix2 k j) = A9 m c (ix2 j ⟨128 + k.val, by omega⟩) := by
  show after hostOps1 (W2 m ρ c) (Proc.devRef .tc main_call0_v17) _ = _
  unfold hostOps1
  after_results
  rw [W2_args m ρ c main_arg9 (by decide)]
  simp only [StableHlo.TRef.toBuf, StableHlo.TRef.ofBuf, cast_cast, cast_eq]
  pointwise

/-- The output bias as a row. -/
theorem v18_apply (j : Fin 128) :
    (V3 m ρ c main_call0_v18 : (⟨S1x128, .f32⟩ : BufTy).Contents (Elt Ideal)) (ix2 0 j) = A10 m c (ix1 j) := by
  show after hostOps1 (W2 m ρ c) (Proc.devRef .tc main_call0_v18) _ = _
  unfold hostOps1
  after_results
  rw [W2_args m ρ c main_arg10 (by decide)]
  simp only [StableHlo.TRef.toBuf, StableHlo.TRef.ofBuf, cast_cast, cast_eq]
  pointwise

end Cert.KernelIdeal.Whole
-- ==== Proof.KernelIdeal.LstmVal.lean ====
module

public import proofs.«01_k».proof.Proof.KernelIdeal.LstmDat
public import Idealize.ShloMosaic.Lib.Pointwise
public import Idealize.ShloMosaic.Lib.WritesUnit
public import Idealize.ShloMosaic.Lib.Pipeline.Value

/-!
# What one step of the recurrence leaves, over the extended reals

The step kernel's payloads read at an index, and through them the two scratch arrays and the output after a first, a
middle and a last point.
-/

@[expose] public section

set_option maxRecDepth 16384

noncomputable section

namespace Cert.KernelIdeal.Lstm

open Cert.KernelIdeal Cert.KernelIdeal.Gen
open Idealize.ShloMosaic Idealize.ShloMosaic.TcCoe Idealize.ShloMosaic.Pipeline
open Idealize.SL Idealize.SL.RA Idealize.SL.BI
open Idealize.ShloMosaic.Pipeline (Dat Cfg Window BodyObligation cellOf)

variable [Named Ideal]

/-- The word `0x3F000000` as the kernel's constant. -/
abbrev hf : EReal := Ideal.ofBits .f32 0x3F000000#32

/-- The logistic function as the kernel writes it, through a hyperbolic tangent of half the argument. -/
def halfTanh (x : EReal) : EReal := hf * Ideal.tanh (hf * x) + hf

/-- The pre-activation of gate column `j` in batch row `r`, from the joined input and hidden state. -/
def gate (xh : Vec Ideal S512x256 .bf16) (W : Vec Ideal S256x512 .bf16) (B : Vec Ideal S1x512 .f32) (r : Fin 512) (j : Fin 512) : EReal :=
  (∑ k : Fin 256, xh (ix2 r k) * W (ix2 k j)) + B (ix2 0 j)

/-- The new cell state at row `r`, column `j`. -/
def cellNew (xh : Vec Ideal S512x256 .bf16) (W : Vec Ideal S256x512 .bf16) (B : Vec Ideal S1x512 .f32) (c : Vec Ideal S512x128 .f32) (r : Fin 512) (j : Fin 128) : EReal :=
  halfTanh (gate xh W B r ⟨128 + j.val, by omega⟩) * c (ix2 r j)
    + halfTanh (gate xh W B r ⟨j.val, by omega⟩) * Ideal.tanh (gate xh W B r ⟨256 + j.val, by omega⟩)

/-- The new hidden state at row `r`, column `j`. -/
def hidNew (xh : Vec Ideal S512x256 .bf16) (W : Vec Ideal S256x512 .bf16) (B : Vec Ideal S1x512 .f32) (c : Vec Ideal S512x128 .f32) (r : Fin 512) (j : Fin 128) : EReal :=
  halfTanh (gate xh W B r ⟨384 + j.val, by omega⟩) * Ideal.tanh (cellNew xh W B c r j)

/-- The gates' pre-activations read at an index. -/
theorem pay8_apply (xh : Vec Ideal S512x256 .bf16) (W : Vec Ideal S256x512 .bf16) (B : Vec Ideal S1x512 .f32) (r : Fin 512) (j : Fin 512) :
    k0_pay8 (F := Ideal) xh W B (ix2 r j) = gate xh W B r j := by
  pointwise [k0_pay8, gate]

/-- The stored cell state read at an index. -/
theorem pay3_apply (xh : Vec Ideal S512x256 .bf16) (W : Vec Ideal S256x512 .bf16) (B : Vec Ideal S1x512 .f32) (c : Vec Ideal S512x128 .f32) (r : Fin 512) (j : Fin 128) :
    k0_pay3 (F := Ideal) (k0_pay9 xh W B) (k0_pay10 xh W B) (k0_pay11 xh W B) c (ix2 r j) = cellNew xh W B c r j := by
  pointwise [k0_pay3, k0_pay1, k0_pay9, k0_pay10, k0_pay11, pay8_apply]
  rfl

/-- The hidden state read at an index. -/
theorem pay2_apply (xh : Vec Ideal S512x256 .bf16) (W : Vec Ideal S256x512 .bf16) (B : Vec Ideal S1x512 .f32) (c : Vec Ideal S512x128 .f32) (r : Fin 512) (j : Fin 128) :
    k0_pay2 (F := Ideal) (k0_pay9 xh W B) (k0_pay10 xh W B) (k0_pay11 xh W B) (k0_pay12 xh W B) (FloatOps.ofBits FTy.f32 1056964608#32) c (ix2 r j) = hidNew xh W B c r j := by
  pointwise [k0_pay2, k0_pay1, k0_pay9, k0_pay10, k0_pay11, k0_pay12, pay8_apply]
  rfl

/-- The stored hidden state read at an index. -/
theorem pay4_apply (xh : Vec Ideal S512x256 .bf16) (W : Vec Ideal S256x512 .bf16) (B : Vec Ideal S1x512 .f32) (c : Vec Ideal S512x128 .f32) (r : Fin 512) (j : Fin 128) :
    k0_pay4 (F := Ideal) (k0_pay9 xh W B) (k0_pay10 xh W B) (k0_pay11 xh W B) (k0_pay12 xh W B) (FloatOps.ofBits FTy.f32 1056964608#32) c (ix2 r j) = hidNew xh W B c r j := by
  pointwise [k0_pay4]
  exact pay2_apply xh W B c r j

/-- The stored input block read at an index. -/
theorem pay7_apply (x : Vec Ideal S1x512x128 .f32)  (r : Fin 512) (j : Fin 128) :
    k0_pay7 (F := Ideal) x (ix2 r j) = x (ix3 0 r j) := by
  pointwise [k0_pay7]

/-- The joined array starts at zero. -/
theorem pay5_apply (r : Fin 512) (j : Fin 256) : k0_pay5 (F := Ideal) (ix2 r j) = 0 := by
  pointwise [k0_pay5]

/-- The cell state starts at zero. -/
theorem pay6_apply (r : Fin 512) (j : Fin 128) : k0_pay6 (F := Ideal) (ix2 r j) = 0 := by
  pointwise [k0_pay6]
/-- The joined array the product reads: the input block in the first 128 columns, what the scratch held in the others. -/
def joined (x : Vec Ideal S1x512x128 .f32) (xs : Vec Ideal S512x256 .bf16) : Vec Ideal S512x256 .bf16 :=
  fun y => if h : (y 1).val < 128 then x (ix3 0 (y 0) ⟨(y 1).val, h⟩) else xs y

/-- The index whose two entries are zero. -/
theorem zero2 : (![0, 0] : Fin 2 → ℕ) = fun _ => 0 := by funext a; fin_cases a <;> rfl
/-- The index whose three entries are zero. -/
theorem zero3 : (![0, 0, 0] : Fin 3 → ℕ) = fun _ => 0 := by funext a; fin_cases a <;> rfl

/-- Storing the input block over the first 128 columns of an array leaves the joined array. -/
theorem read_joined {sp : Space} (v : View sig .tc sp S512x256 .bf16) (f : v.ty.Contents (Elt Ideal)) (x : Vec Ideal S1x512x128 .f32)
    (L : List (View.Piece (Elt Ideal) S512x256 .bf16)) (xs : Vec Ideal S512x256 .bf16) (hL : v.read (Elt Ideal) (v.writes (Elt Ideal) f L) = xs) :
    v.read (Elt Ideal) (v.writes (Elt Ideal) f (⟨Rect.unit ![0, 0] ![512, 128] inb_S512x256_S512x128_0_0, k0_pay7 x⟩ :: L)) = joined x xs := by
  funext y
  obtain ⟨r, k, rfl⟩ : ∃ (r : Fin 512) (k : Fin 256), y = ix2 r k := ⟨y 0, y 1, eq_ix2 y⟩
  show _ = if h : k.val < 128 then x (ix3 0 r ⟨k.val, h⟩) else xs (ix2 r k)
  by_cases h : k.val < 128
  · rw [dif_pos h]
    refine (View.read_writes_cons_unit_of_mem v f _ _ _ (ix2 r k) (ix2 r (⟨k.val, h⟩ : Fin 128)) rfl
      (fun a => by fin_cases a <;> simp [ix2])).trans ?_
    exact pay7_apply x r ⟨k.val, h⟩
  · rw [dif_neg h, View.read_writes_cons_unit_of_not_mem v f _ _ _ (ix2 r k) rfl (1 : Fin 2)
      (Or.inr (by show 0 + 128 ≤ k.val; omega)), hL]

/-- Over an array stored with zeros, the joined array is zero off the input block. -/
theorem read_zero5 {sp : Space} (v : View sig .tc sp S512x256 .bf16) (f : v.ty.Contents (Elt Ideal)) :
    v.read (Elt Ideal) (v.writes (Elt Ideal) f [⟨Rect.unit ![0, 0] ![512, 256] inb_S512x256_S512x256_0_0, k0_pay5 (F := Ideal)⟩]) = fun _ => 0 := by
  funext y
  obtain ⟨r, k, rfl⟩ : ∃ (r : Fin 512) (k : Fin 256), y = ix2 r k := ⟨y 0, y 1, eq_ix2 y⟩
  refine (View.read_writes_cons_unit_of_mem v f _ _ _ (ix2 r k) (ix2 r k) rfl (fun a => by fin_cases a <;> simp [ix2])).trans ?_
  exact pay5_apply r k

/-- The cell state after zeros are stored. -/
theorem read_zero6 {sp : Space} (v : View sig .tc sp S512x128 .f32) (f : v.ty.Contents (Elt Ideal)) :
    v.read (Elt Ideal) (v.writes (Elt Ideal) f [⟨Rect.unit ![0, 0] ![512, 128] inb_S512x128_S512x128_0_0, k0_pay6 (F := Ideal)⟩]) = fun _ => 0 := by
  funext y
  obtain ⟨r, k, rfl⟩ : ∃ (r : Fin 512) (k : Fin 128), y = ix2 r k := ⟨y 0, y 1, eq_ix2 y⟩
  refine (View.read_writes_cons_unit_of_mem v f _ _ _ (ix2 r k) (ix2 r k) rfl (fun a => by fin_cases a <;> simp [ix2])).trans ?_
  exact pay6_apply r k

section Body
variable (c : Dev nD) (i : grid0.Coords) (arg1 : Memref sig .tc .vmem S1x512x128 .f32) (harg1 : arg1.IsWhole) (arg2 : Memref sig .tc .vmem S256x512 .bf16) (harg2 : arg2.IsWhole) (arg3 : Memref sig .tc .vmem S1x512 .f32) (harg3 : arg3.IsWhole) (arg4 : Memref sig .tc .vmem S512x128 .f32) (harg4 : arg4.IsWhole) (arg5 : Memref sig .tc .vmem S512x256 .bf16) (harg5 : arg5.IsWhole) (arg6 : Memref sig .tc .vmem S512x128 .f32) (harg6 : arg6.IsWhole)
variable (x0 : Vec Ideal S1x512x128 .f32) (x1 : Vec Ideal S256x512 .bf16) (x2 : Vec Ideal S1x512 .f32)

/-- A first point leaves the hidden state in the last 128 columns of the joined array. -/
theorem sout0_A_0_apply (hc0 : cond0_0 i) (hc1 : ¬cond0_1 i) (r : Fin 512) (j : Fin 128) :
    sout0_A_0 c i arg1 harg1 arg2 harg2 arg3 harg3 arg4 harg4 arg5 harg5 arg6 harg6 hc0 hc1 x0 x1 x2 (ix2 r ⟨128 + j.val, by omega⟩) = hidNew (joined x0 (fun _ => 0)) x1 x2 (fun _ => 0) r j := by
  unfold sout0_A_0 kernelRun0_A
  dsimp only
  sl_unfold_words
  simp only [View.readCov, View.readAt_eq_ld, harg1.read_unread, harg2.read_unread, harg3.read_unread, harg6.read_unread]
  rw [View.ld_unit_zero zero3 _ x0, View.ld_unit_zero zero2 _ x1, View.ld_unit_zero zero2 _ x2]
  rw [View.read_writes_cons_unit_of_mem _ _ _ _ _ _ (ix2 r j) rfl (fun a => by fin_cases a <;> simp [ix2])]
  rw [View.ld_unit_zero zero2 inb_S512x256_S512x256_0_0, View.ld_unit_zero zero2 inb_S512x128_S512x128_0_0,
    read_joined arg5.view arg5.view.junk x0 _ _ (read_zero5 arg5.view _), read_zero6]
  exact pay4_apply _ x1 x2 _ r j

/-- A first point leaves the cell state. -/
theorem sout0_A_1_apply (hc0 : cond0_0 i) (hc1 : ¬cond0_1 i) (r : Fin 512) (j : Fin 128) :
    sout0_A_1 c i arg1 harg1 arg2 harg2 arg3 harg3 arg4 harg4 arg5 harg5 arg6 harg6 hc0 hc1 x0 x1 x2 (ix2 r j) = cellNew (joined x0 (fun _ => 0)) x1 x2 (fun _ => 0) r j := by
  unfold sout0_A_1 kernelRun0_A
  dsimp only
  sl_unfold_words
  simp only [View.readCov, View.readAt_eq_ld, harg1.read_unread, harg2.read_unread, harg3.read_unread, harg6.read_unread]
  rw [View.ld_unit_zero zero3 _ x0, View.ld_unit_zero zero2 _ x1, View.ld_unit_zero zero2 _ x2]
  rw [View.read_writes_cons_unit_of_mem _ _ _ _ _ _ (ix2 r j) rfl (fun a => by fin_cases a <;> simp [ix2])]
  rw [View.ld_unit_zero zero2 inb_S512x256_S512x256_0_0, View.ld_unit_zero zero2 inb_S512x128_S512x128_0_0,
    read_joined arg5.view arg5.view.junk x0 _ _ (read_zero5 arg5.view _), read_zero6]
  exact pay3_apply _ x1 x2 _ r j

/-- A middle point leaves the hidden state in the last 128 columns of the joined array. -/
theorem sout0_B_0_apply (hc0 : ¬cond0_0 i) (hc1 : ¬cond0_1 i) (xs0 : Vec Ideal S512x256 .bf16) (xs1 : Vec Ideal S512x128 .f32) (r : Fin 512) (j : Fin 128) :
    sout0_B_0 c i arg1 harg1 arg2 harg2 arg3 harg3 arg4 harg4 arg5 harg5 arg6 harg6 hc0 hc1 x0 x1 x2 xs0 xs1 (ix2 r ⟨128 + j.val, by omega⟩) = hidNew (joined x0 xs0) x1 x2 xs1 r j := by
  unfold sout0_B_0 kernelRun0_B
  dsimp only
  sl_unfold_words
  simp only [View.readAt_eq_ld, harg1.read_unread, harg2.read_unread, harg3.read_unread, harg6.read_unread]
  rw [View.ld_unit_zero zero3 _ x0, View.ld_unit_zero zero2 _ x1, View.ld_unit_zero zero2 _ x2]
  rw [View.ld_unit_zero zero2 _ xs1]
  rw [View.read_writes_cons_unit_of_mem _ _ _ _ _ _ (ix2 r j) rfl (fun a => by fin_cases a <;> simp [ix2])]
  rw [View.ld_unit_zero zero2, read_joined arg5.view (harg5.unread xs0) x0 [] xs0 (harg5.read_unread xs0)]
  exact pay4_apply _ x1 x2 xs1 r j

/-- A middle point leaves the cell state. -/
theorem sout0_B_1_apply (hc0 : ¬cond0_0 i) (hc1 : ¬cond0_1 i) (xs0 : Vec Ideal S512x256 .bf16) (xs1 : Vec Ideal S512x128 .f32) (r : Fin 512) (j : Fin 128) :
    sout0_B_1 c i arg1 harg1 arg2 harg2 arg3 harg3 arg4 harg4 arg5 harg5 arg6 harg6 hc0 hc1 x0 x1 x2 xs0 xs1 (ix2 r j) = cellNew (joined x0 xs0) x1 x2 xs1 r j := by
  unfold sout0_B_1 kernelRun0_B
  dsimp only
  sl_unfold_words
  simp only [View.readAt_eq_ld, harg1.read_unread, harg2.read_unread, harg3.read_unread, harg6.read_unread]
  rw [View.ld_unit_zero zero3 _ x0, View.ld_unit_zero zero2 _ x1, View.ld_unit_zero zero2 _ x2]
  rw [View.ld_unit_zero zero2 _ xs1]
  rw [View.read_writes_cons_unit_of_mem _ _ _ _ _ _ (ix2 r j) rfl (fun a => by fin_cases a <;> simp [ix2])]
  rw [View.ld_unit_zero zero2, read_joined arg5.view (harg5.unread xs0) x0 [] xs0 (harg5.read_unread xs0)]
  exact pay3_apply _ x1 x2 xs1 r j

/-- A last point leaves the hidden state in the last 128 columns of the joined array. -/
theorem sout0_C_0_apply (hc0 : ¬cond0_0 i) (hc1 : cond0_1 i) (xs0 : Vec Ideal S512x256 .bf16) (xs1 : Vec Ideal S512x128 .f32) (r : Fin 512) (j : Fin 128) :
    sout0_C_0 c i arg1 harg1 arg2 harg2 arg3 harg3 arg4 harg4 arg5 harg5 arg6 harg6 hc0 hc1 x0 x1 x2 xs0 xs1 (ix2 r ⟨128 + j.val, by omega⟩) = hidNew (joined x0 xs0) x1 x2 xs1 r j := by
  unfold sout0_C_0 kernelRun0_C
  dsimp only
  sl_unfold_words
  simp only [View.readAt_eq_ld, harg1.read_unread, harg2.read_unread, harg3.read_unread, harg6.read_unread]
  rw [View.ld_unit_zero zero3 _ x0, View.ld_unit_zero zero2 _ x1, View.ld_unit_zero zero2 _ x2]
  rw [View.ld_unit_zero zero2 _ xs1]
  rw [View.read_writes_cons_unit_of_mem _ _ _ _ _ _ (ix2 r j) rfl (fun a => by fin_cases a <;> simp [ix2])]
  rw [View.ld_unit_zero zero2, read_joined arg5.view (harg5.unread xs0) x0 [] xs0 (harg5.read_unread xs0)]
  exact pay4_apply _ x1 x2 xs1 r j

/-- A last point leaves the cell state. -/
theorem sout0_C_1_apply (hc0 : ¬cond0_0 i) (hc1 : cond0_1 i) (xs0 : Vec Ideal S512x256 .bf16) (xs1 : Vec Ideal S512x128 .f32) (r : Fin 512) (j : Fin 128) :
    sout0_C_1 c i arg1 harg1 arg2 harg2 arg3 harg3 arg4 harg4 arg5 harg5 arg6 harg6 hc0 hc1 x0 x1 x2 xs0 xs1 (ix2 r j) = cellNew (joined x0 xs0) x1 x2 xs1 r j := by
  unfold sout0_C_1 kernelRun0_C
  dsimp only
  sl_unfold_words
  simp only [View.readAt_eq_ld, harg1.read_unread, harg2.read_unread, harg3.read_unread, harg6.read_unread]
  rw [View.ld_unit_zero zero3 _ x0, View.ld_unit_zero zero2 _ x1, View.ld_unit_zero zero2 _ x2]
  rw [View.ld_unit_zero zero2 _ xs1]
  rw [View.read_writes_cons_unit_of_mem _ _ _ _ _ _ (ix2 r j) rfl (fun a => by fin_cases a <;> simp [ix2])]
  rw [View.ld_unit_zero zero2, read_joined arg5.view (harg5.unread xs0) x0 [] xs0 (harg5.read_unread xs0)]
  exact pay3_apply _ x1 x2 xs1 r j

/-- A last point leaves the hidden state as the output. -/
theorem out0_C_3_apply (hc0 : ¬cond0_0 i) (hc1 : cond0_1 i) (xs0 : Vec Ideal S512x256 .bf16) (xs1 : Vec Ideal S512x128 .f32) (r : Fin 512) (j : Fin 128) :
    out0_C_3 c i arg1 harg1 arg2 harg2 arg3 harg3 arg4 harg4 arg5 harg5 arg6 harg6 hc0 hc1 x0 x1 x2 xs0 xs1 (ix2 r j) = hidNew (joined x0 xs0) x1 x2 xs1 r j := by
  unfold out0_C_3 kernelRun0_C
  dsimp only
  sl_unfold_words
  simp only [View.readAt_eq_ld, harg1.read_unread, harg2.read_unread, harg3.read_unread, harg6.read_unread]
  rw [View.ld_unit_zero zero3 _ x0, View.ld_unit_zero zero2 _ x1, View.ld_unit_zero zero2 _ x2]
  rw [View.ld_unit_zero zero2 _ xs1]
  rw [View.read_writes_cons_unit_of_mem _ _ _ _ _ _ (ix2 r j) rfl (fun a => by fin_cases a <;> simp [ix2])]
  rw [View.ld_unit_zero zero2, read_joined arg5.view (harg5.unread xs0) x0 [] xs0 (harg5.read_unread xs0)]
  exact pay2_apply _ x1 x2 xs1 r j

end Body

end Cert.KernelIdeal.Lstm
-- ==== Proof.ReferenceIdeal.Loop.lean ====
/- The run of the reference program: its operations in stretches, the loop of fifty trips, and what one trip leaves in
   the buffers it carries. -/
module

public import proofs.«01_k».proof.Proof.Gen.ReferenceIdeal
public import Idealize.ShloMosaic.Lib.Pipeline.Regions
public import Idealize.ShloMosaic.Lib.StableHlo.RunLoop
public import Idealize.ShloMosaic.Lib.StableHlo.RunRead
public import Idealize.ShloMosaic.Lib.Scf.ExitTest
public import Idealize.ShloMosaic.Lib.Scf.Counter

@[expose] public section

set_option maxRecDepth 1036

noncomputable section

noncomputable section

namespace Cert.ReferenceIdeal.Loop

open Cert.ReferenceIdeal Cert.ReferenceIdeal.Gen

open Idealize.ShloMosaic Idealize.ShloMosaic.TcCoe
open Idealize.SL Idealize.SL.RA Idealize.SL.BI
open scoped Idealize.SL.BI
open Idealize.SL.BI.BIBase Idealize.SL.Sem

variable {F : FTy → Type} [FloatOps F]

abbrev hostOps0 : List (HloOp τ sig (Elt F)) :=
  [ StableHlo.nullary main_cst (constant S_ .f32 0x00000000#32),
    StableHlo.unary main_cst main_v0 (broadcastInDim S512x128 ![] bcast_S_S512x128 : (⟨S_, .f32⟩ : BufTy).Contents (Elt F) → (⟨S512x128, .f32⟩ : BufTy).Contents (Elt F)),
    StableHlo.nullary main_cst_0 (constant S_ .f32 0x00000000#32),
    StableHlo.unary main_cst_0 main_v1 (broadcastInDim S512x128 ![] bcast_S_S512x128 : (⟨S_, .f32⟩ : BufTy).Contents (Elt F) → (⟨S512x128, .f32⟩ : BufTy).Contents (Elt F)),
    StableHlo.unary main_arg0 main_v2 ((transpose S50x512x128 [1, 0, 2] · transposes_S512x50x128_S50x512x128_1_0_2) : (⟨S512x50x128, .f32⟩ : BufTy).Contents (Elt F) → (⟨S50x512x128, .f32⟩ : BufTy).Contents (Elt F)),
    StableHlo.nullary main_c (constantI S_ 32 0#32),
    StableHlo.unary main_v2 main_v3_0 id,
    StableHlo.unary main_arg1 main_v3_1 id,
    StableHlo.unary main_arg2 main_v3_2 id,
    StableHlo.unary main_arg3 main_v3_3 id,
    StableHlo.unary main_arg4 main_v3_4 id,
    StableHlo.unary main_c main_v3_5 id,
    StableHlo.unary main_v0 main_v3_6 id,
    StableHlo.unary main_v1 main_v3_7 id ]
/-- These operations read and write buffers of the program only. -/
theorem hostOps0_sub : (hostOps0 : List (HloOp τ sig (Elt F))).Forall fun op => op.bufs ⊆ StableHlo.tcRefs τ sig :=
  ⟨StableHlo.nullary_bufs_sub .., StableHlo.unary_bufs_sub .., StableHlo.nullary_bufs_sub .., StableHlo.unary_bufs_sub .., StableHlo.unary_bufs_sub .., StableHlo.nullary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub ..⟩
abbrev hostOps0_1 : List (HloOp τ sig (Elt F)) :=
  [ StableHlo.unary main_arg0 main_v4 ((extractStridedSlice S512x1x64 ![0, 49, 0] · slices_S512x50x128_S512x1x64_0_49_0) : (⟨S512x50x128, .f32⟩ : BufTy).Contents (Elt F) → (⟨S512x1x64, .f32⟩ : BufTy).Contents (Elt F)),
    StableHlo.reshape main_v4 main_v5 (rfl : (.f32 : EltTy) = .f32) shapeCasts_S512x1x64_S512x64,
    StableHlo.unary main_arg5 main_v6 ((transpose S64x64 [1, 0] · transposes_S64x64_S64x64_1_0) : (⟨S64x64, .f32⟩ : BufTy).Contents (Elt F) → (⟨S64x64, .f32⟩ : BufTy).Contents (Elt F)),
    StableHlo.binary main_v5 main_v6 main_v7 ((fun l r => Host.dotGeneral dot_S512x64_S64x64_S512x64_1_0_0_1_n_n none l r) : (⟨S512x64, .f32⟩ : BufTy).Contents (Elt F) → (⟨S64x64, .f32⟩ : BufTy).Contents (Elt F) → (⟨S512x64, .f32⟩ : BufTy).Contents (Elt F)),
    StableHlo.unary main_arg6 main_v8 (broadcastInDim S1x64 ![1] bcast_S64_S1x64_1 : (⟨S64, .f32⟩ : BufTy).Contents (Elt F) → (⟨S1x64, .f32⟩ : BufTy).Contents (Elt F)),
    StableHlo.unary main_v8 main_v9 (broadcastInDim S512x64 ![0, 1] bcast_S1x64_S512x64_0_1 : (⟨S1x64, .f32⟩ : BufTy).Contents (Elt F) → (⟨S512x64, .f32⟩ : BufTy).Contents (Elt F)),
    StableHlo.binary main_v7 main_v9 main_v10 (addf : (⟨S512x64, .f32⟩ : BufTy).Contents (Elt F) → (⟨S512x64, .f32⟩ : BufTy).Contents (Elt F) → (⟨S512x64, .f32⟩ : BufTy).Contents (Elt F)) ]
/-- These operations read and write buffers of the program only. -/
theorem hostOps0_1_sub : (hostOps0_1 : List (HloOp τ sig (Elt F))).Forall fun op => op.bufs ⊆ StableHlo.tcRefs τ sig :=
  ⟨StableHlo.unary_bufs_sub .., StableHlo.reshape_bufs_sub .., StableHlo.unary_bufs_sub .., StableHlo.binary_bufs_sub .., StableHlo.unary_bufs_sub .., StableHlo.unary_bufs_sub .., StableHlo.binary_bufs_sub ..⟩
abbrev hostOps0_2 : List (HloOp τ sig (Elt F)) :=
  [ StableHlo.TRef.binary (.of main_v10 : StableHlo.TRef sig ⟨S512x64, .f32⟩) (.of main_v10 : StableHlo.TRef sig ⟨S512x64, .f32⟩) (.of main_call1_v0 : StableHlo.TRef sig ⟨S512x64, .f32⟩) mulf,
    StableHlo.TRef.nullary (.of main_call1_cst : StableHlo.TRef sig ⟨S_, .f32⟩) (constant S_ .f32 0x00000000#32),
    StableHlo.TRef.binary (.of main_call1_v0 : StableHlo.TRef sig ⟨S512x64, .f32⟩) (.of main_call1_cst : StableHlo.TRef sig ⟨S_, .f32⟩) (.of main_call1_v1 : StableHlo.TRef sig ⟨S512, .f32⟩) (fun x v => Host.reduceAdd x v reducesTo_S512x64_S512_d1 h_S_),
    StableHlo.TRef.unary (.of main_call1_v1 : StableHlo.TRef sig ⟨S512, .f32⟩) (.of main_call1_v2 : StableHlo.TRef sig ⟨S512x1, .f32⟩) (broadcastInDim S512x1 ![0] bcast_S512_S512x1_0),
    StableHlo.TRef.unary (.of main_call1_v2 : StableHlo.TRef sig ⟨S512x1, .f32⟩) (.of main_v11 : StableHlo.TRef sig ⟨S512x1, .f32⟩) Host.sqrt ]
/-- These operations read and write buffers of the program only. -/
theorem hostOps0_2_sub : (hostOps0_2 : List (HloOp τ sig (Elt F))).Forall fun op => op.bufs ⊆ StableHlo.tcRefs τ sig :=
  ⟨StableHlo.binary_bufs_sub .., StableHlo.nullary_bufs_sub .., StableHlo.binary_bufs_sub .., StableHlo.unary_bufs_sub .., StableHlo.unary_bufs_sub ..⟩
abbrev hostOps0_3 : List (HloOp τ sig (Elt F)) :=
  [ StableHlo.nullary main_cst_1 (constant S_ .f32 0x322BCC77#32),
    StableHlo.unary main_cst_1 main_v12 (broadcastInDim S512x1 ![] bcast_S_S512x1 : (⟨S_, .f32⟩ : BufTy).Contents (Elt F) → (⟨S512x1, .f32⟩ : BufTy).Contents (Elt F)),
    StableHlo.binary main_v11 main_v12 main_v13 (addf : (⟨S512x1, .f32⟩ : BufTy).Contents (Elt F) → (⟨S512x1, .f32⟩ : BufTy).Contents (Elt F) → (⟨S512x1, .f32⟩ : BufTy).Contents (Elt F)),
    StableHlo.unary main_v13 main_v14 (broadcastInDim S512x64 ![0, 1] bcast_S512x1_S512x64_0_1 : (⟨S512x1, .f32⟩ : BufTy).Contents (Elt F) → (⟨S512x64, .f32⟩ : BufTy).Contents (Elt F)),
    StableHlo.binary main_v10 main_v14 main_v15 (Host.divf : (⟨S512x64, .f32⟩ : BufTy).Contents (Elt F) → (⟨S512x64, .f32⟩ : BufTy).Contents (Elt F) → (⟨S512x64, .f32⟩ : BufTy).Contents (Elt F)) ]
/-- These operations read and write buffers of the program only. -/
theorem hostOps0_3_sub : (hostOps0_3 : List (HloOp τ sig (Elt F))).Forall fun op => op.bufs ⊆ StableHlo.tcRefs τ sig :=
  ⟨StableHlo.nullary_bufs_sub .., StableHlo.unary_bufs_sub .., StableHlo.binary_bufs_sub .., StableHlo.unary_bufs_sub .., StableHlo.binary_bufs_sub ..⟩
abbrev hostOps0_4 : List (HloOp τ sig (Elt F)) :=
  [ StableHlo.TRef.binary (.of main_arg7 : StableHlo.TRef sig ⟨S65536x64, .f32⟩) (.of main_arg7 : StableHlo.TRef sig ⟨S65536x64, .f32⟩) (.of main_call2_v0 : StableHlo.TRef sig ⟨S65536x64, .f32⟩) mulf,
    StableHlo.TRef.nullary (.of main_call2_cst : StableHlo.TRef sig ⟨S_, .f32⟩) (constant S_ .f32 0x00000000#32),
    StableHlo.TRef.binary (.of main_call2_v0 : StableHlo.TRef sig ⟨S65536x64, .f32⟩) (.of main_call2_cst : StableHlo.TRef sig ⟨S_, .f32⟩) (.of main_call2_v1 : StableHlo.TRef sig ⟨S65536, .f32⟩) (fun x v => Host.reduceAdd x v reducesTo_S65536x64_S65536_d1 h_S_),
    StableHlo.TRef.unary (.of main_call2_v1 : StableHlo.TRef sig ⟨S65536, .f32⟩) (.of main_call2_v2 : StableHlo.TRef sig ⟨S65536x1, .f32⟩) (broadcastInDim S65536x1 ![0] bcast_S65536_S65536x1_0),
    StableHlo.TRef.unary (.of main_call2_v2 : StableHlo.TRef sig ⟨S65536x1, .f32⟩) (.of main_v16 : StableHlo.TRef sig ⟨S65536x1, .f32⟩) Host.sqrt ]
/-- These operations read and write buffers of the program only. -/
theorem hostOps0_4_sub : (hostOps0_4 : List (HloOp τ sig (Elt F))).Forall fun op => op.bufs ⊆ StableHlo.tcRefs τ sig :=
  ⟨StableHlo.binary_bufs_sub .., StableHlo.nullary_bufs_sub .., StableHlo.binary_bufs_sub .., StableHlo.unary_bufs_sub .., StableHlo.unary_bufs_sub ..⟩
abbrev hostOps0_5 : List (HloOp τ sig (Elt F)) :=
  [ StableHlo.nullary main_cst_2 (constant S_ .f32 0x322BCC77#32),
    StableHlo.unary main_cst_2 main_v17 (broadcastInDim S65536x1 ![] bcast_S_S65536x1 : (⟨S_, .f32⟩ : BufTy).Contents (Elt F) → (⟨S65536x1, .f32⟩ : BufTy).Contents (Elt F)),
    StableHlo.binary main_v16 main_v17 main_v18 (addf : (⟨S65536x1, .f32⟩ : BufTy).Contents (Elt F) → (⟨S65536x1, .f32⟩ : BufTy).Contents (Elt F) → (⟨S65536x1, .f32⟩ : BufTy).Contents (Elt F)),
    StableHlo.unary main_v18 main_v19 (broadcastInDim S65536x64 ![0, 1] bcast_S65536x1_S65536x64_0_1 : (⟨S65536x1, .f32⟩ : BufTy).Contents (Elt F) → (⟨S65536x64, .f32⟩ : BufTy).Contents (Elt F)),
    StableHlo.binary main_arg7 main_v19 main_v20 (Host.divf : (⟨S65536x64, .f32⟩ : BufTy).Contents (Elt F) → (⟨S65536x64, .f32⟩ : BufTy).Contents (Elt F) → (⟨S65536x64, .f32⟩ : BufTy).Contents (Elt F)),
    StableHlo.unary main_v20 main_v21 ((transpose S64x65536 [1, 0] · transposes_S65536x64_S64x65536_1_0) : (⟨S65536x64, .f32⟩ : BufTy).Contents (Elt F) → (⟨S64x65536, .f32⟩ : BufTy).Contents (Elt F)),
    StableHlo.binary main_v15 main_v21 main_v22 ((fun l r => Host.dotGeneral dot_S512x64_S64x65536_S512x65536_1_0_0_1_n_n none l r) : (⟨S512x64, .f32⟩ : BufTy).Contents (Elt F) → (⟨S64x65536, .f32⟩ : BufTy).Contents (Elt F) → (⟨S512x65536, .f32⟩ : BufTy).Contents (Elt F)),
    StableHlo.nullary main_cst_3 (constant S_ .f32 0x3DCCCCCD#32),
    StableHlo.unary main_cst_3 main_v23 (broadcastInDim S512x65536 ![] bcast_S_S512x65536 : (⟨S_, .f32⟩ : BufTy).Contents (Elt F) → (⟨S512x65536, .f32⟩ : BufTy).Contents (Elt F)),
    StableHlo.binary main_v22 main_v23 main_v24 (Host.divf : (⟨S512x65536, .f32⟩ : BufTy).Contents (Elt F) → (⟨S512x65536, .f32⟩ : BufTy).Contents (Elt F) → (⟨S512x65536, .f32⟩ : BufTy).Contents (Elt F)),
    StableHlo.nullary main_cst_4 (constant S_ .f32 0xFF800000#32),
    StableHlo.binary main_v24 main_cst_4 main_v25 ((fun x v => Host.reduce FloatOps.maximumf x v reducesTo_S512x65536_S512_d1 h_S_) : (⟨S512x65536, .f32⟩ : BufTy).Contents (Elt F) → (⟨S_, .f32⟩ : BufTy).Contents (Elt F) → (⟨S512, .f32⟩ : BufTy).Contents (Elt F)),
    StableHlo.nullary main_cst_5 (constant S_ .f32 0xFF800000#32),
    StableHlo.unary main_cst_5 main_v26 (broadcastInDim S512 ![] bcast_S_S512 : (⟨S_, .f32⟩ : BufTy).Contents (Elt F) → (⟨S512, .f32⟩ : BufTy).Contents (Elt F)),
    StableHlo.binary main_v26 main_v25 main_v27 (maximumf : (⟨S512, .f32⟩ : BufTy).Contents (Elt F) → (⟨S512, .f32⟩ : BufTy).Contents (Elt F) → (⟨S512, .f32⟩ : BufTy).Contents (Elt F)),
    StableHlo.unary main_v27 main_v28 (broadcastInDim S512x1 ![0] bcast_S512_S512x1_0 : (⟨S512, .f32⟩ : BufTy).Contents (Elt F) → (⟨S512x1, .f32⟩ : BufTy).Contents (Elt F)),
    StableHlo.unary main_v28 main_v29 (broadcastInDim S512x65536 ![0, 1] bcast_S512x1_S512x65536_0_1 : (⟨S512x1, .f32⟩ : BufTy).Contents (Elt F) → (⟨S512x65536, .f32⟩ : BufTy).Contents (Elt F)),
    StableHlo.binary main_v24 main_v29 main_v30 (subf : (⟨S512x65536, .f32⟩ : BufTy).Contents (Elt F) → (⟨S512x65536, .f32⟩ : BufTy).Contents (Elt F) → (⟨S512x65536, .f32⟩ : BufTy).Contents (Elt F)),
    StableHlo.unary main_v30 main_v31 (Host.exp : (⟨S512x65536, .f32⟩ : BufTy).Contents (Elt F) → (⟨S512x65536, .f32⟩ : BufTy).Contents (Elt F)),
    StableHlo.nullary main_cst_6 (constant S_ .f32 0x00000000#32),
    StableHlo.binary main_v31 main_cst_6 main_v32 ((fun x v => Host.reduceAdd x v reducesTo_S512x65536_S512_d1 h_S_) : (⟨S512x65536, .f32⟩ : BufTy).Contents (Elt F) → (⟨S_, .f32⟩ : BufTy).Contents (Elt F) → (⟨S512, .f32⟩ : BufTy).Contents (Elt F)),
    StableHlo.unary main_v32 main_v33 (broadcastInDim S512x1 ![0] bcast_S512_S512x1_0 : (⟨S512, .f32⟩ : BufTy).Contents (Elt F) → (⟨S512x1, .f32⟩ : BufTy).Contents (Elt F)),
    StableHlo.unary main_v33 main_v34 (broadcastInDim S512x65536 ![0, 1] bcast_S512x1_S512x65536_0_1 : (⟨S512x1, .f32⟩ : BufTy).Contents (Elt F) → (⟨S512x65536, .f32⟩ : BufTy).Contents (Elt F)),
    StableHlo.binary main_v31 main_v34 main_v35 (Host.divf : (⟨S512x65536, .f32⟩ : BufTy).Contents (Elt F) → (⟨S512x65536, .f32⟩ : BufTy).Contents (Elt F) → (⟨S512x65536, .f32⟩ : BufTy).Contents (Elt F)),
    StableHlo.binary main_v35 main_arg8 main_v36 ((fun l r => Host.dotGeneral dot_S512x65536_S65536x64_S512x64_1_0_0_1_n_n none l r) : (⟨S512x65536, .f32⟩ : BufTy).Contents (Elt F) → (⟨S65536x64, .f32⟩ : BufTy).Contents (Elt F) → (⟨S512x64, .f32⟩ : BufTy).Contents (Elt F)),
    StableHlo.binary main_v3_6 main_v36 main_v37 ((fun a b => concatenate S512x192 1 [⟨S512x128, a⟩, ⟨S512x64, b⟩] concatenates_S512x128_S512x64_S512x192_d1) : (⟨S512x128, .f32⟩ : BufTy).Contents (Elt F) → (⟨S512x64, .f32⟩ : BufTy).Contents (Elt F) → (⟨S512x192, .f32⟩ : BufTy).Contents (Elt F)),
    StableHlo.unary main_arg9 main_v38 ((transpose S192x128 [1, 0] · transposes_S128x192_S192x128_1_0) : (⟨S128x192, .f32⟩ : BufTy).Contents (Elt F) → (⟨S192x128, .f32⟩ : BufTy).Contents (Elt F)),
    StableHlo.binary main_v37 main_v38 main_v39 ((fun l r => Host.dotGeneral dot_S512x192_S192x128_S512x128_1_0_0_1_n_n none l r) : (⟨S512x192, .f32⟩ : BufTy).Contents (Elt F) → (⟨S192x128, .f32⟩ : BufTy).Contents (Elt F) → (⟨S512x128, .f32⟩ : BufTy).Contents (Elt F)),
    StableHlo.unary main_arg10 main_v40 (broadcastInDim S1x128 ![1] bcast_S128_S1x128_1 : (⟨S128, .f32⟩ : BufTy).Contents (Elt F) → (⟨S1x128, .f32⟩ : BufTy).Contents (Elt F)),
    StableHlo.unary main_v40 main_v41 (broadcastInDim S512x128 ![0, 1] bcast_S1x128_S512x128_0_1 : (⟨S1x128, .f32⟩ : BufTy).Contents (Elt F) → (⟨S512x128, .f32⟩ : BufTy).Contents (Elt F)),
    StableHlo.binary main_v39 main_v41 main_v42 (addf : (⟨S512x128, .f32⟩ : BufTy).Contents (Elt F) → (⟨S512x128, .f32⟩ : BufTy).Contents (Elt F) → (⟨S512x128, .f32⟩ : BufTy).Contents (Elt F)) ]
/-- These operations read and write buffers of the program only. -/
theorem hostOps0_5_sub : (hostOps0_5 : List (HloOp τ sig (Elt F))).Forall fun op => op.bufs ⊆ StableHlo.tcRefs τ sig :=
  ⟨StableHlo.nullary_bufs_sub .., StableHlo.unary_bufs_sub .., StableHlo.binary_bufs_sub .., StableHlo.unary_bufs_sub .., StableHlo.binary_bufs_sub .., StableHlo.unary_bufs_sub .., StableHlo.binary_bufs_sub .., StableHlo.nullary_bufs_sub .., StableHlo.unary_bufs_sub .., StableHlo.binary_bufs_sub .., StableHlo.nullary_bufs_sub .., StableHlo.binary_bufs_sub .., StableHlo.nullary_bufs_sub .., StableHlo.unary_bufs_sub .., StableHlo.binary_bufs_sub .., StableHlo.unary_bufs_sub .., StableHlo.unary_bufs_sub .., StableHlo.binary_bufs_sub .., StableHlo.unary_bufs_sub .., StableHlo.nullary_bufs_sub .., StableHlo.binary_bufs_sub .., StableHlo.unary_bufs_sub .., StableHlo.unary_bufs_sub .., StableHlo.binary_bufs_sub .., StableHlo.binary_bufs_sub .., StableHlo.binary_bufs_sub .., StableHlo.unary_bufs_sub .., StableHlo.binary_bufs_sub .., StableHlo.unary_bufs_sub .., StableHlo.unary_bufs_sub .., StableHlo.binary_bufs_sub ..⟩
abbrev main_part0_ops0 : List (HloOp τ sig (Elt F)) :=
  [ StableHlo.nullary main_cst (constant S_ .f32 0x00000000#32),
    StableHlo.unary main_cst main_v0 (broadcastInDim S512x128 ![] bcast_S_S512x128 : (⟨S_, .f32⟩ : BufTy).Contents (Elt F) → (⟨S512x128, .f32⟩ : BufTy).Contents (Elt F)),
    StableHlo.nullary main_cst_0 (constant S_ .f32 0x00000000#32),
    StableHlo.unary main_cst_0 main_v1 (broadcastInDim S512x128 ![] bcast_S_S512x128 : (⟨S_, .f32⟩ : BufTy).Contents (Elt F) → (⟨S512x128, .f32⟩ : BufTy).Contents (Elt F)),
    StableHlo.unary main_arg0 main_v2 ((transpose S50x512x128 [1, 0, 2] · transposes_S512x50x128_S50x512x128_1_0_2) : (⟨S512x50x128, .f32⟩ : BufTy).Contents (Elt F) → (⟨S50x512x128, .f32⟩ : BufTy).Contents (Elt F)),
    StableHlo.nullary main_c (constantI S_ 32 0#32),
    StableHlo.unary main_v2 main_v3_0 id,
    StableHlo.unary main_arg1 main_v3_1 id,
    StableHlo.unary main_arg2 main_v3_2 id,
    StableHlo.unary main_arg3 main_v3_3 id,
    StableHlo.unary main_arg4 main_v3_4 id,
    StableHlo.unary main_c main_v3_5 id,
    StableHlo.unary main_v0 main_v3_6 id,
    StableHlo.unary main_v1 main_v3_7 id ]
/-- These operations read and write buffers of the program only. -/
theorem main_part0_ops0_sub : (main_part0_ops0 : List (HloOp τ sig (Elt F))).Forall fun op => op.bufs ⊆ StableHlo.tcRefs τ sig :=
  ⟨StableHlo.nullary_bufs_sub .., StableHlo.unary_bufs_sub .., StableHlo.nullary_bufs_sub .., StableHlo.unary_bufs_sub .., StableHlo.unary_bufs_sub .., StableHlo.nullary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub ..⟩
abbrev main_part0_ops1 : List (HloOp τ sig (Elt F)) :=
  [ StableHlo.unary main_arg0 main_v4 ((extractStridedSlice S512x1x64 ![0, 49, 0] · slices_S512x50x128_S512x1x64_0_49_0) : (⟨S512x50x128, .f32⟩ : BufTy).Contents (Elt F) → (⟨S512x1x64, .f32⟩ : BufTy).Contents (Elt F)),
    StableHlo.reshape main_v4 main_v5 (rfl : (.f32 : EltTy) = .f32) shapeCasts_S512x1x64_S512x64,
    StableHlo.unary main_arg5 main_v6 ((transpose S64x64 [1, 0] · transposes_S64x64_S64x64_1_0) : (⟨S64x64, .f32⟩ : BufTy).Contents (Elt F) → (⟨S64x64, .f32⟩ : BufTy).Contents (Elt F)),
    StableHlo.binary main_v5 main_v6 main_v7 ((fun l r => Host.dotGeneral dot_S512x64_S64x64_S512x64_1_0_0_1_n_n none l r) : (⟨S512x64, .f32⟩ : BufTy).Contents (Elt F) → (⟨S64x64, .f32⟩ : BufTy).Contents (Elt F) → (⟨S512x64, .f32⟩ : BufTy).Contents (Elt F)),
    StableHlo.unary main_arg6 main_v8 (broadcastInDim S1x64 ![1] bcast_S64_S1x64_1 : (⟨S64, .f32⟩ : BufTy).Contents (Elt F) → (⟨S1x64, .f32⟩ : BufTy).Contents (Elt F)),
    StableHlo.unary main_v8 main_v9 (broadcastInDim S512x64 ![0, 1] bcast_S1x64_S512x64_0_1 : (⟨S1x64, .f32⟩ : BufTy).Contents (Elt F) → (⟨S512x64, .f32⟩ : BufTy).Contents (Elt F)),
    StableHlo.binary main_v7 main_v9 main_v10 (addf : (⟨S512x64, .f32⟩ : BufTy).Contents (Elt F) → (⟨S512x64, .f32⟩ : BufTy).Contents (Elt F) → (⟨S512x64, .f32⟩ : BufTy).Contents (Elt F)) ]
/-- These operations read and write buffers of the program only. -/
theorem main_part0_ops1_sub : (main_part0_ops1 : List (HloOp τ sig (Elt F))).Forall fun op => op.bufs ⊆ StableHlo.tcRefs τ sig :=
  ⟨StableHlo.unary_bufs_sub .., StableHlo.reshape_bufs_sub .., StableHlo.unary_bufs_sub .., StableHlo.binary_bufs_sub .., StableHlo.unary_bufs_sub .., StableHlo.unary_bufs_sub .., StableHlo.binary_bufs_sub ..⟩
abbrev main_part0_ops2 : List (HloOp τ sig (Elt F)) :=
  [ StableHlo.TRef.binary (.of main_v10 : StableHlo.TRef sig ⟨S512x64, .f32⟩) (.of main_v10 : StableHlo.TRef sig ⟨S512x64, .f32⟩) (.of main_call1_v0 : StableHlo.TRef sig ⟨S512x64, .f32⟩) mulf,
    StableHlo.TRef.nullary (.of main_call1_cst : StableHlo.TRef sig ⟨S_, .f32⟩) (constant S_ .f32 0x00000000#32),
    StableHlo.TRef.binary (.of main_call1_v0 : StableHlo.TRef sig ⟨S512x64, .f32⟩) (.of main_call1_cst : StableHlo.TRef sig ⟨S_, .f32⟩) (.of main_call1_v1 : StableHlo.TRef sig ⟨S512, .f32⟩) (fun x v => Host.reduceAdd x v reducesTo_S512x64_S512_d1 h_S_),
    StableHlo.TRef.unary (.of main_call1_v1 : StableHlo.TRef sig ⟨S512, .f32⟩) (.of main_call1_v2 : StableHlo.TRef sig ⟨S512x1, .f32⟩) (broadcastInDim S512x1 ![0] bcast_S512_S512x1_0),
    StableHlo.TRef.unary (.of main_call1_v2 : StableHlo.TRef sig ⟨S512x1, .f32⟩) (.of main_v11 : StableHlo.TRef sig ⟨S512x1, .f32⟩) Host.sqrt ]
/-- These operations read and write buffers of the program only. -/
theorem main_part0_ops2_sub : (main_part0_ops2 : List (HloOp τ sig (Elt F))).Forall fun op => op.bufs ⊆ StableHlo.tcRefs τ sig :=
  ⟨StableHlo.binary_bufs_sub .., StableHlo.nullary_bufs_sub .., StableHlo.binary_bufs_sub .., StableHlo.unary_bufs_sub .., StableHlo.unary_bufs_sub ..⟩
abbrev main_part0_ops3 : List (HloOp τ sig (Elt F)) :=
  [ StableHlo.nullary main_cst_1 (constant S_ .f32 0x322BCC77#32),
    StableHlo.unary main_cst_1 main_v12 (broadcastInDim S512x1 ![] bcast_S_S512x1 : (⟨S_, .f32⟩ : BufTy).Contents (Elt F) → (⟨S512x1, .f32⟩ : BufTy).Contents (Elt F)),
    StableHlo.binary main_v11 main_v12 main_v13 (addf : (⟨S512x1, .f32⟩ : BufTy).Contents (Elt F) → (⟨S512x1, .f32⟩ : BufTy).Contents (Elt F) → (⟨S512x1, .f32⟩ : BufTy).Contents (Elt F)),
    StableHlo.unary main_v13 main_v14 (broadcastInDim S512x64 ![0, 1] bcast_S512x1_S512x64_0_1 : (⟨S512x1, .f32⟩ : BufTy).Contents (Elt F) → (⟨S512x64, .f32⟩ : BufTy).Contents (Elt F)),
    StableHlo.binary main_v10 main_v14 main_v15 (Host.divf : (⟨S512x64, .f32⟩ : BufTy).Contents (Elt F) → (⟨S512x64, .f32⟩ : BufTy).Contents (Elt F) → (⟨S512x64, .f32⟩ : BufTy).Contents (Elt F)) ]
/-- These operations read and write buffers of the program only. -/
theorem main_part0_ops3_sub : (main_part0_ops3 : List (HloOp τ sig (Elt F))).Forall fun op => op.bufs ⊆ StableHlo.tcRefs τ sig :=
  ⟨StableHlo.nullary_bufs_sub .., StableHlo.unary_bufs_sub .., StableHlo.binary_bufs_sub .., StableHlo.unary_bufs_sub .., StableHlo.binary_bufs_sub ..⟩
abbrev main_part0_ops4 : List (HloOp τ sig (Elt F)) :=
  [ StableHlo.TRef.binary (.of main_arg7 : StableHlo.TRef sig ⟨S65536x64, .f32⟩) (.of main_arg7 : StableHlo.TRef sig ⟨S65536x64, .f32⟩) (.of main_call2_v0 : StableHlo.TRef sig ⟨S65536x64, .f32⟩) mulf,
    StableHlo.TRef.nullary (.of main_call2_cst : StableHlo.TRef sig ⟨S_, .f32⟩) (constant S_ .f32 0x00000000#32),
    StableHlo.TRef.binary (.of main_call2_v0 : StableHlo.TRef sig ⟨S65536x64, .f32⟩) (.of main_call2_cst : StableHlo.TRef sig ⟨S_, .f32⟩) (.of main_call2_v1 : StableHlo.TRef sig ⟨S65536, .f32⟩) (fun x v => Host.reduceAdd x v reducesTo_S65536x64_S65536_d1 h_S_),
    StableHlo.TRef.unary (.of main_call2_v1 : StableHlo.TRef sig ⟨S65536, .f32⟩) (.of main_call2_v2 : StableHlo.TRef sig ⟨S65536x1, .f32⟩) (broadcastInDim S65536x1 ![0] bcast_S65536_S65536x1_0),
    StableHlo.TRef.unary (.of main_call2_v2 : StableHlo.TRef sig ⟨S65536x1, .f32⟩) (.of main_v16 : StableHlo.TRef sig ⟨S65536x1, .f32⟩) Host.sqrt ]
/-- These operations read and write buffers of the program only. -/
theorem main_part0_ops4_sub : (main_part0_ops4 : List (HloOp τ sig (Elt F))).Forall fun op => op.bufs ⊆ StableHlo.tcRefs τ sig :=
  ⟨StableHlo.binary_bufs_sub .., StableHlo.nullary_bufs_sub .., StableHlo.binary_bufs_sub .., StableHlo.unary_bufs_sub .., StableHlo.unary_bufs_sub ..⟩
abbrev main_part0_ops5 : List (HloOp τ sig (Elt F)) :=
  [ StableHlo.nullary main_cst_2 (constant S_ .f32 0x322BCC77#32),
    StableHlo.unary main_cst_2 main_v17 (broadcastInDim S65536x1 ![] bcast_S_S65536x1 : (⟨S_, .f32⟩ : BufTy).Contents (Elt F) → (⟨S65536x1, .f32⟩ : BufTy).Contents (Elt F)),
    StableHlo.binary main_v16 main_v17 main_v18 (addf : (⟨S65536x1, .f32⟩ : BufTy).Contents (Elt F) → (⟨S65536x1, .f32⟩ : BufTy).Contents (Elt F) → (⟨S65536x1, .f32⟩ : BufTy).Contents (Elt F)),
    StableHlo.unary main_v18 main_v19 (broadcastInDim S65536x64 ![0, 1] bcast_S65536x1_S65536x64_0_1 : (⟨S65536x1, .f32⟩ : BufTy).Contents (Elt F) → (⟨S65536x64, .f32⟩ : BufTy).Contents (Elt F)),
    StableHlo.binary main_arg7 main_v19 main_v20 (Host.divf : (⟨S65536x64, .f32⟩ : BufTy).Contents (Elt F) → (⟨S65536x64, .f32⟩ : BufTy).Contents (Elt F) → (⟨S65536x64, .f32⟩ : BufTy).Contents (Elt F)),
    StableHlo.unary main_v20 main_v21 ((transpose S64x65536 [1, 0] · transposes_S65536x64_S64x65536_1_0) : (⟨S65536x64, .f32⟩ : BufTy).Contents (Elt F) → (⟨S64x65536, .f32⟩ : BufTy).Contents (Elt F)),
    StableHlo.binary main_v15 main_v21 main_v22 ((fun l r => Host.dotGeneral dot_S512x64_S64x65536_S512x65536_1_0_0_1_n_n none l r) : (⟨S512x64, .f32⟩ : BufTy).Contents (Elt F) → (⟨S64x65536, .f32⟩ : BufTy).Contents (Elt F) → (⟨S512x65536, .f32⟩ : BufTy).Contents (Elt F)),
    StableHlo.nullary main_cst_3 (constant S_ .f32 0x3DCCCCCD#32),
    StableHlo.unary main_cst_3 main_v23 (broadcastInDim S512x65536 ![] bcast_S_S512x65536 : (⟨S_, .f32⟩ : BufTy).Contents (Elt F) → (⟨S512x65536, .f32⟩ : BufTy).Contents (Elt F)),
    StableHlo.binary main_v22 main_v23 main_v24 (Host.divf : (⟨S512x65536, .f32⟩ : BufTy).Contents (Elt F) → (⟨S512x65536, .f32⟩ : BufTy).Contents (Elt F) → (⟨S512x65536, .f32⟩ : BufTy).Contents (Elt F)),
    StableHlo.nullary main_cst_4 (constant S_ .f32 0xFF800000#32),
    StableHlo.binary main_v24 main_cst_4 main_v25 ((fun x v => Host.reduce FloatOps.maximumf x v reducesTo_S512x65536_S512_d1 h_S_) : (⟨S512x65536, .f32⟩ : BufTy).Contents (Elt F) → (⟨S_, .f32⟩ : BufTy).Contents (Elt F) → (⟨S512, .f32⟩ : BufTy).Contents (Elt F)),
    StableHlo.nullary main_cst_5 (constant S_ .f32 0xFF800000#32),
    StableHlo.unary main_cst_5 main_v26 (broadcastInDim S512 ![] bcast_S_S512 : (⟨S_, .f32⟩ : BufTy).Contents (Elt F) → (⟨S512, .f32⟩ : BufTy).Contents (Elt F)),
    StableHlo.binary main_v26 main_v25 main_v27 (maximumf : (⟨S512, .f32⟩ : BufTy).Contents (Elt F) → (⟨S512, .f32⟩ : BufTy).Contents (Elt F) → (⟨S512, .f32⟩ : BufTy).Contents (Elt F)),
    StableHlo.unary main_v27 main_v28 (broadcastInDim S512x1 ![0] bcast_S512_S512x1_0 : (⟨S512, .f32⟩ : BufTy).Contents (Elt F) → (⟨S512x1, .f32⟩ : BufTy).Contents (Elt F)),
    StableHlo.unary main_v28 main_v29 (broadcastInDim S512x65536 ![0, 1] bcast_S512x1_S512x65536_0_1 : (⟨S512x1, .f32⟩ : BufTy).Contents (Elt F) → (⟨S512x65536, .f32⟩ : BufTy).Contents (Elt F)),
    StableHlo.binary main_v24 main_v29 main_v30 (subf : (⟨S512x65536, .f32⟩ : BufTy).Contents (Elt F) → (⟨S512x65536, .f32⟩ : BufTy).Contents (Elt F) → (⟨S512x65536, .f32⟩ : BufTy).Contents (Elt F)),
    StableHlo.unary main_v30 main_v31 (Host.exp : (⟨S512x65536, .f32⟩ : BufTy).Contents (Elt F) → (⟨S512x65536, .f32⟩ : BufTy).Contents (Elt F)),
    StableHlo.nullary main_cst_6 (constant S_ .f32 0x00000000#32),
    StableHlo.binary main_v31 main_cst_6 main_v32 ((fun x v => Host.reduceAdd x v reducesTo_S512x65536_S512_d1 h_S_) : (⟨S512x65536, .f32⟩ : BufTy).Contents (Elt F) → (⟨S_, .f32⟩ : BufTy).Contents (Elt F) → (⟨S512, .f32⟩ : BufTy).Contents (Elt F)),
    StableHlo.unary main_v32 main_v33 (broadcastInDim S512x1 ![0] bcast_S512_S512x1_0 : (⟨S512, .f32⟩ : BufTy).Contents (Elt F) → (⟨S512x1, .f32⟩ : BufTy).Contents (Elt F)),
    StableHlo.unary main_v33 main_v34 (broadcastInDim S512x65536 ![0, 1] bcast_S512x1_S512x65536_0_1 : (⟨S512x1, .f32⟩ : BufTy).Contents (Elt F) → (⟨S512x65536, .f32⟩ : BufTy).Contents (Elt F)),
    StableHlo.binary main_v31 main_v34 main_v35 (Host.divf : (⟨S512x65536, .f32⟩ : BufTy).Contents (Elt F) → (⟨S512x65536, .f32⟩ : BufTy).Contents (Elt F) → (⟨S512x65536, .f32⟩ : BufTy).Contents (Elt F)),
    StableHlo.binary main_v35 main_arg8 main_v36 ((fun l r => Host.dotGeneral dot_S512x65536_S65536x64_S512x64_1_0_0_1_n_n none l r) : (⟨S512x65536, .f32⟩ : BufTy).Contents (Elt F) → (⟨S65536x64, .f32⟩ : BufTy).Contents (Elt F) → (⟨S512x64, .f32⟩ : BufTy).Contents (Elt F)),
    StableHlo.binary main_v3_6 main_v36 main_v37 ((fun a b => concatenate S512x192 1 [⟨S512x128, a⟩, ⟨S512x64, b⟩] concatenates_S512x128_S512x64_S512x192_d1) : (⟨S512x128, .f32⟩ : BufTy).Contents (Elt F) → (⟨S512x64, .f32⟩ : BufTy).Contents (Elt F) → (⟨S512x192, .f32⟩ : BufTy).Contents (Elt F)),
    StableHlo.unary main_arg9 main_v38 ((transpose S192x128 [1, 0] · transposes_S128x192_S192x128_1_0) : (⟨S128x192, .f32⟩ : BufTy).Contents (Elt F) → (⟨S192x128, .f32⟩ : BufTy).Contents (Elt F)),
    StableHlo.binary main_v37 main_v38 main_v39 ((fun l r => Host.dotGeneral dot_S512x192_S192x128_S512x128_1_0_0_1_n_n none l r) : (⟨S512x192, .f32⟩ : BufTy).Contents (Elt F) → (⟨S192x128, .f32⟩ : BufTy).Contents (Elt F) → (⟨S512x128, .f32⟩ : BufTy).Contents (Elt F)),
    StableHlo.unary main_arg10 main_v40 (broadcastInDim S1x128 ![1] bcast_S128_S1x128_1 : (⟨S128, .f32⟩ : BufTy).Contents (Elt F) → (⟨S1x128, .f32⟩ : BufTy).Contents (Elt F)),
    StableHlo.unary main_v40 main_v41 (broadcastInDim S512x128 ![0, 1] bcast_S1x128_S512x128_0_1 : (⟨S1x128, .f32⟩ : BufTy).Contents (Elt F) → (⟨S512x128, .f32⟩ : BufTy).Contents (Elt F)),
    StableHlo.binary main_v39 main_v41 main_v42 (addf : (⟨S512x128, .f32⟩ : BufTy).Contents (Elt F) → (⟨S512x128, .f32⟩ : BufTy).Contents (Elt F) → (⟨S512x128, .f32⟩ : BufTy).Contents (Elt F)) ]
/-- These operations read and write buffers of the program only. -/
theorem main_part0_ops5_sub : (main_part0_ops5 : List (HloOp τ sig (Elt F))).Forall fun op => op.bufs ⊆ StableHlo.tcRefs τ sig :=
  ⟨StableHlo.nullary_bufs_sub .., StableHlo.unary_bufs_sub .., StableHlo.binary_bufs_sub .., StableHlo.unary_bufs_sub .., StableHlo.binary_bufs_sub .., StableHlo.unary_bufs_sub .., StableHlo.binary_bufs_sub .., StableHlo.nullary_bufs_sub .., StableHlo.unary_bufs_sub .., StableHlo.binary_bufs_sub .., StableHlo.nullary_bufs_sub .., StableHlo.binary_bufs_sub .., StableHlo.nullary_bufs_sub .., StableHlo.unary_bufs_sub .., StableHlo.binary_bufs_sub .., StableHlo.unary_bufs_sub .., StableHlo.unary_bufs_sub .., StableHlo.binary_bufs_sub .., StableHlo.unary_bufs_sub .., StableHlo.nullary_bufs_sub .., StableHlo.binary_bufs_sub .., StableHlo.unary_bufs_sub .., StableHlo.unary_bufs_sub .., StableHlo.binary_bufs_sub .., StableHlo.binary_bufs_sub .., StableHlo.binary_bufs_sub .., StableHlo.unary_bufs_sub .., StableHlo.binary_bufs_sub .., StableHlo.unary_bufs_sub .., StableHlo.unary_bufs_sub .., StableHlo.binary_bufs_sub ..⟩
/-- This part of the reference is the chain of its groups of operations. -/
theorem main_part0_chain (c : Dev nD) : main_part0 (F := F) c = (Pipeline.chainK
  [ StableHlo.seq main_part0_ops0,
    HostLoop.enter 0,
    StableHlo.seq main_part0_ops1,
    StableHlo.seq main_part0_ops2,
    StableHlo.seq main_part0_ops3,
    StableHlo.seq main_part0_ops4 ]
  (StableHlo.seq main_part0_ops5) : Prog (TpuEff nD τ sig (Elt F) (HostLoop.Sig (Pipeline.Sig Λ₀ (Fin 0) fun p => (pcfgs (F := F) p).Adm) 1) .tc) PUnit) := by
  rewrite [StableHlo.chainK_seq_cons, Pipeline.chainK_cons, StableHlo.chainK_seq_cons, Pipeline.chainK_cons, StableHlo.chainK_seq_cons, Pipeline.chainK_cons]
  chain_rfl

/-- This part of the reference is the chain of its groups of operations. -/
theorem main_part1_chain (c : Dev nD) : main_part1 (F := F) c = (Pipeline.chain
  [  ] : Prog (TpuEff nD τ sig (Elt F) (HostLoop.Sig (Pipeline.Sig Λ₀ (Fin 0) fun p => (pcfgs (F := F) p).Adm) 1) .tc) PUnit) := by
  chain_rfl

/-- The reference is the chain of its groups of operations and its loop. -/
theorem main_chain_windows (c : Dev nD) : main (F := F) c = (Pipeline.chain
  [ StableHlo.seq main_part0_ops0,
    HostLoop.enter 0,
    StableHlo.seq main_part0_ops1,
    StableHlo.seq main_part0_ops2,
    StableHlo.seq main_part0_ops3,
    StableHlo.seq main_part0_ops4,
    StableHlo.seq main_part0_ops5 ] : Prog (TpuEff nD τ sig (Elt F) (HostLoop.Sig (Pipeline.Sig Λ₀ (Fin 0) fun p => (pcfgs (F := F) p).Adm) 1) .tc) PUnit) := by
  show (main_part0 (F := F) c >>= fun _ => main_part1 (F := F) c) = _
  rewrite [main_part1_chain, main_part0_chain, Pipeline.chainK_bind_chain]
  chain_rfl

abbrev main_groups (c : Dev nD) : List (StableHlo.Group nD τ sig (Elt F) (HostLoop.Sig (Pipeline.Sig Λ₀ (Fin 0) fun p => (pcfgs (F := F) p).Adm) 1)) :=
  [ .ops [main_part0_ops0],
    .prog (HostLoop.enter 0),
    .ops [main_part0_ops1],
    .ops [main_part0_ops2],
    .ops [main_part0_ops3],
    .ops [main_part0_ops4],
    .ops [main_part0_ops5] ]

/-- The same chain, grouped around the loop. -/
theorem main_chain_cut (c : Dev nD) : (Pipeline.chain
  [ StableHlo.seq main_part0_ops0,
    HostLoop.enter 0,
    StableHlo.seq main_part0_ops1,
    StableHlo.seq main_part0_ops2,
    StableHlo.seq main_part0_ops3,
    StableHlo.seq main_part0_ops4,
    StableHlo.seq main_part0_ops5 ] : Prog (TpuEff nD τ sig (Elt F) (HostLoop.Sig (Pipeline.Sig Λ₀ (Fin 0) fun p => (pcfgs (F := F) p).Adm) 1) .tc) PUnit) = Pipeline.chain ((main_groups (F := F) c).flatMap StableHlo.Group.cut) := by
  chain_rfl

/-- The same chain, grouped around the loop. -/
theorem main_chain_whole (c : Dev nD) : Pipeline.chain ((main_groups (F := F) c).map StableHlo.Group.whole) = (Pipeline.chain
  [ StableHlo.seq hostOps0,
    HostLoop.enter 0,
    StableHlo.seq hostOps0_1,
    StableHlo.seq hostOps0_2,
    StableHlo.seq hostOps0_3,
    StableHlo.seq hostOps0_4,
    StableHlo.seq hostOps0_5 ] : Prog (TpuEff nD τ sig (Elt F) (HostLoop.Sig (Pipeline.Sig Λ₀ (Fin 0) fun p => (pcfgs (F := F) p).Adm) 1) .tc) PUnit) := by
  chain_rfl

/-- The program is its first stretch, the loop, and five stretches more. -/
theorem main_chain (c : Dev nD) : main (F := F) c = (Pipeline.chain
  [ StableHlo.seq hostOps0,
    HostLoop.enter 0,
    StableHlo.seq hostOps0_1,
    StableHlo.seq hostOps0_2,
    StableHlo.seq hostOps0_3,
    StableHlo.seq hostOps0_4,
    StableHlo.seq hostOps0_5 ] : Prog (TpuEff nD τ sig (Elt F) (HostLoop.Sig (Pipeline.Sig Λ₀ (Fin 0) fun p => (pcfgs (F := F) p).Adm) 1) .tc) PUnit) :=
  (main_chain_windows (F := F) c).trans <| (main_chain_cut (F := F) c).trans <|
    (StableHlo.chain_cut_eq_whole (main_groups (F := F) c)).trans (main_chain_whole (F := F) c)

abbrev while0Ops0 : List (HloOp τ sig (Elt F)) :=
  [ StableHlo.TRef.nullary (.of main_while0b_call0_c : StableHlo.TRef sig ⟨S_, .i32⟩) (constantI S_ 32 0#32),
    StableHlo.TRef.nullary (.of main_while0b_call0_c_0 : StableHlo.TRef sig ⟨S_, .i32⟩) (constantI S_ 32 0#32),
    StableHlo.TRef.unaryIndexed (.of main_v3_0 : StableHlo.TRef sig ⟨S50x512x128, .f32⟩) ![(.of main_v3_5 : StableHlo.TRef sig ⟨S_, .i32⟩), (.of main_while0b_call0_c : StableHlo.TRef sig ⟨S_, .i32⟩), (.of main_while0b_call0_c_0 : StableHlo.TRef sig ⟨S_, .i32⟩)] (.of main_while0b_call0_v0 : StableHlo.TRef sig ⟨S1x512x128, .f32⟩) (fun x i => Host.dynamicSlice S1x512x128 x (fun k => (i k (Shape.Idx.first h_S_)).toInt) sliceFits_S50x512x128_S1x512x128),
    StableHlo.TRef.reshape (.of main_while0b_call0_v0 : StableHlo.TRef sig ⟨S1x512x128, .f32⟩) (.of main_while0b_v43 : StableHlo.TRef sig ⟨S512x128, .f32⟩) (rfl : (.f32 : EltTy) = .f32) shapeCasts_S1x512x128_S512x128 ]
/-- These operations read and write buffers of the program only. -/
theorem while0Ops0_sub : (while0Ops0 : List (HloOp τ sig (Elt F))).Forall fun op => op.bufs ⊆ StableHlo.tcRefs τ sig :=
  ⟨StableHlo.nullary_bufs_sub .., StableHlo.nullary_bufs_sub .., StableHlo.unaryIndexed_bufs_sub .., StableHlo.reshape_bufs_sub ..⟩
abbrev while0Ops0_1 : List (HloOp τ sig (Elt F)) :=
  ( StableHlo.unary main_v3_1 main_while0b_v44 ((transpose S128x512 [1, 0] · transposes_S512x128_S128x512_1_0) : (⟨S512x128, .f32⟩ : BufTy).Contents (Elt F) → (⟨S128x512, .f32⟩ : BufTy).Contents (Elt F))
  :: StableHlo.binary main_while0b_v43 main_while0b_v44 main_while0b_v45 ((fun l r => Host.dotGeneral dot_S512x128_S128x512_S512x512_1_0_0_1_n_n none l r) : (⟨S512x128, .f32⟩ : BufTy).Contents (Elt F) → (⟨S128x512, .f32⟩ : BufTy).Contents (Elt F) → (⟨S512x512, .f32⟩ : BufTy).Contents (Elt F))
  :: StableHlo.unary main_v3_2 main_while0b_v46 ((transpose S128x512 [1, 0] · transposes_S512x128_S128x512_1_0) : (⟨S512x128, .f32⟩ : BufTy).Contents (Elt F) → (⟨S128x512, .f32⟩ : BufTy).Contents (Elt F))
  :: StableHlo.binary main_v3_6 main_while0b_v46 main_while0b_v47 ((fun l r => Host.dotGeneral dot_S512x128_S128x512_S512x512_1_0_0_1_n_n none l r) : (⟨S512x128, .f32⟩ : BufTy).Contents (Elt F) → (⟨S128x512, .f32⟩ : BufTy).Contents (Elt F) → (⟨S512x512, .f32⟩ : BufTy).Contents (Elt F))
  :: StableHlo.binary main_while0b_v45 main_while0b_v47 main_while0b_v48 (addf : (⟨S512x512, .f32⟩ : BufTy).Contents (Elt F) → (⟨S512x512, .f32⟩ : BufTy).Contents (Elt F) → (⟨S512x512, .f32⟩ : BufTy).Contents (Elt F))
  :: StableHlo.unary main_v3_3 main_while0b_v49 (broadcastInDim S1x512 ![1] bcast_S512_S1x512_1 : (⟨S512, .f32⟩ : BufTy).Contents (Elt F) → (⟨S1x512, .f32⟩ : BufTy).Contents (Elt F))
  :: StableHlo.unary main_while0b_v49 main_while0b_v50 (broadcastInDim S512x512 ![0, 1] bcast_S1x512_S512x512_0_1 : (⟨S1x512, .f32⟩ : BufTy).Contents (Elt F) → (⟨S512x512, .f32⟩ : BufTy).Contents (Elt F))
  :: StableHlo.binary main_while0b_v48 main_while0b_v50 main_while0b_v51 (addf : (⟨S512x512, .f32⟩ : BufTy).Contents (Elt F) → (⟨S512x512, .f32⟩ : BufTy).Contents (Elt F) → (⟨S512x512, .f32⟩ : BufTy).Contents (Elt F))
  :: StableHlo.unary main_v3_4 main_while0b_v52 (broadcastInDim S1x512 ![1] bcast_S512_S1x512_1 : (⟨S512, .f32⟩ : BufTy).Contents (Elt F) → (⟨S1x512, .f32⟩ : BufTy).Contents (Elt F))
  :: StableHlo.unary main_while0b_v52 main_while0b_v53 (broadcastInDim S512x512 ![0, 1] bcast_S1x512_S512x512_0_1 : (⟨S1x512, .f32⟩ : BufTy).Contents (Elt F) → (⟨S512x512, .f32⟩ : BufTy).Contents (Elt F))
  :: StableHlo.binary main_while0b_v51 main_while0b_v53 main_while0b_v54 (addf : (⟨S512x512, .f32⟩ : BufTy).Contents (Elt F) → (⟨S512x512, .f32⟩ : BufTy).Contents (Elt F) → (⟨S512x512, .f32⟩ : BufTy).Contents (Elt F))
  :: StableHlo.unary main_while0b_v54 main_while0b_v55 ((extractStridedSlice S512x128 ![0, 0] · slices_S512x512_S512x128_0_0) : (⟨S512x512, .f32⟩ : BufTy).Contents (Elt F) → (⟨S512x128, .f32⟩ : BufTy).Contents (Elt F))
  :: StableHlo.unary main_while0b_v54 main_while0b_v56 ((extractStridedSlice S512x128 ![0, 128] · slices_S512x512_S512x128_0_128) : (⟨S512x512, .f32⟩ : BufTy).Contents (Elt F) → (⟨S512x128, .f32⟩ : BufTy).Contents (Elt F))
  :: StableHlo.unary main_while0b_v54 main_while0b_v57 ((extractStridedSlice S512x128 ![0, 256] · slices_S512x512_S512x128_0_256) : (⟨S512x512, .f32⟩ : BufTy).Contents (Elt F) → (⟨S512x128, .f32⟩ : BufTy).Contents (Elt F))
  :: StableHlo.unary main_while0b_v54 main_while0b_v58 ((extractStridedSlice S512x128 ![0, 384] · slices_S512x512_S512x128_0_384) : (⟨S512x512, .f32⟩ : BufTy).Contents (Elt F) → (⟨S512x128, .f32⟩ : BufTy).Contents (Elt F))
  :: StableHlo.unary main_while0b_v55 main_while0b_v59 (Host.negf : (⟨S512x128, .f32⟩ : BufTy).Contents (Elt F) → (⟨S512x128, .f32⟩ : BufTy).Contents (Elt F))
  :: StableHlo.unary main_while0b_v59 main_while0b_v60 (Host.exp : (⟨S512x128, .f32⟩ : BufTy).Contents (Elt F) → (⟨S512x128, .f32⟩ : BufTy).Contents (Elt F))
  :: StableHlo.nullary main_while0b_cst_14 (constant S_ .f32 0x3F800000#32)
  :: StableHlo.unary main_while0b_cst_14 main_while0b_v61 (broadcastInDim S512x128 ![] bcast_S_S512x128 : (⟨S_, .f32⟩ : BufTy).Contents (Elt F) → (⟨S512x128, .f32⟩ : BufTy).Contents (Elt F))
  :: StableHlo.binary main_while0b_v61 main_while0b_v60 main_while0b_v62 (addf : (⟨S512x128, .f32⟩ : BufTy).Contents (Elt F) → (⟨S512x128, .f32⟩ : BufTy).Contents (Elt F) → (⟨S512x128, .f32⟩ : BufTy).Contents (Elt F))
  :: StableHlo.nullary main_while0b_cst_15 (constant S_ .f32 0x3F800000#32)
  :: StableHlo.unary main_while0b_cst_15 main_while0b_v63 (broadcastInDim S512x128 ![] bcast_S_S512x128 : (⟨S_, .f32⟩ : BufTy).Contents (Elt F) → (⟨S512x128, .f32⟩ : BufTy).Contents (Elt F))
  :: StableHlo.binary main_while0b_v63 main_while0b_v62 main_while0b_v64 (Host.divf : (⟨S512x128, .f32⟩ : BufTy).Contents (Elt F) → (⟨S512x128, .f32⟩ : BufTy).Contents (Elt F) → (⟨S512x128, .f32⟩ : BufTy).Contents (Elt F))
  :: StableHlo.unary main_while0b_v56 main_while0b_v65 (Host.negf : (⟨S512x128, .f32⟩ : BufTy).Contents (Elt F) → (⟨S512x128, .f32⟩ : BufTy).Contents (Elt F))
  :: StableHlo.unary main_while0b_v65 main_while0b_v66 (Host.exp : (⟨S512x128, .f32⟩ : BufTy).Contents (Elt F) → (⟨S512x128, .f32⟩ : BufTy).Contents (Elt F))
  :: StableHlo.nullary main_while0b_cst_16 (constant S_ .f32 0x3F800000#32)
  :: StableHlo.unary main_while0b_cst_16 main_while0b_v67 (broadcastInDim S512x128 ![] bcast_S_S512x128 : (⟨S_, .f32⟩ : BufTy).Contents (Elt F) → (⟨S512x128, .f32⟩ : BufTy).Contents (Elt F))
  :: StableHlo.binary main_while0b_v67 main_while0b_v66 main_while0b_v68 (addf : (⟨S512x128, .f32⟩ : BufTy).Contents (Elt F) → (⟨S512x128, .f32⟩ : BufTy).Contents (Elt F) → (⟨S512x128, .f32⟩ : BufTy).Contents (Elt F))
  :: StableHlo.nullary main_while0b_cst_17 (constant S_ .f32 0x3F800000#32)
  :: StableHlo.unary main_while0b_cst_17 main_while0b_v69 (broadcastInDim S512x128 ![] bcast_S_S512x128 : (⟨S_, .f32⟩ : BufTy).Contents (Elt F) → (⟨S512x128, .f32⟩ : BufTy).Contents (Elt F))
  :: StableHlo.binary main_while0b_v69 main_while0b_v68 main_while0b_v70 (Host.divf : (⟨S512x128, .f32⟩ : BufTy).Contents (Elt F) → (⟨S512x128, .f32⟩ : BufTy).Contents (Elt F) → (⟨S512x128, .f32⟩ : BufTy).Contents (Elt F))
  :: StableHlo.unary main_while0b_v57 main_while0b_v71 (Host.tanh : (⟨S512x128, .f32⟩ : BufTy).Contents (Elt F) → (⟨S512x128, .f32⟩ : BufTy).Contents (Elt F))
  :: StableHlo.unary main_while0b_v58 main_while0b_v72 (Host.negf : (⟨S512x128, .f32⟩ : BufTy).Contents (Elt F) → (⟨S512x128, .f32⟩ : BufTy).Contents (Elt F))
  :: StableHlo.unary main_while0b_v72 main_while0b_v73 (Host.exp : (⟨S512x128, .f32⟩ : BufTy).Contents (Elt F) → (⟨S512x128, .f32⟩ : BufTy).Contents (Elt F))
  :: StableHlo.nullary main_while0b_cst_18 (constant S_ .f32 0x3F800000#32)
  :: StableHlo.unary main_while0b_cst_18 main_while0b_v74 (broadcastInDim S512x128 ![] bcast_S_S512x128 : (⟨S_, .f32⟩ : BufTy).Contents (Elt F) → (⟨S512x128, .f32⟩ : BufTy).Contents (Elt F))
  :: StableHlo.binary main_while0b_v74 main_while0b_v73 main_while0b_v75 (addf : (⟨S512x128, .f32⟩ : BufTy).Contents (Elt F) → (⟨S512x128, .f32⟩ : BufTy).Contents (Elt F) → (⟨S512x128, .f32⟩ : BufTy).Contents (Elt F))
  :: StableHlo.nullary main_while0b_cst_19 (constant S_ .f32 0x3F800000#32)
  :: StableHlo.unary main_while0b_cst_19 main_while0b_v76 (broadcastInDim S512x128 ![] bcast_S_S512x128 : (⟨S_, .f32⟩ : BufTy).Contents (Elt F) → (⟨S512x128, .f32⟩ : BufTy).Contents (Elt F))
  :: StableHlo.binary main_while0b_v76 main_while0b_v75 main_while0b_v77 (Host.divf : (⟨S512x128, .f32⟩ : BufTy).Contents (Elt F) → (⟨S512x128, .f32⟩ : BufTy).Contents (Elt F) → (⟨S512x128, .f32⟩ : BufTy).Contents (Elt F))
  :: StableHlo.binary main_while0b_v70 main_v3_7 main_while0b_v78 (mulf : (⟨S512x128, .f32⟩ : BufTy).Contents (Elt F) → (⟨S512x128, .f32⟩ : BufTy).Contents (Elt F) → (⟨S512x128, .f32⟩ : BufTy).Contents (Elt F))
  :: StableHlo.binary main_while0b_v64 main_while0b_v71 main_while0b_v79 (mulf : (⟨S512x128, .f32⟩ : BufTy).Contents (Elt F) → (⟨S512x128, .f32⟩ : BufTy).Contents (Elt F) → (⟨S512x128, .f32⟩ : BufTy).Contents (Elt F))
  :: StableHlo.binary main_while0b_v78 main_while0b_v79 main_while0b_v80 (addf : (⟨S512x128, .f32⟩ : BufTy).Contents (Elt F) → (⟨S512x128, .f32⟩ : BufTy).Contents (Elt F) → (⟨S512x128, .f32⟩ : BufTy).Contents (Elt F))
  :: StableHlo.unary main_while0b_v80 main_while0b_v81 (Host.tanh : (⟨S512x128, .f32⟩ : BufTy).Contents (Elt F) → (⟨S512x128, .f32⟩ : BufTy).Contents (Elt F))
  :: StableHlo.binary main_while0b_v77 main_while0b_v81 main_while0b_v82 (mulf : (⟨S512x128, .f32⟩ : BufTy).Contents (Elt F) → (⟨S512x128, .f32⟩ : BufTy).Contents (Elt F) → (⟨S512x128, .f32⟩ : BufTy).Contents (Elt F))
  :: StableHlo.nullary main_while0b_c_20 (constantI S_ 32 1#32)
  :: StableHlo.binary main_v3_5 main_while0b_c_20 main_while0b_v83 (addi : (⟨S_, .i32⟩ : BufTy).Contents (Elt F) → (⟨S_, .i32⟩ : BufTy).Contents (Elt F) → (⟨S_, .i32⟩ : BufTy).Contents (Elt F))
  :: StableHlo.unary main_while0b_v83 main_v3_5 id
  :: StableHlo.unary main_while0b_v82 main_v3_6 id
  :: StableHlo.unary main_while0b_v80 main_v3_7 id
  :: [] )
/-- These operations read and write buffers of the program only. -/
theorem while0Ops0_1_sub : (while0Ops0_1 : List (HloOp τ sig (Elt F))).Forall fun op => op.bufs ⊆ StableHlo.tcRefs τ sig :=
  ⟨StableHlo.unary_bufs_sub .., StableHlo.binary_bufs_sub .., StableHlo.unary_bufs_sub .., StableHlo.binary_bufs_sub .., StableHlo.binary_bufs_sub .., StableHlo.unary_bufs_sub .., StableHlo.unary_bufs_sub .., StableHlo.binary_bufs_sub .., StableHlo.unary_bufs_sub .., StableHlo.unary_bufs_sub .., StableHlo.binary_bufs_sub .., StableHlo.unary_bufs_sub .., StableHlo.unary_bufs_sub .., StableHlo.unary_bufs_sub .., StableHlo.unary_bufs_sub .., StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.binary_bufs_sub .., StableHlo.binary_bufs_sub .., StableHlo.unary_bufs_sub .., StableHlo.binary_bufs_sub .., StableHlo.nullary_bufs_sub .., StableHlo.binary_bufs_sub .., StableHlo.unary_bufs_sub .., StableHlo.unary_bufs_sub .., StableHlo.unary_bufs_sub ..⟩
/-- The loop's body is the chain of its groups of operations. -/
theorem while0_body_chain : main_while0_body (F := F) = (Pipeline.chain
  [ StableHlo.seq while0Ops0,
    StableHlo.seq while0Ops0_1 ] : Prog (TpuEff nD τ sig (Elt F) (HostLoop.Sig (Pipeline.Sig Λ₀ (Fin 0) fun p => (pcfgs (F := F) p).Adm) 1) .tc) PUnit) := by
  rewrite [Pipeline.chain_cons, StableHlo.chain_seq_cons]
  chain_rfl

end Cert.ReferenceIdeal.Loop

namespace Cert.ReferenceIdeal.Loop

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.StableHlo
open Idealize.ShloMosaic.Pipeline (ucRefs sub_ucRefs)

variable {F : FTy → Type} [FloatOps F]

/-- These operations allocate nothing. -/
theorem hostOps0_fresh : (hostOps0 : List (HloOp τ sig (Elt F))).Forall fun op => op.fresh = ∅ :=
  StableHlo.forall_fresh_of_map rfl
abbrev hostOps0_W : List (Ref sig .tc) := [main_cst, main_v0, main_cst_0, main_v1, main_v2, main_c, main_v3_0, main_v3_1, main_v3_2, main_v3_3, main_v3_4, main_v3_5, main_v3_6, main_v3_7]
/-- These operations write only the listed buffers. -/
theorem hostOps0_writes : (hostOps0 : List (HloOp τ sig (Elt F))).Forall fun op => op.writes ⊆ (hostOps0_W.map (Proc.devRef (τ := τ) .tc)).toFinset :=
  StableHlo.forall_writes_sub_of_map rfl
/-- These operations allocate nothing. -/
theorem while0Ops0_fresh : (while0Ops0 : List (HloOp τ sig (Elt F))).Forall fun op => op.fresh = ∅ :=
  StableHlo.forall_fresh_of_map rfl
abbrev while0Ops0_W : List (Ref sig .tc) := [main_while0b_call0_c, main_while0b_call0_c_0, main_while0b_call0_v0, main_while0b_v43]
/-- These operations write only the listed buffers. -/
theorem while0Ops0_writes : (while0Ops0 : List (HloOp τ sig (Elt F))).Forall fun op => op.writes ⊆ (while0Ops0_W.map (Proc.devRef (τ := τ) .tc)).toFinset :=
  StableHlo.forall_writes_sub_of_map rfl
/-- These operations allocate nothing. -/
theorem while0Ops0_1_fresh : (while0Ops0_1 : List (HloOp τ sig (Elt F))).Forall fun op => op.fresh = ∅ :=
  StableHlo.forall_fresh_of_map rfl
abbrev while0Ops0_1_W : List (Ref sig .tc) := [main_while0b_v44, main_while0b_v45, main_while0b_v46, main_while0b_v47, main_while0b_v48, main_while0b_v49, main_while0b_v50, main_while0b_v51, main_while0b_v52, main_while0b_v53, main_while0b_v54, main_while0b_v55, main_while0b_v56, main_while0b_v57, main_while0b_v58, main_while0b_v59, main_while0b_v60, main_while0b_cst_14, main_while0b_v61, main_while0b_v62, main_while0b_cst_15, main_while0b_v63, main_while0b_v64, main_while0b_v65, main_while0b_v66, main_while0b_cst_16, main_while0b_v67, main_while0b_v68, main_while0b_cst_17, main_while0b_v69, main_while0b_v70, main_while0b_v71, main_while0b_v72, main_while0b_v73, main_while0b_cst_18, main_while0b_v74, main_while0b_v75, main_while0b_cst_19, main_while0b_v76, main_while0b_v77, main_while0b_v78, main_while0b_v79, main_while0b_v80, main_while0b_v81, main_while0b_v82, main_while0b_c_20, main_while0b_v83, main_v3_5, main_v3_6, main_v3_7]
/-- These operations write only the listed buffers. -/
theorem while0Ops0_1_writes : (while0Ops0_1 : List (HloOp τ sig (Elt F))).Forall fun op => op.writes ⊆ (while0Ops0_1_W.map (Proc.devRef (τ := τ) .tc)).toFinset :=
  StableHlo.forall_writes_sub_of_map rfl
/-- These operations allocate nothing. -/
theorem hostOps0_1_fresh : (hostOps0_1 : List (HloOp τ sig (Elt F))).Forall fun op => op.fresh = ∅ :=
  StableHlo.forall_fresh_of_map rfl
/-- These operations allocate nothing. -/
theorem hostOps0_2_fresh : (hostOps0_2 : List (HloOp τ sig (Elt F))).Forall fun op => op.fresh = ∅ :=
  StableHlo.forall_fresh_of_map rfl
/-- These operations allocate nothing. -/
theorem hostOps0_3_fresh : (hostOps0_3 : List (HloOp τ sig (Elt F))).Forall fun op => op.fresh = ∅ :=
  StableHlo.forall_fresh_of_map rfl
/-- These operations allocate nothing. -/
theorem hostOps0_4_fresh : (hostOps0_4 : List (HloOp τ sig (Elt F))).Forall fun op => op.fresh = ∅ :=
  StableHlo.forall_fresh_of_map rfl
/-- These operations allocate nothing. -/
theorem hostOps0_5_fresh : (hostOps0_5 : List (HloOp τ sig (Elt F))).Forall fun op => op.fresh = ∅ :=
  StableHlo.forall_fresh_of_map rfl
abbrev hostOps0_1_W : List (Ref sig .tc) := [main_v4, main_v5, main_v6, main_v7, main_v8, main_v9, main_v10]
/-- These operations write only the listed buffers. -/
theorem hostOps0_1_writes : (hostOps0_1 : List (HloOp τ sig (Elt F))).Forall fun op => op.writes ⊆ (hostOps0_1_W.map (Proc.devRef (τ := τ) .tc)).toFinset :=
  StableHlo.forall_writes_sub_of_map rfl
abbrev hostOps0_2_W : List (Ref sig .tc) := [main_call1_v0, main_call1_cst, main_call1_v1, main_call1_v2, main_v11]
/-- These operations write only the listed buffers. -/
theorem hostOps0_2_writes : (hostOps0_2 : List (HloOp τ sig (Elt F))).Forall fun op => op.writes ⊆ (hostOps0_2_W.map (Proc.devRef (τ := τ) .tc)).toFinset :=
  StableHlo.forall_writes_sub_of_map rfl
abbrev hostOps0_3_W : List (Ref sig .tc) := [main_cst_1, main_v12, main_v13, main_v14, main_v15]
/-- These operations write only the listed buffers. -/
theorem hostOps0_3_writes : (hostOps0_3 : List (HloOp τ sig (Elt F))).Forall fun op => op.writes ⊆ (hostOps0_3_W.map (Proc.devRef (τ := τ) .tc)).toFinset :=
  StableHlo.forall_writes_sub_of_map rfl
abbrev hostOps0_4_W : List (Ref sig .tc) := [main_call2_v0, main_call2_cst, main_call2_v1, main_call2_v2, main_v16]
/-- These operations write only the listed buffers. -/
theorem hostOps0_4_writes : (hostOps0_4 : List (HloOp τ sig (Elt F))).Forall fun op => op.writes ⊆ (hostOps0_4_W.map (Proc.devRef (τ := τ) .tc)).toFinset :=
  StableHlo.forall_writes_sub_of_map rfl
abbrev hostOps0_5_W : List (Ref sig .tc) := [main_cst_2, main_v17, main_v18, main_v19, main_v20, main_v21, main_v22, main_cst_3, main_v23, main_v24, main_cst_4, main_v25, main_cst_5, main_v26, main_v27, main_v28, main_v29, main_v30, main_v31, main_cst_6, main_v32, main_v33, main_v34, main_v35, main_v36, main_v37, main_v38, main_v39, main_v40, main_v41, main_v42]
/-- These operations write only the listed buffers. -/
theorem hostOps0_5_writes : (hostOps0_5 : List (HloOp τ sig (Elt F))).Forall fun op => op.writes ⊆ (hostOps0_5_W.map (Proc.devRef (τ := τ) .tc)).toFinset :=
  StableHlo.forall_writes_sub_of_map rfl

abbrev condOps : List (HloOp τ sig (Elt F)) :=
  [ StableHlo.nullary main_while0c_c_14 (constantI S_ 32 50#32),
    StableHlo.binary main_v3_5 main_while0c_c_14 main_while0c_v43 (cmpi .slt) ]

abbrev preI : List (List (HloOp τ sig (Elt F))) := [hostOps0]
abbrev bodyI : List (List (HloOp τ sig (Elt F))) := [while0Ops0, while0Ops0_1]
abbrev postI : List (List (HloOp τ sig (Elt F))) := [hostOps0_1, hostOps0_2, hostOps0_3, hostOps0_4, hostOps0_5]

/-- The groups before the loop are plain. -/
theorem hpre : Plain (preI (F := F)) := .cons hostOps0_sub (hf := List.forall_iff_forall_mem.mp hostOps0_fresh) (.nil)
/-- The groups of the loop are plain. -/
theorem hbodyI : Plain (bodyI (F := F)) := .cons while0Ops0_sub (hf := List.forall_iff_forall_mem.mp while0Ops0_fresh) (.cons while0Ops0_1_sub (hf := List.forall_iff_forall_mem.mp while0Ops0_1_fresh) (.nil))
/-- The groups after the loop are plain. -/
theorem hpost : Plain (postI (F := F)) := .cons hostOps0_1_sub (hf := List.forall_iff_forall_mem.mp hostOps0_1_fresh) (.cons hostOps0_2_sub (hf := List.forall_iff_forall_mem.mp hostOps0_2_fresh) (.cons hostOps0_3_sub (hf := List.forall_iff_forall_mem.mp hostOps0_3_fresh) (.cons hostOps0_4_sub (hf := List.forall_iff_forall_mem.mp hostOps0_4_fresh) (.cons hostOps0_5_sub (hf := List.forall_iff_forall_mem.mp hostOps0_5_fresh) (.nil)))))

abbrev condOps_W : List (Ref sig .tc) := [main_while0c_c_14, main_while0c_v43]
/-- These operations write only the listed buffers. -/
theorem condOps_writes : (condOps : List (HloOp τ sig (Elt F))).Forall fun op => op.writes ⊆ (condOps_W.map (Proc.devRef (τ := τ) .tc)).toFinset :=
  StableHlo.forall_writes_sub_of_map rfl

variable (m : (ℓ : Loc nD τ sig) → Buf (Elt F) ℓ) (ρ : Dev nD → PrngReg)

abbrev atK (k : ℕ) (c : Dev nD) : Valuation τ sig (Elt F) := atTrip condOps bodyI (entryContents preI m) k c

/-- These operations leave the loop's counter as it was. -/
theorem ctr_cond (V : Valuation τ sig (Elt F)) : after condOps V (Proc.devRef .tc main_v3_5) = V (Proc.devRef .tc main_v3_5) :=
  after_of_writes_sub condOps V condOps_writes (by decide +kernel)
/-- These operations leave the loop's counter as it was. -/
theorem ctr_while0Ops0 (V : Valuation τ sig (Elt F)) : after while0Ops0 V (Proc.devRef .tc main_v3_5) = V (Proc.devRef .tc main_v3_5) :=
  after_of_writes_sub while0Ops0 V while0Ops0_writes (by decide +kernel)

abbrev trip_w0 : List (HloOp τ sig (Elt F)) :=
  [ StableHlo.TRef.nullary (.of main_while0b_call0_c : StableHlo.TRef sig ⟨S_, .i32⟩) (constantI S_ 32 0#32),
    StableHlo.TRef.nullary (.of main_while0b_call0_c_0 : StableHlo.TRef sig ⟨S_, .i32⟩) (constantI S_ 32 0#32),
    StableHlo.TRef.unaryIndexed (.of main_v3_0 : StableHlo.TRef sig ⟨S50x512x128, .f32⟩) ![(.of main_v3_5 : StableHlo.TRef sig ⟨S_, .i32⟩), (.of main_while0b_call0_c : StableHlo.TRef sig ⟨S_, .i32⟩), (.of main_while0b_call0_c_0 : StableHlo.TRef sig ⟨S_, .i32⟩)] (.of main_while0b_call0_v0 : StableHlo.TRef sig ⟨S1x512x128, .f32⟩) (fun x i => Host.dynamicSlice S1x512x128 x (fun k => (i k (Shape.Idx.first h_S_)).toInt) sliceFits_S50x512x128_S1x512x128) ]

abbrev trip_w1 : List (HloOp τ sig (Elt F)) :=
  [ StableHlo.TRef.reshape (.of main_while0b_call0_v0 : StableHlo.TRef sig ⟨S1x512x128, .f32⟩) (.of main_while0b_v43 : StableHlo.TRef sig ⟨S512x128, .f32⟩) (rfl : (.f32 : EltTy) = .f32) shapeCasts_S1x512x128_S512x128 ]

abbrev trip_w2 : List (HloOp τ sig (Elt F)) :=
  [ StableHlo.unary main_v3_1 main_while0b_v44 ((transpose S128x512 [1, 0] · transposes_S512x128_S128x512_1_0) : (⟨S512x128, .f32⟩ : BufTy).Contents (Elt F) → (⟨S128x512, .f32⟩ : BufTy).Contents (Elt F)),
    StableHlo.binary main_while0b_v43 main_while0b_v44 main_while0b_v45 ((fun l r => Host.dotGeneral dot_S512x128_S128x512_S512x512_1_0_0_1_n_n none l r) : (⟨S512x128, .f32⟩ : BufTy).Contents (Elt F) → (⟨S128x512, .f32⟩ : BufTy).Contents (Elt F) → (⟨S512x512, .f32⟩ : BufTy).Contents (Elt F)),
    StableHlo.unary main_v3_2 main_while0b_v46 ((transpose S128x512 [1, 0] · transposes_S512x128_S128x512_1_0) : (⟨S512x128, .f32⟩ : BufTy).Contents (Elt F) → (⟨S128x512, .f32⟩ : BufTy).Contents (Elt F)),
    StableHlo.binary main_v3_6 main_while0b_v46 main_while0b_v47 ((fun l r => Host.dotGeneral dot_S512x128_S128x512_S512x512_1_0_0_1_n_n none l r) : (⟨S512x128, .f32⟩ : BufTy).Contents (Elt F) → (⟨S128x512, .f32⟩ : BufTy).Contents (Elt F) → (⟨S512x512, .f32⟩ : BufTy).Contents (Elt F)),
    StableHlo.binary main_while0b_v45 main_while0b_v47 main_while0b_v48 (addf : (⟨S512x512, .f32⟩ : BufTy).Contents (Elt F) → (⟨S512x512, .f32⟩ : BufTy).Contents (Elt F) → (⟨S512x512, .f32⟩ : BufTy).Contents (Elt F)),
    StableHlo.unary main_v3_3 main_while0b_v49 (broadcastInDim S1x512 ![1] bcast_S512_S1x512_1 : (⟨S512, .f32⟩ : BufTy).Contents (Elt F) → (⟨S1x512, .f32⟩ : BufTy).Contents (Elt F)),
    StableHlo.unary main_while0b_v49 main_while0b_v50 (broadcastInDim S512x512 ![0, 1] bcast_S1x512_S512x512_0_1 : (⟨S1x512, .f32⟩ : BufTy).Contents (Elt F) → (⟨S512x512, .f32⟩ : BufTy).Contents (Elt F)),
    StableHlo.binary main_while0b_v48 main_while0b_v50 main_while0b_v51 (addf : (⟨S512x512, .f32⟩ : BufTy).Contents (Elt F) → (⟨S512x512, .f32⟩ : BufTy).Contents (Elt F) → (⟨S512x512, .f32⟩ : BufTy).Contents (Elt F)),
    StableHlo.unary main_v3_4 main_while0b_v52 (broadcastInDim S1x512 ![1] bcast_S512_S1x512_1 : (⟨S512, .f32⟩ : BufTy).Contents (Elt F) → (⟨S1x512, .f32⟩ : BufTy).Contents (Elt F)),
    StableHlo.unary main_while0b_v52 main_while0b_v53 (broadcastInDim S512x512 ![0, 1] bcast_S1x512_S512x512_0_1 : (⟨S1x512, .f32⟩ : BufTy).Contents (Elt F) → (⟨S512x512, .f32⟩ : BufTy).Contents (Elt F)),
    StableHlo.binary main_while0b_v51 main_while0b_v53 main_while0b_v54 (addf : (⟨S512x512, .f32⟩ : BufTy).Contents (Elt F) → (⟨S512x512, .f32⟩ : BufTy).Contents (Elt F) → (⟨S512x512, .f32⟩ : BufTy).Contents (Elt F)),
    StableHlo.unary main_while0b_v54 main_while0b_v55 ((extractStridedSlice S512x128 ![0, 0] · slices_S512x512_S512x128_0_0) : (⟨S512x512, .f32⟩ : BufTy).Contents (Elt F) → (⟨S512x128, .f32⟩ : BufTy).Contents (Elt F)),
    StableHlo.unary main_while0b_v54 main_while0b_v56 ((extractStridedSlice S512x128 ![0, 128] · slices_S512x512_S512x128_0_128) : (⟨S512x512, .f32⟩ : BufTy).Contents (Elt F) → (⟨S512x128, .f32⟩ : BufTy).Contents (Elt F)),
    StableHlo.unary main_while0b_v54 main_while0b_v57 ((extractStridedSlice S512x128 ![0, 256] · slices_S512x512_S512x128_0_256) : (⟨S512x512, .f32⟩ : BufTy).Contents (Elt F) → (⟨S512x128, .f32⟩ : BufTy).Contents (Elt F)),
    StableHlo.unary main_while0b_v54 main_while0b_v58 ((extractStridedSlice S512x128 ![0, 384] · slices_S512x512_S512x128_0_384) : (⟨S512x512, .f32⟩ : BufTy).Contents (Elt F) → (⟨S512x128, .f32⟩ : BufTy).Contents (Elt F)),
    StableHlo.unary main_while0b_v55 main_while0b_v59 (Host.negf : (⟨S512x128, .f32⟩ : BufTy).Contents (Elt F) → (⟨S512x128, .f32⟩ : BufTy).Contents (Elt F)),
    StableHlo.unary main_while0b_v59 main_while0b_v60 (Host.exp : (⟨S512x128, .f32⟩ : BufTy).Contents (Elt F) → (⟨S512x128, .f32⟩ : BufTy).Contents (Elt F)),
    StableHlo.nullary main_while0b_cst_14 (constant S_ .f32 0x3F800000#32),
    StableHlo.unary main_while0b_cst_14 main_while0b_v61 (broadcastInDim S512x128 ![] bcast_S_S512x128 : (⟨S_, .f32⟩ : BufTy).Contents (Elt F) → (⟨S512x128, .f32⟩ : BufTy).Contents (Elt F)),
    StableHlo.binary main_while0b_v61 main_while0b_v60 main_while0b_v62 (addf : (⟨S512x128, .f32⟩ : BufTy).Contents (Elt F) → (⟨S512x128, .f32⟩ : BufTy).Contents (Elt F) → (⟨S512x128, .f32⟩ : BufTy).Contents (Elt F)),
    StableHlo.nullary main_while0b_cst_15 (constant S_ .f32 0x3F800000#32),
    StableHlo.unary main_while0b_cst_15 main_while0b_v63 (broadcastInDim S512x128 ![] bcast_S_S512x128 : (⟨S_, .f32⟩ : BufTy).Contents (Elt F) → (⟨S512x128, .f32⟩ : BufTy).Contents (Elt F)),
    StableHlo.binary main_while0b_v63 main_while0b_v62 main_while0b_v64 (Host.divf : (⟨S512x128, .f32⟩ : BufTy).Contents (Elt F) → (⟨S512x128, .f32⟩ : BufTy).Contents (Elt F) → (⟨S512x128, .f32⟩ : BufTy).Contents (Elt F)),
    StableHlo.unary main_while0b_v56 main_while0b_v65 (Host.negf : (⟨S512x128, .f32⟩ : BufTy).Contents (Elt F) → (⟨S512x128, .f32⟩ : BufTy).Contents (Elt F)) ]

abbrev trip_w3 : List (HloOp τ sig (Elt F)) :=
  [ StableHlo.unary main_while0b_v65 main_while0b_v66 (Host.exp : (⟨S512x128, .f32⟩ : BufTy).Contents (Elt F) → (⟨S512x128, .f32⟩ : BufTy).Contents (Elt F)),
    StableHlo.nullary main_while0b_cst_16 (constant S_ .f32 0x3F800000#32),
    StableHlo.unary main_while0b_cst_16 main_while0b_v67 (broadcastInDim S512x128 ![] bcast_S_S512x128 : (⟨S_, .f32⟩ : BufTy).Contents (Elt F) → (⟨S512x128, .f32⟩ : BufTy).Contents (Elt F)),
    StableHlo.binary main_while0b_v67 main_while0b_v66 main_while0b_v68 (addf : (⟨S512x128, .f32⟩ : BufTy).Contents (Elt F) → (⟨S512x128, .f32⟩ : BufTy).Contents (Elt F) → (⟨S512x128, .f32⟩ : BufTy).Contents (Elt F)),
    StableHlo.nullary main_while0b_cst_17 (constant S_ .f32 0x3F800000#32),
    StableHlo.unary main_while0b_cst_17 main_while0b_v69 (broadcastInDim S512x128 ![] bcast_S_S512x128 : (⟨S_, .f32⟩ : BufTy).Contents (Elt F) → (⟨S512x128, .f32⟩ : BufTy).Contents (Elt F)),
    StableHlo.binary main_while0b_v69 main_while0b_v68 main_while0b_v70 (Host.divf : (⟨S512x128, .f32⟩ : BufTy).Contents (Elt F) → (⟨S512x128, .f32⟩ : BufTy).Contents (Elt F) → (⟨S512x128, .f32⟩ : BufTy).Contents (Elt F)),
    StableHlo.unary main_while0b_v57 main_while0b_v71 (Host.tanh : (⟨S512x128, .f32⟩ : BufTy).Contents (Elt F) → (⟨S512x128, .f32⟩ : BufTy).Contents (Elt F)),
    StableHlo.unary main_while0b_v58 main_while0b_v72 (Host.negf : (⟨S512x128, .f32⟩ : BufTy).Contents (Elt F) → (⟨S512x128, .f32⟩ : BufTy).Contents (Elt F)),
    StableHlo.unary main_while0b_v72 main_while0b_v73 (Host.exp : (⟨S512x128, .f32⟩ : BufTy).Contents (Elt F) → (⟨S512x128, .f32⟩ : BufTy).Contents (Elt F)),
    StableHlo.nullary main_while0b_cst_18 (constant S_ .f32 0x3F800000#32),
    StableHlo.unary main_while0b_cst_18 main_while0b_v74 (broadcastInDim S512x128 ![] bcast_S_S512x128 : (⟨S_, .f32⟩ : BufTy).Contents (Elt F) → (⟨S512x128, .f32⟩ : BufTy).Contents (Elt F)),
    StableHlo.binary main_while0b_v74 main_while0b_v73 main_while0b_v75 (addf : (⟨S512x128, .f32⟩ : BufTy).Contents (Elt F) → (⟨S512x128, .f32⟩ : BufTy).Contents (Elt F) → (⟨S512x128, .f32⟩ : BufTy).Contents (Elt F)),
    StableHlo.nullary main_while0b_cst_19 (constant S_ .f32 0x3F800000#32),
    StableHlo.unary main_while0b_cst_19 main_while0b_v76 (broadcastInDim S512x128 ![] bcast_S_S512x128 : (⟨S_, .f32⟩ : BufTy).Contents (Elt F) → (⟨S512x128, .f32⟩ : BufTy).Contents (Elt F)),
    StableHlo.binary main_while0b_v76 main_while0b_v75 main_while0b_v77 (Host.divf : (⟨S512x128, .f32⟩ : BufTy).Contents (Elt F) → (⟨S512x128, .f32⟩ : BufTy).Contents (Elt F) → (⟨S512x128, .f32⟩ : BufTy).Contents (Elt F)),
    StableHlo.binary main_while0b_v70 main_v3_7 main_while0b_v78 (mulf : (⟨S512x128, .f32⟩ : BufTy).Contents (Elt F) → (⟨S512x128, .f32⟩ : BufTy).Contents (Elt F) → (⟨S512x128, .f32⟩ : BufTy).Contents (Elt F)),
    StableHlo.binary main_while0b_v64 main_while0b_v71 main_while0b_v79 (mulf : (⟨S512x128, .f32⟩ : BufTy).Contents (Elt F) → (⟨S512x128, .f32⟩ : BufTy).Contents (Elt F) → (⟨S512x128, .f32⟩ : BufTy).Contents (Elt F)),
    StableHlo.binary main_while0b_v78 main_while0b_v79 main_while0b_v80 (addf : (⟨S512x128, .f32⟩ : BufTy).Contents (Elt F) → (⟨S512x128, .f32⟩ : BufTy).Contents (Elt F) → (⟨S512x128, .f32⟩ : BufTy).Contents (Elt F)),
    StableHlo.unary main_while0b_v80 main_while0b_v81 (Host.tanh : (⟨S512x128, .f32⟩ : BufTy).Contents (Elt F) → (⟨S512x128, .f32⟩ : BufTy).Contents (Elt F)),
    StableHlo.binary main_while0b_v77 main_while0b_v81 main_while0b_v82 (mulf : (⟨S512x128, .f32⟩ : BufTy).Contents (Elt F) → (⟨S512x128, .f32⟩ : BufTy).Contents (Elt F) → (⟨S512x128, .f32⟩ : BufTy).Contents (Elt F)) ]

abbrev while0Ops0_1_step : List (HloOp τ sig (Elt F)) :=
  [ StableHlo.nullary main_while0b_c_20 (constantI S_ 32 1#32),
    StableHlo.binary main_v3_5 main_while0b_c_20 main_while0b_v83 (addi : (⟨S_, .i32⟩ : BufTy).Contents (Elt F) → (⟨S_, .i32⟩ : BufTy).Contents (Elt F) → (⟨S_, .i32⟩ : BufTy).Contents (Elt F)),
    StableHlo.unary main_while0b_v83 main_v3_5 id,
    StableHlo.unary main_while0b_v82 main_v3_6 id,
    StableHlo.unary main_while0b_v80 main_v3_7 id ]

set_option maxRecDepth 5000 in
/-- The group of operations, cut into shorter runs. -/
theorem while0Ops0_cut : (while0Ops0 : List (HloOp τ sig (Elt F))) = trip_w0 ++ (trip_w1) := rfl
set_option maxRecDepth 5000 in
/-- The group of operations, cut into shorter runs. -/
theorem while0Ops0_1_cut : (while0Ops0_1 : List (HloOp τ sig (Elt F))) = trip_w2 ++ (trip_w3 ++ (while0Ops0_1_step)) := rfl

abbrev trip_w0_W : List (Ref sig .tc) := [main_while0b_call0_c, main_while0b_call0_c_0, main_while0b_call0_v0]
set_option maxRecDepth 8192 in
/-- These operations write only the listed buffers. -/
theorem trip_w0_writes : (trip_w0 : List (HloOp τ sig (Elt F))).Forall fun op => op.writes ⊆ (trip_w0_W.map (Proc.devRef (τ := τ) .tc)).toFinset := by
  simp only [List.Forall]
  repeat' apply And.intro
  all_goals (simp only [nullary_writes, unary_writes, binary_writes, ternary_writes, quaternary_writes, reshape_writes, binaryIndexed_writes, nary_writes, unaryIndexed_writes, Finset.singleton_subset_iff, List.mem_toFinset]; exact List.mem_map_of_mem (by decide))
abbrev trip_w1_W : List (Ref sig .tc) := [main_while0b_v43]
set_option maxRecDepth 8192 in
/-- These operations write only the listed buffers. -/
theorem trip_w1_writes : (trip_w1 : List (HloOp τ sig (Elt F))).Forall fun op => op.writes ⊆ (trip_w1_W.map (Proc.devRef (τ := τ) .tc)).toFinset := by
  simp only [List.Forall]
  repeat' apply And.intro
  all_goals (simp only [nullary_writes, unary_writes, binary_writes, ternary_writes, quaternary_writes, reshape_writes, binaryIndexed_writes, nary_writes, unaryIndexed_writes, Finset.singleton_subset_iff, List.mem_toFinset]; exact List.mem_map_of_mem (by decide))
abbrev trip_w2_W : List (Ref sig .tc) := [main_while0b_v44, main_while0b_v45, main_while0b_v46, main_while0b_v47, main_while0b_v48, main_while0b_v49, main_while0b_v50, main_while0b_v51, main_while0b_v52, main_while0b_v53, main_while0b_v54, main_while0b_v55, main_while0b_v56, main_while0b_v57, main_while0b_v58, main_while0b_v59, main_while0b_v60, main_while0b_cst_14, main_while0b_v61, main_while0b_v62, main_while0b_cst_15, main_while0b_v63, main_while0b_v64, main_while0b_v65]
set_option maxRecDepth 8192 in
/-- These operations write only the listed buffers. -/
theorem trip_w2_writes : (trip_w2 : List (HloOp τ sig (Elt F))).Forall fun op => op.writes ⊆ (trip_w2_W.map (Proc.devRef (τ := τ) .tc)).toFinset := by
  simp only [List.Forall]
  repeat' apply And.intro
  all_goals (simp only [nullary_writes, unary_writes, binary_writes, ternary_writes, quaternary_writes, reshape_writes, binaryIndexed_writes, nary_writes, unaryIndexed_writes, Finset.singleton_subset_iff, List.mem_toFinset]; exact List.mem_map_of_mem (by decide))
abbrev trip_w3_W : List (Ref sig .tc) := [main_while0b_v66, main_while0b_cst_16, main_while0b_v67, main_while0b_v68, main_while0b_cst_17, main_while0b_v69, main_while0b_v70, main_while0b_v71, main_while0b_v72, main_while0b_v73, main_while0b_cst_18, main_while0b_v74, main_while0b_v75, main_while0b_cst_19, main_while0b_v76, main_while0b_v77, main_while0b_v78, main_while0b_v79, main_while0b_v80, main_while0b_v81, main_while0b_v82]
set_option maxRecDepth 8192 in
/-- These operations write only the listed buffers. -/
theorem trip_w3_writes : (trip_w3 : List (HloOp τ sig (Elt F))).Forall fun op => op.writes ⊆ (trip_w3_W.map (Proc.devRef (τ := τ) .tc)).toFinset := by
  simp only [List.Forall]
  repeat' apply And.intro
  all_goals (simp only [nullary_writes, unary_writes, binary_writes, ternary_writes, quaternary_writes, reshape_writes, binaryIndexed_writes, nary_writes, unaryIndexed_writes, Finset.singleton_subset_iff, List.mem_toFinset]; exact List.mem_map_of_mem (by decide))
/-- These operations leave the loop's counter as it was. -/
theorem ctr_trip_w2 (V : Valuation τ sig (Elt F)) : after trip_w2 V (Proc.devRef .tc main_v3_5) = V (Proc.devRef .tc main_v3_5) :=
  after_of_writes_sub trip_w2 V trip_w2_writes (by decide +kernel)
/-- These operations leave the loop's counter as it was. -/
theorem ctr_trip_w3 (V : Valuation τ sig (Elt F)) : after trip_w3 V (Proc.devRef .tc main_v3_5) = V (Proc.devRef .tc main_v3_5) :=
  after_of_writes_sub trip_w3 V trip_w3_writes (by decide +kernel)

set_option maxRecDepth 100000 in
/-- The last operations of a trip add one to the loop's counter. -/
theorem ctr_while0Ops0_1_step (Y : Valuation τ sig (Elt F)) :
    after while0Ops0_1_step Y (Proc.devRef .tc main_v3_5) = addi (Y (Proc.devRef .tc main_v3_5)) (constantI S_ 32 1#32) := by
  after_results
  rfl

set_option maxRecDepth 100000 in
/-- One trip adds one to the loop's counter. -/
theorem ctr_step (X : Valuation τ sig (Elt F)) :
    after while0Ops0_1 X (Proc.devRef .tc main_v3_5) = addi (X (Proc.devRef .tc main_v3_5)) (constantI S_ 32 1#32) := by
  simp only [while0Ops0_1_cut, after_append]
  rw [ctr_while0Ops0_1_step, ctr_trip_w3, ctr_trip_w2]

/-- The loop's counter starts at zero. -/
theorem ctr_entry (c : Dev nD) : entryContents preI m c (Proc.devRef .tc main_v3_5) = fun _ => (0#32 : BitVec 32) := by
  simp only [entryContents, afterL_cons, afterL_nil]
  after_reads_simp
  rfl

/-- Before trip `k` the loop counter reads `k`. -/
theorem atK_ctr (c : Dev nD) : ∀ k, atK m k c (Proc.devRef .tc main_v3_5) = fun _ => Scf.iv 0#32 1#32 k
  | 0 => by rw [show atK m 0 c = entryContents preI m c from rfl, ctr_entry, Scf.iv_zero]
  | k + 1 => by
    rw [show atK m (k + 1) c = afterL bodyI (after condOps (atK m k c)) from rfl]
    simp only [afterL_cons, afterL_nil]
    rw [ctr_step, ctr_while0Ops0, ctr_cond, atK_ctr c k, Scf.iv_succ]
    rfl

set_option backward.isDefEq.respectTransparency.types false in
/-- The loop condition holds exactly on the first fifty trips. -/
theorem cond_spec : CondSpec (pcfgs (F := F)) defs₀ loops (main_while0_cond (F := F)) condOps bodyI (entryContents preI m) 50 := by
  intro k hk c bd
  have hctr := atK_ctr m c k
  unfold main_while0_cond
  rw [wp_bind]
  iintro ⟨Hb, Hh⟩
  iapply (wp_hlo_within (Variants.lift Variants.none) (c : Thread nD τ) bd Set.univ (sub_ucRefs _ (nullary_bufs_sub ..))) $$ [Hb Hh]
  · isplitl [Hb]; · iexact Hb
    iexact Hh
  iintro ⟨Hb, Hh⟩
  rw [wp_ret]; imodintro
  iapply (wp_hlo_within (Variants.lift Variants.none) (c : Thread nD τ) bd Set.univ (sub_ucRefs _ (binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (atK m k c) main_v3_5 HostLoop.idx0)
        (HloOp.result _ (atK m k c) main_while0c_c_14 HostLoop.idx0) = 1#1) (k < 50)
    rw [nullary_result_ne _ _ _ _ (by decide), nullary_result, hctr]
    exact Scf.cmpi_slt_iv_ub_iff (lb := 0#32) (ub := 50#32) (st := 1#32) (by decide) (show k ≤ Scf.trips 0#32 50#32 1#32 from hk)
  isplitl [Hb]; · iexact Hb
  rw [after_cons, after_cons, after_nil]; iexact Hh

set_option maxRecDepth 100000 in
/-- Every execution of the reference ends with each buffer at the fold of its operations, fifty trips of the loop included. -/
theorem run_fold : θ_run (defs (F := F)) (onTc (τ := τ) (main (F := F))) ⟨m, fun _ => 0, ρ⟩
    (fun r => ∀ (c : Dev nD) (b : Ref sig .tc), (Proc.devRef .tc b : DevRef τ sig).isScoped = false →
      r.2.mem ((c.tc : Thread nD τ).loc b) = finalContents condOps preI bodyI postI 50 m c (Proc.devRef .tc b)) :=
  run_loop (pcfgs (F := F)) defs₀ loops main 0 main_while0_cond main_while0_body rfl preI bodyI postI condOps hpre hbodyI hpost
    (fun c => by rw [main_chain]; rfl) (by rw [while0_body_chain]; rfl) 50 m ρ (cond_spec m)

set_option maxRecDepth 8192 in
/-- The four gates before their nonlinearities, of the carried buffers. -/
def res_main_while0b_v54 (V0 : Valuation τ sig (Elt F)) : (Proc.devRef .tc main_while0b_v54 : DevRef τ sig).ty.Contents (Elt F) :=
  addf (addf (addf (Host.dotGeneral dot_S512x128_S128x512_S512x512_1_0_0_1_n_n none (shapeCast S512x128 (Host.dynamicSlice S1x512x128 (V0 (Proc.devRef .tc main_v3_0)) (fun k => (((![V0 (Proc.devRef .tc main_v3_5), constantI S_ 32 0#32, constantI S_ 32 0#32] : Fin 3 → (⟨S_, .i32⟩ : BufTy).Contents (Elt F))) k (Shape.Idx.first h_S_)).toInt) sliceFits_S50x512x128_S1x512x128) shapeCasts_S1x512x128_S512x128) (transpose S128x512 [1, 0] (V0 (Proc.devRef .tc main_v3_1)) transposes_S512x128_S128x512_1_0)) (Host.dotGeneral dot_S512x128_S128x512_S512x512_1_0_0_1_n_n none (V0 (Proc.devRef .tc main_v3_6)) (transpose S128x512 [1, 0] (V0 (Proc.devRef .tc main_v3_2)) transposes_S512x128_S128x512_1_0))) (broadcastInDim S512x512 ![0, 1] bcast_S1x512_S512x512_0_1 (broadcastInDim S1x512 ![1] bcast_S512_S1x512_1 (V0 (Proc.devRef .tc main_v3_3))))) (broadcastInDim S512x512 ![0, 1] bcast_S1x512_S512x512_0_1 (broadcastInDim S1x512 ![1] bcast_S512_S1x512_1 (V0 (Proc.devRef .tc main_v3_4))))

set_option maxRecDepth 8192 in
/-- The new cell state, of the carried buffers. -/
def res_main_while0b_v80 (V0 : Valuation τ sig (Elt F)) : (Proc.devRef .tc main_while0b_v80 : DevRef τ sig).ty.Contents (Elt F) :=
  addf (mulf (Host.divf (broadcastInDim S512x128 ![] bcast_S_S512x128 (constant S_ .f32 0x3F800000#32)) (addf (broadcastInDim S512x128 ![] bcast_S_S512x128 (constant S_ .f32 0x3F800000#32)) (Host.exp (Host.negf (extractStridedSlice S512x128 ![0, 128] (res_main_while0b_v54 V0) slices_S512x512_S512x128_0_128))))) (V0 (Proc.devRef .tc main_v3_7))) (mulf (Host.divf (broadcastInDim S512x128 ![] bcast_S_S512x128 (constant S_ .f32 0x3F800000#32)) (addf (broadcastInDim S512x128 ![] bcast_S_S512x128 (constant S_ .f32 0x3F800000#32)) (Host.exp (Host.negf (extractStridedSlice S512x128 ![0, 0] (res_main_while0b_v54 V0) slices_S512x512_S512x128_0_0))))) (Host.tanh (extractStridedSlice S512x128 ![0, 256] (res_main_while0b_v54 V0) slices_S512x512_S512x128_0_256)))

def val0 (V0 : Valuation τ sig (Elt F)) : Valuation τ sig (Elt F) := V0
/-- Carried buffer 0 is as it was after run 0 of the trip. -/
theorem val0_main_v3_0 (V0 : Valuation τ sig (Elt F)) : val0 V0 (no_index (Proc.devRef .tc main_v3_0)) = V0 (Proc.devRef .tc main_v3_0) := rfl
/-- Carried buffer 5 is as it was after run 0 of the trip. -/
theorem val0_main_v3_5 (V0 : Valuation τ sig (Elt F)) : val0 V0 (no_index (Proc.devRef .tc main_v3_5)) = V0 (Proc.devRef .tc main_v3_5) := rfl
/-- Carried buffer 1 is as it was after run 0 of the trip. -/
theorem val0_main_v3_1 (V0 : Valuation τ sig (Elt F)) : val0 V0 (no_index (Proc.devRef .tc main_v3_1)) = V0 (Proc.devRef .tc main_v3_1) := rfl
/-- Carried buffer 2 is as it was after run 0 of the trip. -/
theorem val0_main_v3_2 (V0 : Valuation τ sig (Elt F)) : val0 V0 (no_index (Proc.devRef .tc main_v3_2)) = V0 (Proc.devRef .tc main_v3_2) := rfl
/-- Carried buffer 6 is as it was after run 0 of the trip. -/
theorem val0_main_v3_6 (V0 : Valuation τ sig (Elt F)) : val0 V0 (no_index (Proc.devRef .tc main_v3_6)) = V0 (Proc.devRef .tc main_v3_6) := rfl
/-- Carried buffer 3 is as it was after run 0 of the trip. -/
theorem val0_main_v3_3 (V0 : Valuation τ sig (Elt F)) : val0 V0 (no_index (Proc.devRef .tc main_v3_3)) = V0 (Proc.devRef .tc main_v3_3) := rfl
/-- Carried buffer 4 is as it was after run 0 of the trip. -/
theorem val0_main_v3_4 (V0 : Valuation τ sig (Elt F)) : val0 V0 (no_index (Proc.devRef .tc main_v3_4)) = V0 (Proc.devRef .tc main_v3_4) := rfl
/-- Carried buffer 7 is as it was after run 0 of the trip. -/
theorem val0_main_v3_7 (V0 : Valuation τ sig (Elt F)) : val0 V0 (no_index (Proc.devRef .tc main_v3_7)) = V0 (Proc.devRef .tc main_v3_7) := rfl

def val1 (V0 : Valuation τ sig (Elt F)) : Valuation τ sig (Elt F) := after trip_w0 (val0 V0)
/-- This run of the trip leaves a buffer it does not write as it was. -/
theorem val1_keep (V0 : Valuation τ sig (Elt F)) (r : Ref sig .tc) (h : r ∉ trip_w0_W) :
    val1 V0 (Proc.devRef .tc r) = val0 V0 (Proc.devRef .tc r) :=
  after_of_writes_sub trip_w0 _ trip_w0_writes h
/-- Carried buffer 0 is as it was after run 1 of the trip. -/
theorem val1_main_v3_0 (V0 : Valuation τ sig (Elt F)) : val1 V0 (no_index (Proc.devRef .tc main_v3_0)) = V0 (Proc.devRef .tc main_v3_0) :=
  (val1_keep V0 main_v3_0 (by decide)).trans (val0_main_v3_0 V0)
/-- Carried buffer 5 is as it was after run 1 of the trip. -/
theorem val1_main_v3_5 (V0 : Valuation τ sig (Elt F)) : val1 V0 (no_index (Proc.devRef .tc main_v3_5)) = V0 (Proc.devRef .tc main_v3_5) :=
  (val1_keep V0 main_v3_5 (by decide)).trans (val0_main_v3_5 V0)
/-- Carried buffer 1 is as it was after run 1 of the trip. -/
theorem val1_main_v3_1 (V0 : Valuation τ sig (Elt F)) : val1 V0 (no_index (Proc.devRef .tc main_v3_1)) = V0 (Proc.devRef .tc main_v3_1) :=
  (val1_keep V0 main_v3_1 (by decide)).trans (val0_main_v3_1 V0)
/-- Carried buffer 2 is as it was after run 1 of the trip. -/
theorem val1_main_v3_2 (V0 : Valuation τ sig (Elt F)) : val1 V0 (no_index (Proc.devRef .tc main_v3_2)) = V0 (Proc.devRef .tc main_v3_2) :=
  (val1_keep V0 main_v3_2 (by decide)).trans (val0_main_v3_2 V0)
/-- Carried buffer 6 is as it was after run 1 of the trip. -/
theorem val1_main_v3_6 (V0 : Valuation τ sig (Elt F)) : val1 V0 (no_index (Proc.devRef .tc main_v3_6)) = V0 (Proc.devRef .tc main_v3_6) :=
  (val1_keep V0 main_v3_6 (by decide)).trans (val0_main_v3_6 V0)
/-- Carried buffer 3 is as it was after run 1 of the trip. -/
theorem val1_main_v3_3 (V0 : Valuation τ sig (Elt F)) : val1 V0 (no_index (Proc.devRef .tc main_v3_3)) = V0 (Proc.devRef .tc main_v3_3) :=
  (val1_keep V0 main_v3_3 (by decide)).trans (val0_main_v3_3 V0)
/-- Carried buffer 4 is as it was after run 1 of the trip. -/
theorem val1_main_v3_4 (V0 : Valuation τ sig (Elt F)) : val1 V0 (no_index (Proc.devRef .tc main_v3_4)) = V0 (Proc.devRef .tc main_v3_4) :=
  (val1_keep V0 main_v3_4 (by decide)).trans (val0_main_v3_4 V0)
/-- Carried buffer 7 is as it was after run 1 of the trip. -/
theorem val1_main_v3_7 (V0 : Valuation τ sig (Elt F)) : val1 V0 (no_index (Proc.devRef .tc main_v3_7)) = V0 (Proc.devRef .tc main_v3_7) :=
  (val1_keep V0 main_v3_7 (by decide)).trans (val0_main_v3_7 V0)
set_option maxRecDepth 8192 in
/-- The value of this intermediate after run 1 of the trip, in terms of the carried buffers. -/
theorem val1_main_while0b_call0_v0 (V0 : Valuation τ sig (Elt F)) : val1 V0 (no_index (Proc.devRef .tc main_while0b_call0_v0)) = Host.dynamicSlice S1x512x128 (V0 (Proc.devRef .tc main_v3_0)) (fun k => (((![V0 (Proc.devRef .tc main_v3_5), constantI S_ 32 0#32, constantI S_ 32 0#32] : Fin 3 → (⟨S_, .i32⟩ : BufTy).Contents (Elt F))) k (Shape.Idx.first h_S_)).toInt) sliceFits_S50x512x128_S1x512x128 := by
  unfold val1
  simp only [trip_w0]
  after_results_entrywise [val0_main_v3_5, val0_main_v3_0, cast_eq]

def val2 (V0 : Valuation τ sig (Elt F)) : Valuation τ sig (Elt F) := after trip_w1 (val1 V0)
/-- This run of the trip leaves a buffer it does not write as it was. -/
theorem val2_keep (V0 : Valuation τ sig (Elt F)) (r : Ref sig .tc) (h : r ∉ trip_w1_W) :
    val2 V0 (Proc.devRef .tc r) = val1 V0 (Proc.devRef .tc r) :=
  after_of_writes_sub trip_w1 _ trip_w1_writes h
/-- Carried buffer 0 is as it was after run 2 of the trip. -/
theorem val2_main_v3_0 (V0 : Valuation τ sig (Elt F)) : val2 V0 (no_index (Proc.devRef .tc main_v3_0)) = V0 (Proc.devRef .tc main_v3_0) :=
  (val2_keep V0 main_v3_0 (by decide)).trans (val1_main_v3_0 V0)
/-- Carried buffer 5 is as it was after run 2 of the trip. -/
theorem val2_main_v3_5 (V0 : Valuation τ sig (Elt F)) : val2 V0 (no_index (Proc.devRef .tc main_v3_5)) = V0 (Proc.devRef .tc main_v3_5) :=
  (val2_keep V0 main_v3_5 (by decide)).trans (val1_main_v3_5 V0)
/-- Carried buffer 1 is as it was after run 2 of the trip. -/
theorem val2_main_v3_1 (V0 : Valuation τ sig (Elt F)) : val2 V0 (no_index (Proc.devRef .tc main_v3_1)) = V0 (Proc.devRef .tc main_v3_1) :=
  (val2_keep V0 main_v3_1 (by decide)).trans (val1_main_v3_1 V0)
/-- Carried buffer 2 is as it was after run 2 of the trip. -/
theorem val2_main_v3_2 (V0 : Valuation τ sig (Elt F)) : val2 V0 (no_index (Proc.devRef .tc main_v3_2)) = V0 (Proc.devRef .tc main_v3_2) :=
  (val2_keep V0 main_v3_2 (by decide)).trans (val1_main_v3_2 V0)
/-- Carried buffer 6 is as it was after run 2 of the trip. -/
theorem val2_main_v3_6 (V0 : Valuation τ sig (Elt F)) : val2 V0 (no_index (Proc.devRef .tc main_v3_6)) = V0 (Proc.devRef .tc main_v3_6) :=
  (val2_keep V0 main_v3_6 (by decide)).trans (val1_main_v3_6 V0)
/-- Carried buffer 3 is as it was after run 2 of the trip. -/
theorem val2_main_v3_3 (V0 : Valuation τ sig (Elt F)) : val2 V0 (no_index (Proc.devRef .tc main_v3_3)) = V0 (Proc.devRef .tc main_v3_3) :=
  (val2_keep V0 main_v3_3 (by decide)).trans (val1_main_v3_3 V0)
/-- Carried buffer 4 is as it was after run 2 of the trip. -/
theorem val2_main_v3_4 (V0 : Valuation τ sig (Elt F)) : val2 V0 (no_index (Proc.devRef .tc main_v3_4)) = V0 (Proc.devRef .tc main_v3_4) :=
  (val2_keep V0 main_v3_4 (by decide)).trans (val1_main_v3_4 V0)
/-- Carried buffer 7 is as it was after run 2 of the trip. -/
theorem val2_main_v3_7 (V0 : Valuation τ sig (Elt F)) : val2 V0 (no_index (Proc.devRef .tc main_v3_7)) = V0 (Proc.devRef .tc main_v3_7) :=
  (val2_keep V0 main_v3_7 (by decide)).trans (val1_main_v3_7 V0)
set_option maxRecDepth 8192 in
/-- The value of this intermediate after run 2 of the trip, in terms of the carried buffers. -/
theorem val2_main_while0b_v43 (V0 : Valuation τ sig (Elt F)) : val2 V0 (no_index (Proc.devRef .tc main_while0b_v43)) = shapeCast S512x128 (Host.dynamicSlice S1x512x128 (V0 (Proc.devRef .tc main_v3_0)) (fun k => (((![V0 (Proc.devRef .tc main_v3_5), constantI S_ 32 0#32, constantI S_ 32 0#32] : Fin 3 → (⟨S_, .i32⟩ : BufTy).Contents (Elt F))) k (Shape.Idx.first h_S_)).toInt) sliceFits_S50x512x128_S1x512x128) shapeCasts_S1x512x128_S512x128 := by
  unfold val2
  simp only [trip_w1]
  after_results_entrywise [val1_main_while0b_call0_v0, cast_eq]

def val3 (V0 : Valuation τ sig (Elt F)) : Valuation τ sig (Elt F) := after trip_w2 (val2 V0)
/-- This run of the trip leaves a buffer it does not write as it was. -/
theorem val3_keep (V0 : Valuation τ sig (Elt F)) (r : Ref sig .tc) (h : r ∉ trip_w2_W) :
    val3 V0 (Proc.devRef .tc r) = val2 V0 (Proc.devRef .tc r) :=
  after_of_writes_sub trip_w2 _ trip_w2_writes h
/-- Carried buffer 0 is as it was after run 3 of the trip. -/
theorem val3_main_v3_0 (V0 : Valuation τ sig (Elt F)) : val3 V0 (no_index (Proc.devRef .tc main_v3_0)) = V0 (Proc.devRef .tc main_v3_0) :=
  (val3_keep V0 main_v3_0 (by decide)).trans (val2_main_v3_0 V0)
/-- Carried buffer 5 is as it was after run 3 of the trip. -/
theorem val3_main_v3_5 (V0 : Valuation τ sig (Elt F)) : val3 V0 (no_index (Proc.devRef .tc main_v3_5)) = V0 (Proc.devRef .tc main_v3_5) :=
  (val3_keep V0 main_v3_5 (by decide)).trans (val2_main_v3_5 V0)
/-- Carried buffer 1 is as it was after run 3 of the trip. -/
theorem val3_main_v3_1 (V0 : Valuation τ sig (Elt F)) : val3 V0 (no_index (Proc.devRef .tc main_v3_1)) = V0 (Proc.devRef .tc main_v3_1) :=
  (val3_keep V0 main_v3_1 (by decide)).trans (val2_main_v3_1 V0)
/-- Carried buffer 2 is as it was after run 3 of the trip. -/
theorem val3_main_v3_2 (V0 : Valuation τ sig (Elt F)) : val3 V0 (no_index (Proc.devRef .tc main_v3_2)) = V0 (Proc.devRef .tc main_v3_2) :=
  (val3_keep V0 main_v3_2 (by decide)).trans (val2_main_v3_2 V0)
/-- Carried buffer 6 is as it was after run 3 of the trip. -/
theorem val3_main_v3_6 (V0 : Valuation τ sig (Elt F)) : val3 V0 (no_index (Proc.devRef .tc main_v3_6)) = V0 (Proc.devRef .tc main_v3_6) :=
  (val3_keep V0 main_v3_6 (by decide)).trans (val2_main_v3_6 V0)
/-- Carried buffer 3 is as it was after run 3 of the trip. -/
theorem val3_main_v3_3 (V0 : Valuation τ sig (Elt F)) : val3 V0 (no_index (Proc.devRef .tc main_v3_3)) = V0 (Proc.devRef .tc main_v3_3) :=
  (val3_keep V0 main_v3_3 (by decide)).trans (val2_main_v3_3 V0)
/-- Carried buffer 4 is as it was after run 3 of the trip. -/
theorem val3_main_v3_4 (V0 : Valuation τ sig (Elt F)) : val3 V0 (no_index (Proc.devRef .tc main_v3_4)) = V0 (Proc.devRef .tc main_v3_4) :=
  (val3_keep V0 main_v3_4 (by decide)).trans (val2_main_v3_4 V0)
/-- Carried buffer 7 is as it was after run 3 of the trip. -/
theorem val3_main_v3_7 (V0 : Valuation τ sig (Elt F)) : val3 V0 (no_index (Proc.devRef .tc main_v3_7)) = V0 (Proc.devRef .tc main_v3_7) :=
  (val3_keep V0 main_v3_7 (by decide)).trans (val2_main_v3_7 V0)
set_option maxRecDepth 8192 in
set_option maxHeartbeats 2000000 in
/-- The value of this intermediate after run 3 of the trip, in terms of the carried buffers. -/
theorem val3_main_while0b_v57 (V0 : Valuation τ sig (Elt F)) : val3 V0 (no_index (Proc.devRef .tc main_while0b_v57)) = extractStridedSlice S512x128 ![0, 256] (res_main_while0b_v54 V0) slices_S512x512_S512x128_0_256 := by
  unfold val3
  simp only [trip_w2]
  after_results_entrywise [val2_main_v3_4, val2_main_v3_3, val2_main_v3_2, val2_main_v3_6, val2_main_v3_1, val2_main_while0b_v43, res_main_while0b_v54, cast_eq]
set_option maxRecDepth 8192 in
set_option maxHeartbeats 2000000 in
/-- The value of this intermediate after run 3 of the trip, in terms of the carried buffers. -/
theorem val3_main_while0b_v58 (V0 : Valuation τ sig (Elt F)) : val3 V0 (no_index (Proc.devRef .tc main_while0b_v58)) = extractStridedSlice S512x128 ![0, 384] (res_main_while0b_v54 V0) slices_S512x512_S512x128_0_384 := by
  unfold val3
  simp only [trip_w2]
  after_results_entrywise [val2_main_v3_4, val2_main_v3_3, val2_main_v3_2, val2_main_v3_6, val2_main_v3_1, val2_main_while0b_v43, res_main_while0b_v54, cast_eq]
set_option maxRecDepth 8192 in
set_option maxHeartbeats 2000000 in
/-- The value of this intermediate after run 3 of the trip, in terms of the carried buffers. -/
theorem val3_main_while0b_v64 (V0 : Valuation τ sig (Elt F)) : val3 V0 (no_index (Proc.devRef .tc main_while0b_v64)) = Host.divf (broadcastInDim S512x128 ![] bcast_S_S512x128 (constant S_ .f32 0x3F800000#32)) (addf (broadcastInDim S512x128 ![] bcast_S_S512x128 (constant S_ .f32 0x3F800000#32)) (Host.exp (Host.negf (extractStridedSlice S512x128 ![0, 0] (res_main_while0b_v54 V0) slices_S512x512_S512x128_0_0)))) := by
  unfold val3
  simp only [trip_w2]
  after_results_entrywise [val2_main_v3_4, val2_main_v3_3, val2_main_v3_2, val2_main_v3_6, val2_main_v3_1, val2_main_while0b_v43, res_main_while0b_v54, cast_eq]
set_option maxRecDepth 8192 in
set_option maxHeartbeats 2000000 in
/-- The value of this intermediate after run 3 of the trip, in terms of the carried buffers. -/
theorem val3_main_while0b_v65 (V0 : Valuation τ sig (Elt F)) : val3 V0 (no_index (Proc.devRef .tc main_while0b_v65)) = Host.negf (extractStridedSlice S512x128 ![0, 128] (res_main_while0b_v54 V0) slices_S512x512_S512x128_0_128) := by
  unfold val3
  simp only [trip_w2]
  after_results_entrywise [val2_main_v3_4, val2_main_v3_3, val2_main_v3_2, val2_main_v3_6, val2_main_v3_1, val2_main_while0b_v43, res_main_while0b_v54, cast_eq]

def val4 (V0 : Valuation τ sig (Elt F)) : Valuation τ sig (Elt F) := after trip_w3 (val3 V0)
/-- This run of the trip leaves a buffer it does not write as it was. -/
theorem val4_keep (V0 : Valuation τ sig (Elt F)) (r : Ref sig .tc) (h : r ∉ trip_w3_W) :
    val4 V0 (Proc.devRef .tc r) = val3 V0 (Proc.devRef .tc r) :=
  after_of_writes_sub trip_w3 _ trip_w3_writes h
/-- Carried buffer 0 is as it was after run 4 of the trip. -/
theorem val4_main_v3_0 (V0 : Valuation τ sig (Elt F)) : val4 V0 (no_index (Proc.devRef .tc main_v3_0)) = V0 (Proc.devRef .tc main_v3_0) :=
  (val4_keep V0 main_v3_0 (by decide)).trans (val3_main_v3_0 V0)
/-- Carried buffer 5 is as it was after run 4 of the trip. -/
theorem val4_main_v3_5 (V0 : Valuation τ sig (Elt F)) : val4 V0 (no_index (Proc.devRef .tc main_v3_5)) = V0 (Proc.devRef .tc main_v3_5) :=
  (val4_keep V0 main_v3_5 (by decide)).trans (val3_main_v3_5 V0)
/-- Carried buffer 1 is as it was after run 4 of the trip. -/
theorem val4_main_v3_1 (V0 : Valuation τ sig (Elt F)) : val4 V0 (no_index (Proc.devRef .tc main_v3_1)) = V0 (Proc.devRef .tc main_v3_1) :=
  (val4_keep V0 main_v3_1 (by decide)).trans (val3_main_v3_1 V0)
/-- Carried buffer 2 is as it was after run 4 of the trip. -/
theorem val4_main_v3_2 (V0 : Valuation τ sig (Elt F)) : val4 V0 (no_index (Proc.devRef .tc main_v3_2)) = V0 (Proc.devRef .tc main_v3_2) :=
  (val4_keep V0 main_v3_2 (by decide)).trans (val3_main_v3_2 V0)
/-- Carried buffer 6 is as it was after run 4 of the trip. -/
theorem val4_main_v3_6 (V0 : Valuation τ sig (Elt F)) : val4 V0 (no_index (Proc.devRef .tc main_v3_6)) = V0 (Proc.devRef .tc main_v3_6) :=
  (val4_keep V0 main_v3_6 (by decide)).trans (val3_main_v3_6 V0)
/-- Carried buffer 3 is as it was after run 4 of the trip. -/
theorem val4_main_v3_3 (V0 : Valuation τ sig (Elt F)) : val4 V0 (no_index (Proc.devRef .tc main_v3_3)) = V0 (Proc.devRef .tc main_v3_3) :=
  (val4_keep V0 main_v3_3 (by decide)).trans (val3_main_v3_3 V0)
/-- Carried buffer 4 is as it was after run 4 of the trip. -/
theorem val4_main_v3_4 (V0 : Valuation τ sig (Elt F)) : val4 V0 (no_index (Proc.devRef .tc main_v3_4)) = V0 (Proc.devRef .tc main_v3_4) :=
  (val4_keep V0 main_v3_4 (by decide)).trans (val3_main_v3_4 V0)
/-- Carried buffer 7 is as it was after run 4 of the trip. -/
theorem val4_main_v3_7 (V0 : Valuation τ sig (Elt F)) : val4 V0 (no_index (Proc.devRef .tc main_v3_7)) = V0 (Proc.devRef .tc main_v3_7) :=
  (val4_keep V0 main_v3_7 (by decide)).trans (val3_main_v3_7 V0)
set_option maxRecDepth 8192 in
set_option maxHeartbeats 2000000 in
/-- The value of this intermediate after run 4 of the trip, in terms of the carried buffers. -/
theorem val4_main_while0b_v80 (V0 : Valuation τ sig (Elt F)) : val4 V0 (no_index (Proc.devRef .tc main_while0b_v80)) = res_main_while0b_v80 V0 := by
  unfold val4
  simp only [trip_w3]
  after_results_entrywise [val3_main_while0b_v57, val3_main_while0b_v64, val3_main_v3_7, val3_main_while0b_v65, res_main_while0b_v80, cast_eq]
set_option maxRecDepth 8192 in
set_option maxHeartbeats 2000000 in
/-- The value of this intermediate after run 4 of the trip, in terms of the carried buffers. -/
theorem val4_main_while0b_v82 (V0 : Valuation τ sig (Elt F)) : val4 V0 (no_index (Proc.devRef .tc main_while0b_v82)) = mulf (Host.divf (broadcastInDim S512x128 ![] bcast_S_S512x128 (constant S_ .f32 0x3F800000#32)) (addf (broadcastInDim S512x128 ![] bcast_S_S512x128 (constant S_ .f32 0x3F800000#32)) (Host.exp (Host.negf (extractStridedSlice S512x128 ![0, 384] (res_main_while0b_v54 V0) slices_S512x512_S512x128_0_384))))) (Host.tanh (res_main_while0b_v80 V0)) := by
  unfold val4
  simp only [trip_w3]
  after_results_entrywise [val3_main_while0b_v57, val3_main_while0b_v64, val3_main_v3_7, val3_main_while0b_v65, val3_main_while0b_v58, res_main_while0b_v80, cast_eq]

set_option maxRecDepth 8192 in
/-- A trip is its four runs and then the final copies. -/
theorem trip_windows (V0 : Valuation τ sig (Elt F)) : after while0Ops0_1 (after while0Ops0 (V0)) = after while0Ops0_1_step (val4 V0) := by
  simp only [while0Ops0_cut, while0Ops0_1_cut, after_append]
  rfl

set_option maxRecDepth 8192 in
set_option maxHeartbeats 2000000 in
/-- A trip leaves carried buffer 0 as it was. -/
theorem trip_main_v3_0 (V0 : Valuation τ sig (Elt F)) : afterL bodyI V0 (no_index (Proc.devRef .tc main_v3_0)) = V0 (Proc.devRef .tc main_v3_0) := by
  simp only [bodyI, afterL_cons, afterL_nil, trip_windows]
  after_results
  all_goals (try simp only [val4_main_while0b_v82, val4_main_while0b_v80, val4_main_v3_0, val4_main_v3_1, val4_main_v3_2, val4_main_v3_3, val4_main_v3_4, val4_main_v3_5, val4_main_v3_6, val4_main_v3_7]) <;> rfl
set_option maxRecDepth 8192 in
set_option maxHeartbeats 2000000 in
/-- A trip leaves carried buffer 1 as it was. -/
theorem trip_main_v3_1 (V0 : Valuation τ sig (Elt F)) : afterL bodyI V0 (no_index (Proc.devRef .tc main_v3_1)) = V0 (Proc.devRef .tc main_v3_1) := by
  simp only [bodyI, afterL_cons, afterL_nil, trip_windows]
  after_results
  all_goals (try simp only [val4_main_while0b_v82, val4_main_while0b_v80, val4_main_v3_0, val4_main_v3_1, val4_main_v3_2, val4_main_v3_3, val4_main_v3_4, val4_main_v3_5, val4_main_v3_6, val4_main_v3_7]) <;> rfl
set_option maxRecDepth 8192 in
set_option maxHeartbeats 2000000 in
/-- A trip leaves carried buffer 2 as it was. -/
theorem trip_main_v3_2 (V0 : Valuation τ sig (Elt F)) : afterL bodyI V0 (no_index (Proc.devRef .tc main_v3_2)) = V0 (Proc.devRef .tc main_v3_2) := by
  simp only [bodyI, afterL_cons, afterL_nil, trip_windows]
  after_results
  all_goals (try simp only [val4_main_while0b_v82, val4_main_while0b_v80, val4_main_v3_0, val4_main_v3_1, val4_main_v3_2, val4_main_v3_3, val4_main_v3_4, val4_main_v3_5, val4_main_v3_6, val4_main_v3_7]) <;> rfl
set_option maxRecDepth 8192 in
set_option maxHeartbeats 2000000 in
/-- A trip leaves carried buffer 3 as it was. -/
theorem trip_main_v3_3 (V0 : Valuation τ sig (Elt F)) : afterL bodyI V0 (no_index (Proc.devRef .tc main_v3_3)) = V0 (Proc.devRef .tc main_v3_3) := by
  simp only [bodyI, afterL_cons, afterL_nil, trip_windows]
  after_results
  all_goals (try simp only [val4_main_while0b_v82, val4_main_while0b_v80, val4_main_v3_0, val4_main_v3_1, val4_main_v3_2, val4_main_v3_3, val4_main_v3_4, val4_main_v3_5, val4_main_v3_6, val4_main_v3_7]) <;> rfl
set_option maxRecDepth 8192 in
set_option maxHeartbeats 2000000 in
/-- A trip leaves carried buffer 4 as it was. -/
theorem trip_main_v3_4 (V0 : Valuation τ sig (Elt F)) : afterL bodyI V0 (no_index (Proc.devRef .tc main_v3_4)) = V0 (Proc.devRef .tc main_v3_4) := by
  simp only [bodyI, afterL_cons, afterL_nil, trip_windows]
  after_results
  all_goals (try simp only [val4_main_while0b_v82, val4_main_while0b_v80, val4_main_v3_0, val4_main_v3_1, val4_main_v3_2, val4_main_v3_3, val4_main_v3_4, val4_main_v3_5, val4_main_v3_6, val4_main_v3_7]) <;> rfl
set_option maxRecDepth 8192 in
set_option maxHeartbeats 2000000 in
/-- A trip adds one to the counter. -/
theorem trip_main_v3_5 (V0 : Valuation τ sig (Elt F)) : afterL bodyI V0 (no_index (Proc.devRef .tc main_v3_5)) = id (addi (V0 (Proc.devRef .tc main_v3_5)) (constantI S_ 32 1#32)) := by
  simp only [bodyI, afterL_cons, afterL_nil, trip_windows]
  after_results
  all_goals (try simp only [val4_main_while0b_v82, val4_main_while0b_v80, val4_main_v3_0, val4_main_v3_1, val4_main_v3_2, val4_main_v3_3, val4_main_v3_4, val4_main_v3_5, val4_main_v3_6, val4_main_v3_7]) <;> rfl
set_option maxRecDepth 8192 in
set_option maxHeartbeats 2000000 in
/-- A trip's new hidden state. -/
theorem trip_main_v3_6 (V0 : Valuation τ sig (Elt F)) : afterL bodyI V0 (no_index (Proc.devRef .tc main_v3_6)) = id (mulf (Host.divf (broadcastInDim S512x128 ![] bcast_S_S512x128 (constant S_ .f32 0x3F800000#32)) (addf (broadcastInDim S512x128 ![] bcast_S_S512x128 (constant S_ .f32 0x3F800000#32)) (Host.exp (Host.negf (extractStridedSlice S512x128 ![0, 384] (res_main_while0b_v54 V0) slices_S512x512_S512x128_0_384))))) (Host.tanh (res_main_while0b_v80 V0))) := by
  simp only [bodyI, afterL_cons, afterL_nil, trip_windows]
  after_results
  all_goals (try simp only [val4_main_while0b_v82, val4_main_while0b_v80, val4_main_v3_0, val4_main_v3_1, val4_main_v3_2, val4_main_v3_3, val4_main_v3_4, val4_main_v3_5, val4_main_v3_6, val4_main_v3_7]) <;> rfl
set_option maxRecDepth 8192 in
set_option maxHeartbeats 2000000 in
/-- A trip's new cell state. -/
theorem trip_main_v3_7 (V0 : Valuation τ sig (Elt F)) : afterL bodyI V0 (no_index (Proc.devRef .tc main_v3_7)) = id (res_main_while0b_v80 V0) := by
  simp only [bodyI, afterL_cons, afterL_nil, trip_windows]
  after_results
  all_goals (try simp only [val4_main_while0b_v82, val4_main_while0b_v80, val4_main_v3_0, val4_main_v3_1, val4_main_v3_2, val4_main_v3_3, val4_main_v3_4, val4_main_v3_5, val4_main_v3_6, val4_main_v3_7]) <;> rfl

end Cert.ReferenceIdeal.Loop

end
-- ==== Proof.ReferenceIdeal.Run.lean ====
/- What the reference program leaves in its result: the recurrence of the fifty steps as a function of the arguments, the
   stages of the memory read after it, and the run that ends with them. -/
module

public import proofs.«01_k».proof.Proof.ReferenceIdeal.Loop
public import Idealize.ShloMosaic.Lib.Quiescent

@[expose] public section

set_option maxRecDepth 8192

noncomputable section

namespace Cert.ReferenceIdeal.Loop

open Cert.ReferenceIdeal Cert.ReferenceIdeal.Gen
open Idealize.ShloMosaic Idealize.ShloMosaic.TcCoe
open Idealize.SL Idealize.SL.Sem
open Idealize.ShloMosaic.StableHlo

variable {F : FTy → Type} [FloatOps F]

/-- The element type of a float array of shape `S`. -/
abbrev Arr (F : FTy → Type) (S : Shape) : Type := (⟨S, .f32⟩ : BufTy).Contents (Elt F)

/-! ## The recurrence -/

/-- The input of the step whose number the counter holds: one slice of the time-major input. -/
def stepInput (xs : Arr F S50x512x128) (j : (⟨S_, .i32⟩ : BufTy).Contents (Elt F)) : Arr F S512x128 :=
  shapeCast S512x128 (Host.dynamicSlice S1x512x128 xs (fun k => (((![j, constantI S_ 32 0#32, constantI S_ 32 0#32] : Fin 3 → (⟨S_, .i32⟩ : BufTy).Contents (Elt F))) k (Shape.Idx.first h_S_)).toInt) sliceFits_S50x512x128_S1x512x128) shapeCasts_S1x512x128_S512x128

/-- The gates before their nonlinearities: input and state each times its weights, plus both biases. -/
def gates (wih whh : Arr F S512x128) (bih bhh : Arr F S512) (x h : Arr F S512x128) : Arr F S512x512 :=
  addf (addf (addf (Host.dotGeneral dot_S512x128_S128x512_S512x512_1_0_0_1_n_n none x (transpose S128x512 [1, 0] wih transposes_S512x128_S128x512_1_0)) (Host.dotGeneral dot_S512x128_S128x512_S512x512_1_0_0_1_n_n none h (transpose S128x512 [1, 0] whh transposes_S512x128_S128x512_1_0))) (broadcastInDim S512x512 ![0, 1] bcast_S1x512_S512x512_0_1 (broadcastInDim S1x512 ![1] bcast_S512_S1x512_1 bih))) (broadcastInDim S512x512 ![0, 1] bcast_S1x512_S512x512_0_1 (broadcastInDim S1x512 ![1] bcast_S512_S1x512_1 bhh))

/-- The logistic function as the reference computes it. -/
def sigm (x : Arr F S512x128) : Arr F S512x128 :=
  Host.divf (broadcastInDim S512x128 ![] bcast_S_S512x128 (constant S_ .f32 0x3F800000#32)) (addf (broadcastInDim S512x128 ![] bcast_S_S512x128 (constant S_ .f32 0x3F800000#32)) (Host.exp (Host.negf x)))

/-- The new cell state from the gates and the old one. -/
def newC (g : Arr F S512x512) (c : Arr F S512x128) : Arr F S512x128 :=
  addf (mulf (sigm (extractStridedSlice S512x128 ![0, 128] g slices_S512x512_S512x128_0_128)) c) (mulf (sigm (extractStridedSlice S512x128 ![0, 0] g slices_S512x512_S512x128_0_0)) (Host.tanh (extractStridedSlice S512x128 ![0, 256] g slices_S512x512_S512x128_0_256)))

/-- The new hidden state from the gates and the new cell state. -/
def newH (g : Arr F S512x512) (c : Arr F S512x128) : Arr F S512x128 :=
  mulf (sigm (extractStridedSlice S512x128 ![0, 384] g slices_S512x512_S512x128_0_384)) (Host.tanh c)

/-- The hidden and the cell state after `k` steps. -/
def state (a0 : Arr F S512x50x128) (wih whh : Arr F S512x128) (bih bhh : Arr F S512) : ℕ → Arr F S512x128 × Arr F S512x128
  | 0 => (broadcastInDim S512x128 ![] bcast_S_S512x128 (constant S_ .f32 0x00000000#32), broadcastInDim S512x128 ![] bcast_S_S512x128 (constant S_ .f32 0x00000000#32))
  | k + 1 =>
    let s := state a0 wih whh bih bhh k
    let g := gates wih whh bih bhh (stepInput (transpose S50x512x128 [1, 0, 2] a0 transposes_S512x50x128_S50x512x128_1_0_2) (fun _ => Scf.iv 0#32 1#32 k)) s.1
    (newH g (newC g s.2), newC g s.2)

variable (m : (ℓ : Loc nD τ sig) → Buf (Elt F) ℓ) (ρ : Dev nD → PrngReg)

/-- The loop's test leaves a buffer it does not write as it was. -/
theorem cond_keep (V : Valuation τ sig (Elt F)) (r : Ref sig .tc) (h : r ∉ condOps_W) :
    after condOps V (Proc.devRef .tc r) = V (Proc.devRef .tc r) :=
  after_of_writes_sub condOps V condOps_writes h

/-- The loop's body leaves a buffer it does not write as it was. -/
theorem body_keep (V : Valuation τ sig (Elt F)) (r : Ref sig .tc) (h : r ∉ while0Ops0_W) (h' : r ∉ while0Ops0_1_W) :
    afterL bodyI V (Proc.devRef .tc r) = V (Proc.devRef .tc r) := by
  simp only [bodyI, afterL_cons, afterL_nil]
  exact (after_of_writes_sub while0Ops0_1 _ while0Ops0_1_writes h').trans (after_of_writes_sub while0Ops0 _ while0Ops0_writes h)

/-- The operations after the loop leave a buffer they do not write as it was. -/
theorem post_keep (V : Valuation τ sig (Elt F)) (r : Ref sig .tc) (h1 : r ∉ hostOps0_1_W) (h2 : r ∉ hostOps0_2_W) (h3 : r ∉ hostOps0_3_W)
    (h4 : r ∉ hostOps0_4_W) (h5 : r ∉ hostOps0_5_W) :
    afterL postI V (Proc.devRef .tc r) = V (Proc.devRef .tc r) := by
  simp only [postI, afterL_cons, afterL_nil]
  exact (after_of_writes_sub hostOps0_5 _ hostOps0_5_writes h5).trans <|
    (after_of_writes_sub hostOps0_4 _ hostOps0_4_writes h4).trans <|
    (after_of_writes_sub hostOps0_3 _ hostOps0_3_writes h3).trans <|
    (after_of_writes_sub hostOps0_2 _ hostOps0_2_writes h2).trans (after_of_writes_sub hostOps0_1 _ hostOps0_1_writes h1)

/-- A buffer that neither the first stretch nor the loop writes is as the launch found it at every trip. -/
theorem atK_keep (c : Dev nD) (r : Ref sig .tc) (h0 : r ∉ hostOps0_W) (hc : r ∉ condOps_W) (h : r ∉ while0Ops0_W) (h' : r ∉ while0Ops0_1_W) :
    ∀ k, atK m k c (Proc.devRef .tc r) = m ((c.tc : Thread nD τ).loc r)
  | 0 => by
    rw [show atK m 0 c = entryContents preI m c from rfl]
    simp only [entryContents, preI, afterL_cons, afterL_nil]
    exact after_of_writes_sub hostOps0 _ hostOps0_writes h0
  | k + 1 => by
    rw [show atK m (k + 1) c = afterL bodyI (after condOps (atK m k c)) from rfl, body_keep _ r h h', cond_keep _ r hc]
    exact atK_keep c r h0 hc h h' k

/-- The whole run leaves a buffer it does not write as it was. -/
theorem final_keep (c : Dev nD) (r : Ref sig .tc) (h0 : r ∉ hostOps0_W) (hc : r ∉ condOps_W) (h : r ∉ while0Ops0_W) (h' : r ∉ while0Ops0_1_W)
    (h1 : r ∉ hostOps0_1_W) (h2 : r ∉ hostOps0_2_W) (h3 : r ∉ hostOps0_3_W) (h4 : r ∉ hostOps0_4_W) (h5 : r ∉ hostOps0_5_W) :
    finalContents condOps preI bodyI postI 50 m c (Proc.devRef .tc r) = m ((c.tc : Thread nD τ).loc r) :=
  (post_keep _ r h1 h2 h3 h4 h5).trans ((cond_keep _ r hc).trans (atK_keep m c r h0 hc h h' 50))

set_option maxHeartbeats 1000000 in
/-- At the loop's entry the carried buffers hold the time-major input, the weights, the biases and zero states. -/
theorem entry_carried (c : Dev nD) :
    entryContents preI m c (Proc.devRef .tc main_v3_0) = transpose S50x512x128 [1, 0, 2] (m ((c.tc : Thread nD τ).loc main_arg0)) transposes_S512x50x128_S50x512x128_1_0_2
    ∧ entryContents preI m c (Proc.devRef .tc main_v3_1) = m ((c.tc : Thread nD τ).loc main_arg1)
    ∧ entryContents preI m c (Proc.devRef .tc main_v3_2) = m ((c.tc : Thread nD τ).loc main_arg2)
    ∧ entryContents preI m c (Proc.devRef .tc main_v3_3) = m ((c.tc : Thread nD τ).loc main_arg3)
    ∧ entryContents preI m c (Proc.devRef .tc main_v3_4) = m ((c.tc : Thread nD τ).loc main_arg4)
    ∧ entryContents preI m c (Proc.devRef .tc main_v3_6) = (broadcastInDim S512x128 ![] bcast_S_S512x128 (constant S_ .f32 0x00000000#32) : Arr F S512x128)
    ∧ entryContents preI m c (Proc.devRef .tc main_v3_7) = (broadcastInDim S512x128 ![] bcast_S_S512x128 (constant S_ .f32 0x00000000#32) : Arr F S512x128) := by
  simp only [entryContents, preI, afterL_cons, afterL_nil]
  refine ⟨?_, ?_, ?_, ?_, ?_, ?_, ?_⟩ <;> (after_results; try rfl)

/-- The trip's gates before activation. -/
theorem res54 (V : Valuation τ sig (Elt F)) : res_main_while0b_v54 V = gates (V (Proc.devRef .tc main_v3_1)) (V (Proc.devRef .tc main_v3_2)) (V (Proc.devRef .tc main_v3_3)) (V (Proc.devRef .tc main_v3_4)) (stepInput (V (Proc.devRef .tc main_v3_0)) (V (Proc.devRef .tc main_v3_5))) (V (Proc.devRef .tc main_v3_6)) := rfl

/-- The trip's new cell state from its gates. -/
theorem res80 (V : Valuation τ sig (Elt F)) : res_main_while0b_v80 V = newC (res_main_while0b_v54 V) (V (Proc.devRef .tc main_v3_7)) := rfl

/-- A trip replaces the cell state by the new one. -/
theorem trip_c (V : Valuation τ sig (Elt F)) : afterL bodyI V (Proc.devRef .tc main_v3_7) = newC (res_main_while0b_v54 V) (V (Proc.devRef .tc main_v3_7)) :=
  trip_main_v3_7 V

/-- A trip replaces the hidden state by the new one. -/
theorem trip_h (V : Valuation τ sig (Elt F)) : afterL bodyI V (Proc.devRef .tc main_v3_6) = newH (res_main_while0b_v54 V) (newC (res_main_while0b_v54 V) (V (Proc.devRef .tc main_v3_7))) :=
  trip_main_v3_6 V

/-- Before trip `k` the carried buffers hold the input, the weights, the biases and the states after `k` steps. -/
theorem atK_carried (c : Dev nD) : ∀ k,
    atK m k c (Proc.devRef .tc main_v3_0) = transpose S50x512x128 [1, 0, 2] (m ((c.tc : Thread nD τ).loc main_arg0)) transposes_S512x50x128_S50x512x128_1_0_2
    ∧ atK m k c (Proc.devRef .tc main_v3_1) = m ((c.tc : Thread nD τ).loc main_arg1)
    ∧ atK m k c (Proc.devRef .tc main_v3_2) = m ((c.tc : Thread nD τ).loc main_arg2)
    ∧ atK m k c (Proc.devRef .tc main_v3_3) = m ((c.tc : Thread nD τ).loc main_arg3)
    ∧ atK m k c (Proc.devRef .tc main_v3_4) = m ((c.tc : Thread nD τ).loc main_arg4)
    ∧ atK m k c (Proc.devRef .tc main_v3_6) = (state (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) k).1
    ∧ atK m k c (Proc.devRef .tc main_v3_7) = (state (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) k).2
  | 0 => entry_carried m c
  | k + 1 => by
    obtain ⟨e0, e1, e2, e3, e4, e6, e7⟩ := atK_carried c k
    have k0 := (cond_keep (atK m k c) main_v3_0 (by decide +kernel)).trans e0
    have k1 := (cond_keep (atK m k c) main_v3_1 (by decide +kernel)).trans e1
    have k2 := (cond_keep (atK m k c) main_v3_2 (by decide +kernel)).trans e2
    have k3 := (cond_keep (atK m k c) main_v3_3 (by decide +kernel)).trans e3
    have k4 := (cond_keep (atK m k c) main_v3_4 (by decide +kernel)).trans e4
    have k5 := (cond_keep (atK m k c) main_v3_5 (by decide +kernel)).trans (atK_ctr m c k)
    have k6 := (cond_keep (atK m k c) main_v3_6 (by decide +kernel)).trans e6
    have k7 := (cond_keep (atK m k c) main_v3_7 (by decide +kernel)).trans e7
    rw [show atK m (k + 1) c = afterL bodyI (after condOps (atK m k c)) from rfl]
    refine ⟨(trip_main_v3_0 _).trans k0, (trip_main_v3_1 _).trans k1, (trip_main_v3_2 _).trans k2, (trip_main_v3_3 _).trans k3,
      (trip_main_v3_4 _).trans k4, (trip_h _).trans ?_, (trip_c _).trans ?_⟩
    · rw [res54, k0, k1, k2, k3, k4, k5, k6, k7]; rfl
    · rw [res54, k0, k1, k2, k3, k4, k5, k6, k7]; rfl

/-! ## The stages after the loop -/

/-- The projected query: the last input's first 64 columns through the query projection. -/
def qRaw (a0 : Arr F S512x50x128) (wq : Arr F S64x64) (bq : Arr F S64) : Arr F S512x64 :=
  addf (Host.dotGeneral dot_S512x64_S64x64_S512x64_1_0_0_1_n_n none (shapeCast S512x64 (extractStridedSlice S512x1x64 ![0, 49, 0] a0 slices_S512x50x128_S512x1x64_0_49_0) shapeCasts_S512x1x64_S512x64) (transpose S64x64 [1, 0] wq transposes_S64x64_S64x64_1_0))
    (broadcastInDim S512x64 ![0, 1] bcast_S1x64_S512x64_0_1 (broadcastInDim S1x64 ![1] bcast_S64_S1x64_1 bq))

/-- The norms of the queries. -/
def qNorm (q : Arr F S512x64) : Arr F S512x1 :=
  Host.sqrt (broadcastInDim S512x1 ![0] bcast_S512_S512x1_0 (Host.reduceAdd (mulf q q) (constant S_ .f32 0x00000000#32) reducesTo_S512x64_S512_d1 h_S_))

/-- The normalised queries. -/
def qUnit (q : Arr F S512x64) (n : Arr F S512x1) : Arr F S512x64 :=
  Host.divf q (broadcastInDim S512x64 ![0, 1] bcast_S512x1_S512x64_0_1 (addf n (broadcastInDim S512x1 ![] bcast_S_S512x1 (constant S_ .f32 0x322BCC77#32))))

/-- The norms of the keys. -/
def kNorm (k : Arr F S65536x64) : Arr F S65536x1 :=
  Host.sqrt (broadcastInDim S65536x1 ![0] bcast_S65536_S65536x1_0 (Host.reduceAdd (mulf k k) (constant S_ .f32 0x00000000#32) reducesTo_S65536x64_S65536_d1 h_S_))

/-- The similarities of queries and keys over the temperature. -/
def sims (qn : Arr F S512x64) (k : Arr F S65536x64) (n : Arr F S65536x1) : Arr F S512x65536 :=
  Host.divf (Host.dotGeneral dot_S512x64_S64x65536_S512x65536_1_0_0_1_n_n none qn (transpose S64x65536 [1, 0] (Host.divf k (broadcastInDim S65536x64 ![0, 1] bcast_S65536x1_S65536x64_0_1 (addf n (broadcastInDim S65536x1 ![] bcast_S_S65536x1 (constant S_ .f32 0x322BCC77#32))))) transposes_S65536x64_S64x65536_1_0))
    (broadcastInDim S512x65536 ![] bcast_S_S512x65536 (constant S_ .f32 0x3DCCCCCD#32))

/-- The exponentials of the similarities, each row less its maximum. -/
def expos (s : Arr F S512x65536) : Arr F S512x65536 :=
  Host.exp (subf s (broadcastInDim S512x65536 ![0, 1] bcast_S512x1_S512x65536_0_1 (broadcastInDim S512x1 ![0] bcast_S512_S512x1_0 (maximumf (broadcastInDim S512 ![] bcast_S_S512 (constant S_ .f32 0xFF800000#32)) (Host.reduce FloatOps.maximumf s (constant S_ .f32 0xFF800000#32) reducesTo_S512x65536_S512_d1 h_S_)))))

/-- The context: the values averaged with the softmax weights. -/
def context (p : Arr F S512x65536) (v : Arr F S65536x64) : Arr F S512x64 :=
  Host.dotGeneral dot_S512x65536_S65536x64_S512x64_1_0_0_1_n_n none (Host.divf p (broadcastInDim S512x65536 ![0, 1] bcast_S512x1_S512x65536_0_1 (broadcastInDim S512x1 ![0] bcast_S512_S512x1_0 (Host.reduceAdd p (constant S_ .f32 0x00000000#32) reducesTo_S512x65536_S512_d1 h_S_)))) v

/-- The logits: hidden state and context side by side through the output layer. -/
def logits (h : Arr F S512x128) (ctx : Arr F S512x64) (wo : Arr F S128x192) (bo : Arr F S128) : Arr F S512x128 :=
  addf (Host.dotGeneral dot_S512x192_S192x128_S512x128_1_0_0_1_n_n none (concatenate S512x192 1 [⟨S512x128, h⟩, ⟨S512x64, ctx⟩] concatenates_S512x128_S512x64_S512x192_d1) (transpose S192x128 [1, 0] wo transposes_S128x192_S192x128_1_0))
    (broadcastInDim S512x128 ![0, 1] bcast_S1x128_S512x128_0_1 (broadcastInDim S1x128 ![1] bcast_S128_S1x128_1 bo))

abbrev tailA : List (HloOp τ sig (Elt F)) :=
  [ StableHlo.nullary main_cst_2 (constant S_ .f32 0x322BCC77#32),
    StableHlo.unary main_cst_2 main_v17 (broadcastInDim S65536x1 ![] bcast_S_S65536x1 : (⟨S_, .f32⟩ : BufTy).Contents (Elt F) → (⟨S65536x1, .f32⟩ : BufTy).Contents (Elt F)),
    StableHlo.binary main_v16 main_v17 main_v18 (addf : (⟨S65536x1, .f32⟩ : BufTy).Contents (Elt F) → (⟨S65536x1, .f32⟩ : BufTy).Contents (Elt F) → (⟨S65536x1, .f32⟩ : BufTy).Contents (Elt F)),
    StableHlo.unary main_v18 main_v19 (broadcastInDim S65536x64 ![0, 1] bcast_S65536x1_S65536x64_0_1 : (⟨S65536x1, .f32⟩ : BufTy).Contents (Elt F) → (⟨S65536x64, .f32⟩ : BufTy).Contents (Elt F)),
    StableHlo.binary main_arg7 main_v19 main_v20 (Host.divf : (⟨S65536x64, .f32⟩ : BufTy).Contents (Elt F) → (⟨S65536x64, .f32⟩ : BufTy).Contents (Elt F) → (⟨S65536x64, .f32⟩ : BufTy).Contents (Elt F)),
    StableHlo.unary main_v20 main_v21 ((transpose S64x65536 [1, 0] · transposes_S65536x64_S64x65536_1_0) : (⟨S65536x64, .f32⟩ : BufTy).Contents (Elt F) → (⟨S64x65536, .f32⟩ : BufTy).Contents (Elt F)),
    StableHlo.binary main_v15 main_v21 main_v22 ((fun l r => Host.dotGeneral dot_S512x64_S64x65536_S512x65536_1_0_0_1_n_n none l r) : (⟨S512x64, .f32⟩ : BufTy).Contents (Elt F) → (⟨S64x65536, .f32⟩ : BufTy).Contents (Elt F) → (⟨S512x65536, .f32⟩ : BufTy).Contents (Elt F)),
    StableHlo.nullary main_cst_3 (constant S_ .f32 0x3DCCCCCD#32),
    StableHlo.unary main_cst_3 main_v23 (broadcastInDim S512x65536 ![] bcast_S_S512x65536 : (⟨S_, .f32⟩ : BufTy).Contents (Elt F) → (⟨S512x65536, .f32⟩ : BufTy).Contents (Elt F)),
    StableHlo.binary main_v22 main_v23 main_v24 (Host.divf : (⟨S512x65536, .f32⟩ : BufTy).Contents (Elt F) → (⟨S512x65536, .f32⟩ : BufTy).Contents (Elt F) → (⟨S512x65536, .f32⟩ : BufTy).Contents (Elt F)) ]
abbrev tailA_W : List (Ref sig .tc) := [main_cst_2, main_v17, main_v18, main_v19, main_v20, main_v21, main_v22, main_cst_3, main_v23, main_v24]
/-- These operations write only the listed buffers. -/
theorem tailA_writes : (tailA : List (HloOp τ sig (Elt F))).Forall fun op => op.writes ⊆ (tailA_W.map (Proc.devRef (τ := τ) .tc)).toFinset :=
  StableHlo.forall_writes_sub_of_map rfl
abbrev tailB : List (HloOp τ sig (Elt F)) :=
  [ StableHlo.nullary main_cst_4 (constant S_ .f32 0xFF800000#32),
    StableHlo.binary main_v24 main_cst_4 main_v25 ((fun x v => Host.reduce FloatOps.maximumf x v reducesTo_S512x65536_S512_d1 h_S_) : (⟨S512x65536, .f32⟩ : BufTy).Contents (Elt F) → (⟨S_, .f32⟩ : BufTy).Contents (Elt F) → (⟨S512, .f32⟩ : BufTy).Contents (Elt F)),
    StableHlo.nullary main_cst_5 (constant S_ .f32 0xFF800000#32),
    StableHlo.unary main_cst_5 main_v26 (broadcastInDim S512 ![] bcast_S_S512 : (⟨S_, .f32⟩ : BufTy).Contents (Elt F) → (⟨S512, .f32⟩ : BufTy).Contents (Elt F)),
    StableHlo.binary main_v26 main_v25 main_v27 (maximumf : (⟨S512, .f32⟩ : BufTy).Contents (Elt F) → (⟨S512, .f32⟩ : BufTy).Contents (Elt F) → (⟨S512, .f32⟩ : BufTy).Contents (Elt F)),
    StableHlo.unary main_v27 main_v28 (broadcastInDim S512x1 ![0] bcast_S512_S512x1_0 : (⟨S512, .f32⟩ : BufTy).Contents (Elt F) → (⟨S512x1, .f32⟩ : BufTy).Contents (Elt F)),
    StableHlo.unary main_v28 main_v29 (broadcastInDim S512x65536 ![0, 1] bcast_S512x1_S512x65536_0_1 : (⟨S512x1, .f32⟩ : BufTy).Contents (Elt F) → (⟨S512x65536, .f32⟩ : BufTy).Contents (Elt F)),
    StableHlo.binary main_v24 main_v29 main_v30 (subf : (⟨S512x65536, .f32⟩ : BufTy).Contents (Elt F) → (⟨S512x65536, .f32⟩ : BufTy).Contents (Elt F) → (⟨S512x65536, .f32⟩ : BufTy).Contents (Elt F)),
    StableHlo.unary main_v30 main_v31 (Host.exp : (⟨S512x65536, .f32⟩ : BufTy).Contents (Elt F) → (⟨S512x65536, .f32⟩ : BufTy).Contents (Elt F)) ]
abbrev tailB_W : List (Ref sig .tc) := [main_cst_4, main_v25, main_cst_5, main_v26, main_v27, main_v28, main_v29, main_v30, main_v31]
/-- These operations write only the listed buffers. -/
theorem tailB_writes : (tailB : List (HloOp τ sig (Elt F))).Forall fun op => op.writes ⊆ (tailB_W.map (Proc.devRef (τ := τ) .tc)).toFinset :=
  StableHlo.forall_writes_sub_of_map rfl
abbrev tailC : List (HloOp τ sig (Elt F)) :=
  [ StableHlo.nullary main_cst_6 (constant S_ .f32 0x00000000#32),
    StableHlo.binary main_v31 main_cst_6 main_v32 ((fun x v => Host.reduceAdd x v reducesTo_S512x65536_S512_d1 h_S_) : (⟨S512x65536, .f32⟩ : BufTy).Contents (Elt F) → (⟨S_, .f32⟩ : BufTy).Contents (Elt F) → (⟨S512, .f32⟩ : BufTy).Contents (Elt F)),
    StableHlo.unary main_v32 main_v33 (broadcastInDim S512x1 ![0] bcast_S512_S512x1_0 : (⟨S512, .f32⟩ : BufTy).Contents (Elt F) → (⟨S512x1, .f32⟩ : BufTy).Contents (Elt F)),
    StableHlo.unary main_v33 main_v34 (broadcastInDim S512x65536 ![0, 1] bcast_S512x1_S512x65536_0_1 : (⟨S512x1, .f32⟩ : BufTy).Contents (Elt F) → (⟨S512x65536, .f32⟩ : BufTy).Contents (Elt F)),
    StableHlo.binary main_v31 main_v34 main_v35 (Host.divf : (⟨S512x65536, .f32⟩ : BufTy).Contents (Elt F) → (⟨S512x65536, .f32⟩ : BufTy).Contents (Elt F) → (⟨S512x65536, .f32⟩ : BufTy).Contents (Elt F)),
    StableHlo.binary main_v35 main_arg8 main_v36 ((fun l r => Host.dotGeneral dot_S512x65536_S65536x64_S512x64_1_0_0_1_n_n none l r) : (⟨S512x65536, .f32⟩ : BufTy).Contents (Elt F) → (⟨S65536x64, .f32⟩ : BufTy).Contents (Elt F) → (⟨S512x64, .f32⟩ : BufTy).Contents (Elt F)),
    StableHlo.binary main_v3_6 main_v36 main_v37 ((fun a b => concatenate S512x192 1 [⟨S512x128, a⟩, ⟨S512x64, b⟩] concatenates_S512x128_S512x64_S512x192_d1) : (⟨S512x128, .f32⟩ : BufTy).Contents (Elt F) → (⟨S512x64, .f32⟩ : BufTy).Contents (Elt F) → (⟨S512x192, .f32⟩ : BufTy).Contents (Elt F)),
    StableHlo.unary main_arg9 main_v38 ((transpose S192x128 [1, 0] · transposes_S128x192_S192x128_1_0) : (⟨S128x192, .f32⟩ : BufTy).Contents (Elt F) → (⟨S192x128, .f32⟩ : BufTy).Contents (Elt F)),
    StableHlo.binary main_v37 main_v38 main_v39 ((fun l r => Host.dotGeneral dot_S512x192_S192x128_S512x128_1_0_0_1_n_n none l r) : (⟨S512x192, .f32⟩ : BufTy).Contents (Elt F) → (⟨S192x128, .f32⟩ : BufTy).Contents (Elt F) → (⟨S512x128, .f32⟩ : BufTy).Contents (Elt F)),
    StableHlo.unary main_arg10 main_v40 (broadcastInDim S1x128 ![1] bcast_S128_S1x128_1 : (⟨S128, .f32⟩ : BufTy).Contents (Elt F) → (⟨S1x128, .f32⟩ : BufTy).Contents (Elt F)),
    StableHlo.unary main_v40 main_v41 (broadcastInDim S512x128 ![0, 1] bcast_S1x128_S512x128_0_1 : (⟨S1x128, .f32⟩ : BufTy).Contents (Elt F) → (⟨S512x128, .f32⟩ : BufTy).Contents (Elt F)),
    StableHlo.binary main_v39 main_v41 main_v42 (addf : (⟨S512x128, .f32⟩ : BufTy).Contents (Elt F) → (⟨S512x128, .f32⟩ : BufTy).Contents (Elt F) → (⟨S512x128, .f32⟩ : BufTy).Contents (Elt F)) ]
abbrev tailC_W : List (Ref sig .tc) := [main_cst_6, main_v32, main_v33, main_v34, main_v35, main_v36, main_v37, main_v38, main_v39, main_v40, main_v41, main_v42]
/-- These operations write only the listed buffers. -/
theorem tailC_writes : (tailC : List (HloOp τ sig (Elt F))).Forall fun op => op.writes ⊆ (tailC_W.map (Proc.devRef (τ := τ) .tc)).toFinset :=
  StableHlo.forall_writes_sub_of_map rfl

/-- The last group of operations, cut in three. -/
theorem tail_cut : (hostOps0_5 : List (HloOp τ sig (Elt F))) = tailA ++ (tailB ++ tailC) := rfl

variable (V : Valuation τ sig (Elt F))

/-- The query, as the operations after the loop compute it. -/
theorem post1 : after hostOps0_1 V (Proc.devRef .tc main_v10) = qRaw (V (Proc.devRef .tc main_arg0)) (V (Proc.devRef .tc main_arg5)) (V (Proc.devRef .tc main_arg6)) := by
  after_results; rfl
/-- The query's norm. -/
theorem post2 : after hostOps0_2 V (Proc.devRef .tc main_v11) = qNorm (V (Proc.devRef .tc main_v10)) := by
  after_results; rfl
/-- The normalised query. -/
theorem post3 : after hostOps0_3 V (Proc.devRef .tc main_v15) = qUnit (V (Proc.devRef .tc main_v10)) (V (Proc.devRef .tc main_v11)) := by
  after_results; rfl
/-- The keys' norms. -/
theorem post4 : after hostOps0_4 V (Proc.devRef .tc main_v16) = kNorm (V (Proc.devRef .tc main_arg7)) := by
  after_results; rfl
/-- The similarities over the temperature. -/
theorem postA : after tailA V (Proc.devRef .tc main_v24) = sims (V (Proc.devRef .tc main_v15)) (V (Proc.devRef .tc main_arg7)) (V (Proc.devRef .tc main_v16)) := by
  after_results; rfl
/-- The exponentials of the similarities less their maximum. -/
theorem postB : after tailB V (Proc.devRef .tc main_v31) = expos (V (Proc.devRef .tc main_v24)) := by
  after_results; rfl
/-- The logits, from the final state and the context. -/
theorem postC : after tailC V (Proc.devRef .tc main_v42) = logits (V (Proc.devRef .tc main_v3_6)) (context (V (Proc.devRef .tc main_v31)) (V (Proc.devRef .tc main_arg8))) (V (Proc.devRef .tc main_arg9)) (V (Proc.devRef .tc main_arg10)) := by
  after_results; rfl

/-- These operations leave a buffer they do not write as it was. -/
theorem k1 (r : Ref sig .tc) (h : r ∉ hostOps0_1_W) : after hostOps0_1 V (Proc.devRef .tc r) = V (Proc.devRef .tc r) :=
  after_of_writes_sub hostOps0_1 V hostOps0_1_writes h
/-- These operations leave a buffer they do not write as it was. -/
theorem k2 (r : Ref sig .tc) (h : r ∉ hostOps0_2_W) : after hostOps0_2 V (Proc.devRef .tc r) = V (Proc.devRef .tc r) :=
  after_of_writes_sub hostOps0_2 V hostOps0_2_writes h
/-- These operations leave a buffer they do not write as it was. -/
theorem k3 (r : Ref sig .tc) (h : r ∉ hostOps0_3_W) : after hostOps0_3 V (Proc.devRef .tc r) = V (Proc.devRef .tc r) :=
  after_of_writes_sub hostOps0_3 V hostOps0_3_writes h
/-- These operations leave a buffer they do not write as it was. -/
theorem k4 (r : Ref sig .tc) (h : r ∉ hostOps0_4_W) : after hostOps0_4 V (Proc.devRef .tc r) = V (Proc.devRef .tc r) :=
  after_of_writes_sub hostOps0_4 V hostOps0_4_writes h
/-- These operations leave a buffer they do not write as it was. -/
theorem kA (r : Ref sig .tc) (h : r ∉ tailA_W) : after tailA V (Proc.devRef .tc r) = V (Proc.devRef .tc r) :=
  after_of_writes_sub tailA V tailA_writes h
/-- These operations leave a buffer they do not write as it was. -/
theorem kB (r : Ref sig .tc) (h : r ∉ tailB_W) : after tailB V (Proc.devRef .tc r) = V (Proc.devRef .tc r) :=
  after_of_writes_sub tailB V tailB_writes h

/-- The memory read and the output layer, of the last hidden state and the arguments. -/
def readout (h : Arr F S512x128) (a0 : Arr F S512x50x128) (wq : Arr F S64x64) (bq : Arr F S64) (keys vals : Arr F S65536x64) (wo : Arr F S128x192) (bo : Arr F S128) : Arr F S512x128 :=
  logits h (context (expos (sims (qUnit (qRaw a0 wq bq) (qNorm (qRaw a0 wq bq))) keys (kNorm keys))) vals) wo bo

/-- After the stretches behind the loop the result buffer holds the memory read of the contents before them. -/
theorem post_result : afterL postI V (Proc.devRef .tc main_v42) = readout (V (Proc.devRef .tc main_v3_6)) (V (Proc.devRef .tc main_arg0)) (V (Proc.devRef .tc main_arg5)) (V (Proc.devRef .tc main_arg6)) (V (Proc.devRef .tc main_arg7)) (V (Proc.devRef .tc main_arg8)) (V (Proc.devRef .tc main_arg9)) (V (Proc.devRef .tc main_arg10)) := by
  rw [show afterL postI V = after hostOps0_5 (after hostOps0_4 (after hostOps0_3 (after hostOps0_2 (after hostOps0_1 V)))) from rfl, tail_cut, after_append, after_append]
  rw [postC]
  unfold readout
  simp only [kB _ main_v3_6 (by decide +kernel), kB _ main_arg8 (by decide +kernel), kB _ main_arg9 (by decide +kernel), kB _ main_arg10 (by decide +kernel)]
  rw [postB]
  simp only [kA _ main_v3_6 (by decide +kernel), kA _ main_arg8 (by decide +kernel), kA _ main_arg9 (by decide +kernel), kA _ main_arg10 (by decide +kernel)]
  rw [postA]
  simp only [k4 _ main_v3_6 (by decide +kernel), k4 _ main_arg7 (by decide +kernel), k4 _ main_arg8 (by decide +kernel), k4 _ main_arg9 (by decide +kernel), k4 _ main_arg10 (by decide +kernel), k4 _ main_v15 (by decide +kernel)]
  rw [post4]
  simp only [k3 _ main_v3_6 (by decide +kernel), k3 _ main_arg7 (by decide +kernel), k3 _ main_arg8 (by decide +kernel), k3 _ main_arg9 (by decide +kernel), k3 _ main_arg10 (by decide +kernel)]
  rw [post3]
  simp only [k2 _ main_v3_6 (by decide +kernel), k2 _ main_arg7 (by decide +kernel), k2 _ main_arg8 (by decide +kernel), k2 _ main_arg9 (by decide +kernel), k2 _ main_arg10 (by decide +kernel), k2 _ main_v10 (by decide +kernel)]
  rw [post2]
  simp only [k1 _ main_v3_6 (by decide +kernel), k1 _ main_arg7 (by decide +kernel), k1 _ main_arg8 (by decide +kernel), k1 _ main_arg9 (by decide +kernel), k1 _ main_arg10 (by decide +kernel)]
  rw [post1]

/-- What the reference computes of its arguments. -/
def out (a0 : Arr F S512x50x128) (wih whh : Arr F S512x128) (bih bhh : Arr F S512) (wq : Arr F S64x64) (bq : Arr F S64) (keys vals : Arr F S65536x64) (wo : Arr F S128x192) (bo : Arr F S128) : Arr F S512x128 :=
  readout (state a0 wih whh bih bhh 50).1 a0 wq bq keys vals wo bo

/-- The reference's result is `out` of its arguments. -/
theorem final_result (c : Dev nD) :
    finalContents condOps preI bodyI postI 50 m c (Proc.devRef .tc main_v42) = out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) := by
  refine (post_result _).trans ?_
  rw [(cond_keep _ main_v3_6 (by decide +kernel)).trans (atK_carried m c 50).2.2.2.2.2.1]
  rw [(cond_keep _ main_arg0 (by decide +kernel)).trans (atK_keep m c main_arg0 (by decide +kernel) (by decide +kernel) (by decide +kernel) (by decide +kernel) 50)]
  rw [(cond_keep _ main_arg5 (by decide +kernel)).trans (atK_keep m c main_arg5 (by decide +kernel) (by decide +kernel) (by decide +kernel) (by decide +kernel) 50)]
  rw [(cond_keep _ main_arg6 (by decide +kernel)).trans (atK_keep m c main_arg6 (by decide +kernel) (by decide +kernel) (by decide +kernel) (by decide +kernel) 50)]
  rw [(cond_keep _ main_arg7 (by decide +kernel)).trans (atK_keep m c main_arg7 (by decide +kernel) (by decide +kernel) (by decide +kernel) (by decide +kernel) 50)]
  rw [(cond_keep _ main_arg8 (by decide +kernel)).trans (atK_keep m c main_arg8 (by decide +kernel) (by decide +kernel) (by decide +kernel) (by decide +kernel) 50)]
  rw [(cond_keep _ main_arg9 (by decide +kernel)).trans (atK_keep m c main_arg9 (by decide +kernel) (by decide +kernel) (by decide +kernel) (by decide +kernel) 50)]
  rw [(cond_keep _ main_arg10 (by decide +kernel)).trans (atK_keep m c main_arg10 (by decide +kernel) (by decide +kernel) (by decide +kernel) (by decide +kernel) 50)]
  rfl

/-- The reference runs, ends with its arguments unchanged and every counter at zero, and its result is `out` of its arguments. -/
theorem run : θ_run (defs (F := F)) (onTc (τ := τ) (main (F := F))) ⟨m, fun _ => 0, ρ⟩ fun r => (∀ c : Dev nD,
      r.2.mem ((c.tc : Thread nD τ).loc main_v42) = out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10))
      ∧ r.2.sem = fun _ => 0 :=
  (θ_run defs _ _).mono (fun r h => ⟨fun c => ⟨(h c main_v42 rfl).trans (final_result m c),
      (h c main_arg0 rfl).trans (final_keep m c main_arg0 (by decide +kernel) (by decide +kernel) (by decide +kernel) (by decide +kernel) (by decide +kernel) (by decide +kernel) (by decide +kernel) (by decide +kernel) (by decide +kernel)),
      (h c main_arg1 rfl).trans (final_keep m c main_arg1 (by decide +kernel) (by decide +kernel) (by decide +kernel) (by decide +kernel) (by decide +kernel) (by decide +kernel) (by decide +kernel) (by decide +kernel) (by decide +kernel)),
      (h c main_arg2 rfl).trans (final_keep m c main_arg2 (by decide +kernel) (by decide +kernel) (by decide +kernel) (by decide +kernel) (by decide +kernel) (by decide +kernel) (by decide +kernel) (by decide +kernel) (by decide +kernel)),
      (h c main_arg3 rfl).trans (final_keep m c main_arg3 (by decide +kernel) (by decide +kernel) (by decide +kernel) (by decide +kernel) (by decide +kernel) (by decide +kernel) (by decide +kernel) (by decide +kernel) (by decide +kernel)),
      (h c main_arg4 rfl).trans (final_keep m c main_arg4 (by decide +kernel) (by decide +kernel) (by decide +kernel) (by decide +kernel) (by decide +kernel) (by decide +kernel) (by decide +kernel) (by decide +kernel) (by decide +kernel)),
      (h c main_arg5 rfl).trans (final_keep m c main_arg5 (by decide +kernel) (by decide +kernel) (by decide +kernel) (by decide +kernel) (by decide +kernel) (by decide +kernel) (by decide +kernel) (by decide +kernel) (by decide +kernel)),
      (h c main_arg6 rfl).trans (final_keep m c main_arg6 (by decide +kernel) (by decide +kernel) (by decide +kernel) (by decide +kernel) (by decide +kernel) (by decide +kernel) (by decide +kernel) (by decide +kernel) (by decide +kernel)),
      (h c main_arg7 rfl).trans (final_keep m c main_arg7 (by decide +kernel) (by decide +kernel) (by decide +kernel) (by decide +kernel) (by decide +kernel) (by decide +kernel) (by decide +kernel) (by decide +kernel) (by decide +kernel)),
      (h c main_arg8 rfl).trans (final_keep m c main_arg8 (by decide +kernel) (by decide +kernel) (by decide +kernel) (by decide +kernel) (by decide +kernel) (by decide +kernel) (by decide +kernel) (by decide +kernel) (by decide +kernel)),
      (h c main_arg9 rfl).trans (final_keep m c main_arg9 (by decide +kernel) (by decide +kernel) (by decide +kernel) (by decide +kernel) (by decide +kernel) (by decide +kernel) (by decide +kernel) (by decide +kernel) (by decide +kernel)),
      (h c main_arg10 rfl).trans (final_keep m c main_arg10 (by decide +kernel) (by decide +kernel) (by decide +kernel) (by decide +kernel) (by decide +kernel) (by decide +kernel) (by decide +kernel) (by decide +kernel) (by decide +kernel))⟩, sem_eq_zero_of_no_sems rfl _⟩) (run_fold m ρ)

end Cert.ReferenceIdeal.Loop

end
-- ==== Proof.ReferenceIdeal.Val.lean ====
module

public import proofs.«01_k».proof.Proof.ReferenceIdeal.Run
public import Idealize.ShloMosaic.Lib.Pointwise

/-!
# The reference's stages over the extended reals, read at an index
-/

@[expose] public section

set_option maxRecDepth 16384

noncomputable section

namespace Cert.ReferenceIdeal.Loop

open Cert.ReferenceIdeal Cert.ReferenceIdeal.Gen
open Idealize.ShloMosaic Idealize.ShloMosaic.TcCoe

variable [Named Ideal]

/-- The logistic function as the reference writes it. -/
def logis (x : EReal) : EReal := Ideal.div 1 (1 + Ideal.exp (-x))

/-- The gates before activation at an index: both products and both biases. -/
theorem gates_apply (wih whh : Arr Ideal S512x128) (bih bhh : Arr Ideal S512) (x h : Arr Ideal S512x128) (r j : Fin 512) :
    gates wih whh bih bhh x h (ix2 r j)
      = (∑ k : Fin 128, x (ix2 r k) * wih (ix2 j k)) + (∑ k : Fin 128, h (ix2 r k) * whh (ix2 j k)) + bih (ix1 j) + bhh (ix1 j) := by
  pointwise [gates]

/-- The logistic function at an index. -/
theorem sigm_apply (x : Arr Ideal S512x128) (r : Fin 512) (j : Fin 128) : sigm x (ix2 r j) = logis (x (ix2 r j)) := by
  pointwise [sigm, logis]

/-- The new cell state at an index. -/
theorem newC_apply (g : Arr Ideal S512x512) (c : Arr Ideal S512x128) (r : Fin 512) (j : Fin 128) :
    newC g c (ix2 r j) = logis (g (ix2 r ⟨128 + j.val, by omega⟩)) * c (ix2 r j)
      + logis (g (ix2 r ⟨j.val, by omega⟩)) * Ideal.tanh (g (ix2 r ⟨256 + j.val, by omega⟩)) := by
  pointwise [newC, sigm_apply]

/-- The new hidden state at an index. -/
theorem newH_apply (g : Arr Ideal S512x512) (c : Arr Ideal S512x128) (r : Fin 512) (j : Fin 128) :
    newH g c (ix2 r j) = logis (g (ix2 r ⟨384 + j.val, by omega⟩)) * Ideal.tanh (c (ix2 r j)) := by
  pointwise [newH, sigm_apply]

/-- One slice of the time-major input read at an index. -/
theorem slice_apply (xs : Arr Ideal S50x512x128) (start : Fin S50x512x128.rank → Int) (k : Fin 50) (h0 : start 0 = (k.val : Int)) (h1 : start 1 = ((0 : ℕ) : Int)) (h2 : start 2 = ((0 : ℕ) : Int)) (r : Fin 512) (j : Fin 128) :
    shapeCast S512x128 (Host.dynamicSlice S1x512x128 xs start sliceFits_S50x512x128_S1x512x128) shapeCasts_S1x512x128_S512x128 (ix2 r j) = xs (ix3 k r j) := by
  have e0 : ∀ h, Host.clampedStart S50x512x128 S1x512x128 h start 0 = k.val := fun h =>
    Host.clampedStart_of_le h start 0 k.val h0 (show k.val + 1 ≤ 50 by omega)
  have e1 : ∀ h, Host.clampedStart S50x512x128 S1x512x128 h start 1 = 0 := fun h =>
    Host.clampedStart_of_le h start 1 0 h1 (show 0 + 512 ≤ 512 by omega)
  have e2 : ∀ h, Host.clampedStart S50x512x128 S1x512x128 h start 2 = 0 := fun h =>
    Host.clampedStart_of_le h start 2 0 h2 (show 0 + 128 ≤ 128 by omega)
  pointwise
  simp only [e0, e1, e2, Nat.zero_add, Fin.eta]

/-- A step's input at an index. -/
theorem stepInput_apply (a0 : Arr Ideal S512x50x128) (k : Fin 50) (r : Fin 512) (j : Fin 128) :
    stepInput (transpose S50x512x128 [1, 0, 2] a0 transposes_S512x50x128_S50x512x128_1_0_2) (fun _ => Scf.iv 0#32 1#32 k.val) (ix2 r j) = a0 (ix3 r k j) := by
  have hk : ∀ k : Fin 50, (Scf.iv 0#32 1#32 k.val).toInt = (k.val : Int) := by decide
  unfold stepInput
  rw [slice_apply _ _ k (hk k) rfl rfl]
  pointwise

/-- The state starts at zero. -/
theorem state_zero (a0 : Arr Ideal S512x50x128) (wih whh : Arr Ideal S512x128) (bih bhh : Arr Ideal S512) (r : Fin 512) (j : Fin 128) :
    (state a0 wih whh bih bhh 0).1 (ix2 r j) = 0 ∧ (state a0 wih whh bih bhh 0).2 (ix2 r j) = 0 := by
  constructor <;> pointwise [state]

/-- The query at an index. -/
theorem qRaw_apply (a0 : Arr Ideal S512x50x128) (wq : Arr Ideal S64x64) (bq : Arr Ideal S64) (r : Fin 512) (j : Fin 64) :
    qRaw a0 wq bq (ix2 r j) = (∑ k : Fin 64, a0 (ix3 r 49 ⟨k.val, by omega⟩) * wq (ix2 j k)) + bq (ix1 j) := by
  pointwise [qRaw]

/-- The query's norm at a row. -/
theorem qNorm_apply (q : Arr Ideal S512x64) (r : Fin 512) :
    qNorm q (ix2 r 0) = Ideal.sqrt (∑ k : Fin 64, q (ix2 r k) * q (ix2 r k)) := by
  pointwise [qNorm]

/-- The normalised query at an index. -/
theorem qUnit_apply (q : Arr Ideal S512x64) (n : Arr Ideal S512x1) (r : Fin 512) (j : Fin 64) :
    qUnit q n (ix2 r j) = Ideal.div (q (ix2 r j)) (n (ix2 r 0) + Ideal.ofBits .f32 0x322BCC77#32) := by
  pointwise [qUnit]

/-- The keys' norm at a row. -/
theorem kNorm_apply (q : Arr Ideal S65536x64) (r : Fin 65536) :
    kNorm q (ix2 r 0) = Ideal.sqrt (∑ k : Fin 64, q (ix2 r k) * q (ix2 r k)) := by
  pointwise [kNorm]

/-- A similarity over the temperature, at a row and a key. -/
theorem sims_apply (qn : Arr Ideal S512x64) (k : Arr Ideal S65536x64) (n : Arr Ideal S65536x1) (r : Fin 512) (s : Fin 65536) :
    sims qn k n (ix2 r s) = Ideal.div (∑ d : Fin 64, qn (ix2 r d) * Ideal.div (k (ix2 s d)) (n (ix2 s 0) + Ideal.ofBits .f32 0x322BCC77#32)) (Ideal.ofBits .f32 0x3DCCCCCD#32) := by
  pointwise [sims]

/-- The maximum of a row, folded from the word of minus infinity. -/
def rowMax (x : Arr Ideal S512x65536) (r : Fin 512) : EReal :=
  max (Ideal.ofBits .f32 0xFF800000#32) (Finset.univ.fold max (Ideal.ofBits .f32 0xFF800000#32) fun s : Fin 65536 => x (ix2 r s))

/-- A maximum along the second axis, read at a row. -/
theorem reduceMax_apply {N : ℕ} (x : (⟨2, ![512, N]⟩ : Shape).Idx → EReal) (init : S_.Idx → EReal)
    (h : (⟨2, ![512, N]⟩ : Shape).ReducesTo [1] (⟨1, ![512]⟩ : Shape)) (hu : 0 < S_.numel) (r : Fin 512)
    (b : EReal) (hb : init (Shape.Idx.first hu) = b) :
    Host.reduce (FloatOps.maximumf (F := Ideal) (φ := .f32)) x init h hu (ix1 r)
      = Finset.univ.fold max b fun k : Fin N => x (ix2 r k) := by
  subst hb
  rw [Host.reduce_eq_fold, Shape.ReducesTo.fold_fiber_r2_a1]
  rfl

/-- The exponentials with the row maxima given. -/
def exposOf {F : FTy → Type} [FloatOps F] (s : Arr F S512x65536) (m : Arr F S512) : Arr F S512x65536 :=
  Host.exp (subf s (broadcastInDim S512x65536 ![0, 1] bcast_S512x1_S512x65536_0_1 (broadcastInDim S512x1 ![0] bcast_S512_S512x1_0 (maximumf (broadcastInDim S512 ![] bcast_S_S512 (constant S_ .f32 0xFF800000#32)) m))))

/-- The exponential of a similarity less a given number, at a row and a key. -/
theorem exposOf_apply (x : Arr Ideal S512x65536) (m : Arr Ideal S512) (r : Fin 512) (s : Fin 65536) :
    exposOf x m (ix2 r s) = Ideal.exp (x (ix2 r s) - max (Ideal.ofBits .f32 0xFF800000#32) (m (ix1 r))) := by
  pointwise [exposOf]

/-- The exponentials are those of the similarities less the row's maximum. -/
theorem expos_eq {F : FTy → Type} [FloatOps F] (x : Arr F S512x65536) :
    expos x = exposOf x (Host.reduce (FloatOps.maximumf (F := F) (φ := .f32)) x (constant (F := F) S_ .f32 0xFF800000#32) reducesTo_S512x65536_S512_d1 h_S_) := by
  unfold expos exposOf
  with_reducible rfl

/-- The exponential at a row and a key. -/
theorem expos_apply (x : Arr Ideal S512x65536) (r : Fin 512) (s : Fin 65536) :
    expos x (ix2 r s) = Ideal.exp (x (ix2 r s) - rowMax x r) := by
  unfold rowMax
  rw [expos_eq, exposOf_apply, reduceMax_apply x (constant (F := Ideal) S_ .f32 0xFF800000#32) reducesTo_S512x65536_S512_d1 h_S_ r (Ideal.ofBits .f32 0xFF800000#32) rfl]

/-- The context at an index: the quotients of the exponentials by their sum, times the values. -/
theorem context_apply (p : Arr Ideal S512x65536) (v : Arr Ideal S65536x64) (r : Fin 512) (j : Fin 64) :
    context p v (ix2 r j) = ∑ s : Fin 65536, Ideal.div (p (ix2 r s)) (∑ s' : Fin 65536, p (ix2 r s')) * v (ix2 s j) := by
  pointwise [context]

/-- The logits at an index: the part of the state, the part of the context and the bias. -/
theorem logits_apply (h : Arr Ideal S512x128) (ctx : Arr Ideal S512x64) (wo : Arr Ideal S128x192) (bo : Arr Ideal S128) (r : Fin 512) (j : Fin 128) :
    logits h ctx wo bo (ix2 r j) = (∑ k : Fin 128, h (ix2 r k) * wo (ix2 j ⟨k.val, by omega⟩)) + (∑ k : Fin 64, ctx (ix2 r k) * wo (ix2 j ⟨128 + k.val, by omega⟩)) + bo (ix1 j) := by
  pointwise [logits]

end Cert.ReferenceIdeal.Loop
-- ==== Proof.Maths.Reals.lean ====
module

public import Idealize.ShloMosaic.PureOps.Ideal
public import Idealize.ShloMosaic.Lib.IdealHost

/-!
# Extended-real identities between the two programs

The logistic function through a hyperbolic tangent, the normalisation of a vector by its length, and the softmax average
with and without the row maximum, for arguments that may be infinite.
-/

@[expose] public section

noncomputable section

namespace Cert.Maths

open Idealize.ShloMosaic

/-- The word `0x3F000000` is one half. -/
theorem half_word : Ideal.ofBits .f32 0x3F000000#32 = ((1 / 2 : ℝ) : EReal) := by
  simp [Ideal.ofBits, Ideal.ieee, -EReal.coe_mul]
  norm_num

/-- The word `0xFF800000` is minus infinity. -/
theorem ninf_word : Ideal.ofBits .f32 0xFF800000#32 = ⊥ := by
  simp [Ideal.ofBits, Ideal.ieee]

/-- The word `0x3DCCCCCD` is this fraction. -/
theorem temp_word : Ideal.ofBits .f32 0x3DCCCCCD#32 = ((13421773 / 134217728 : ℝ) : EReal) := by
  simp [Ideal.ofBits, Ideal.ieee, -EReal.coe_mul]
  norm_num

/-- The small word added to the norms is a positive real. -/
theorem eps_word : ∃ e : ℝ, 0 < e ∧ Ideal.ofBits .f32 0x322BCC77#32 = (e : EReal) := by
  refine ⟨11258999 / 1125899906842624, by norm_num, ?_⟩
  simp [Ideal.ofBits, Ideal.ieee, -EReal.coe_mul]
  norm_num

/-- The logistic function is half a hyperbolic tangent of half the argument, plus one half, at the infinities too. -/
theorem logistic_tanh (x : EReal) :
    ((1 / 2 : ℝ) : EReal) * Ideal.tanh (((1 / 2 : ℝ) : EReal) * x) + ((1 / 2 : ℝ) : EReal) = Ideal.div 1 (1 + Ideal.exp (-x)) := by
  show _ = Ideal.logistic x
  induction x with
  | bot =>
    rw [EReal.coe_mul_bot_of_pos (by norm_num), Ideal.tanh_bot, Ideal.logistic_bot]
    rw [mul_neg_one, ← EReal.coe_neg, ← EReal.coe_add]
    norm_num
  | top =>
    rw [EReal.coe_mul_top_of_pos (by norm_num), Ideal.tanh_top, Ideal.logistic_top, mul_one]
    norm_cast
    norm_num
  | coe r =>
    rw [← EReal.coe_mul, Ideal.tanh_coe, Ideal.logistic_coe, ← EReal.coe_mul, ← EReal.coe_add]
    congr 1
    rw [Real.tanh_eq_sinh_div_cosh, Real.sinh_eq, Real.cosh_eq]
    have h1 : Real.exp (-r) = Real.exp (-(1 / 2 * r)) * Real.exp (-(1 / 2 * r)) := by
      rw [← Real.exp_add]; congr 1; ring
    have h2 : Real.exp (1 / 2 * r) * Real.exp (-(1 / 2 * r)) = 1 := by
      rw [← Real.exp_add, add_neg_cancel, Real.exp_zero]
    have p1 := Real.exp_pos (1 / 2 * r)
    have p2 := Real.exp_pos (-(1 / 2 * r))
    rw [h1]
    generalize Real.exp (1 / 2 * r) = a at *
    generalize Real.exp (-(1 / 2 * r)) = b at *
    field_simp
    nlinarith [h2]

/-- A sum of reals is the sum of the extended reals. -/
theorem coe_sum {ι : Type*} (s : Finset ι) (f : ι → ℝ) : ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

/-- A square of an extended real is not negative. -/
theorem sq_nonneg' (x : EReal) : 0 ≤ x * x := by
  rcases le_total 0 x with h | h
  · exact mul_nonneg h h
  · rw [← neg_mul_neg]; exact mul_nonneg (EReal.neg_nonneg.mpr h) (EReal.neg_nonneg.mpr h)

/-- The length of a vector plus a positive real: a positive real, or infinite when an entry is. -/
theorem length_cases {n : ℕ} (q : Fin n → EReal) (e : ℝ) (he : 0 < e) :
    ((∃ v : Fin n → ℝ, ∀ i, q i = (v i : EReal)) ∧ ∃ y : ℝ, 0 < y ∧ Ideal.sqrt (∑ k, q k * q k) + (e : EReal) = (y : EReal))
      ∨ Ideal.sqrt (∑ k, q k * q k) + (e : EReal) = ⊤ := by
  by_cases h : ∀ i, q i ≠ ⊥ ∧ q i ≠ ⊤
  · left
    have hv : ∀ i, q i = ((q i).toReal : EReal) := fun i => (EReal.coe_toReal (h i).2 (h i).1).symm
    refine ⟨⟨fun i => (q i).toReal, hv⟩, Real.sqrt (∑ k, (q k).toReal * (q k).toReal) + e, by positivity, ?_⟩
    have hs : (∑ k, q k * q k) = ((∑ k, (q k).toReal * (q k).toReal : ℝ) : EReal) := by
      rw [coe_sum]
      refine Finset.sum_congr rfl fun k _ => ?_
      rw [EReal.coe_mul, ← hv k]
    have hn : ¬ (∑ k, (q k).toReal * (q k).toReal) < 0 := not_lt.mpr (Finset.sum_nonneg fun k _ => mul_self_nonneg _)
    rw [hs, Ideal.sqrt_coe, if_neg hn, EReal.coe_add]
  · right
    push Not at h
    obtain ⟨i, hi⟩ := h
    have ht : q i * q i = ⊤ := by
      by_cases hb : q i = ⊥
      · rw [hb, EReal.bot_mul_bot]
      · rw [hi hb, EReal.top_mul_top]
    have hs : (∑ k, q k * q k) = ⊤ := by
      refine top_le_iff.mp ?_
      rw [← ht]
      exact Finset.single_le_sum (f := fun k => q k * q k) (fun k _ => sq_nonneg' (q k)) (Finset.mem_univ i)
    rw [hs, Ideal.sqrt_top, EReal.top_add_coe]

/-- Every entry of a normalised vector is real, whatever the vector holds. -/
theorem unit_real {n : ℕ} (q : Fin n → EReal) (e : ℝ) (he : 0 < e) :
    ∃ u : Fin n → ℝ, ∀ i, Ideal.div (q i) (Ideal.sqrt (∑ k, q k * q k) + (e : EReal)) = (u i : EReal) := by
  rcases length_cases q e he with ⟨⟨v, hv⟩, y, hy, hY⟩ | hY
  · refine ⟨fun i => v i * (1 / y), fun i => ?_⟩
    rw [hY, hv i, Ideal.div_coe hy.ne', EReal.coe_mul]
  · refine ⟨fun _ => 0, fun i => ?_⟩
    rw [hY, Ideal.div, if_neg EReal.top_ne_zero, EReal.inv_top, mul_zero, EReal.coe_zero]

/-- Multiplying by the reciprocal of a length is dividing by it. -/
theorem mul_recip {n : ℕ} (q : Fin n → EReal) (e : ℝ) (he : 0 < e) (x : EReal) :
    x * Ideal.div 1 (Ideal.sqrt (∑ k, q k * q k) + (e : EReal)) = Ideal.div x (Ideal.sqrt (∑ k, q k * q k) + (e : EReal)) := by
  have hne : Ideal.sqrt (∑ k, q k * q k) + (e : EReal) ≠ 0 := by
    rcases length_cases q e he with ⟨-, y, hy, hY⟩ | hY
    · rw [hY]; exact_mod_cast hy.ne'
    · rw [hY]; exact EReal.top_ne_zero
  rw [Ideal.div, Ideal.div, if_neg hne, if_neg hne, one_mul]

/-- A real times a sum is the sum of the products when the real is not negative. -/
theorem sum_mul_real {ι : Type*} (s : Finset ι) (f : ι → EReal) (c : ℝ) (hc : 0 ≤ c) :
    (∑ k ∈ s, f k) * (c : EReal) = ∑ k ∈ s, f k * (c : EReal) := by
  classical
  induction s using Finset.induction_on with
  | empty => simp
  | insert a s ha ih =>
    rw [Finset.sum_insert ha, Finset.sum_insert ha, ← ih]
    exact EReal.right_distrib_of_nonneg_of_ne_top (EReal.coe_nonneg.mpr hc) (EReal.coe_ne_top c) _ _

/-- The maximum of finitely many reals, folded from minus infinity, is a real. -/
theorem max_real {ι : Type*} [Fintype ι] [Nonempty ι] (a : ι → ℝ) :
    ∃ M : ℝ, max (⊥ : EReal) (Finset.univ.fold max (⊥ : EReal) fun s => (a s : EReal)) = (M : EReal) := by
  rw [max_eq_right bot_le]
  have h1 : Finset.univ.fold max (⊥ : EReal) (fun s => (a s : EReal)) ≠ ⊤ :=
    ((Finset.fold_max_lt _).mpr ⟨bot_lt_top, fun s _ => EReal.coe_lt_top _⟩).ne
  have h2 : Finset.univ.fold max (⊥ : EReal) (fun s => (a s : EReal)) ≠ ⊥ :=
    ((Finset.lt_fold_max _).mpr (Or.inr ⟨Classical.arbitrary ι, Finset.mem_univ _, EReal.bot_lt_coe _⟩)).ne'
  exact ⟨_, (EReal.coe_toReal h1 h2).symm⟩

/-- The softmax average of values that may be infinite: the weighted sum over the sum of the weights is the sum of the
values at the weights less a common shift, normalised. -/
theorem softmax_average {ι : Type*} [Fintype ι] [Nonempty ι] (a : ι → ℝ) (M : ℝ) (v : ι → EReal) :
    Ideal.div (∑ s, (Real.exp (a s) : EReal) * v s) (∑ s, (Real.exp (a s) : EReal))
      = ∑ s, Ideal.div (Ideal.exp ((a s : EReal) - (M : EReal))) (∑ s', Ideal.exp ((a s' : EReal) - (M : EReal))) * v s := by
  have hP : (0 : ℝ) < ∑ s, Real.exp (a s) := Finset.sum_pos (fun s _ => Real.exp_pos _) Finset.univ_nonempty
  have hE : (0 : ℝ) < ∑ s, Real.exp (a s - M) := Finset.sum_pos (fun s _ => Real.exp_pos _) Finset.univ_nonempty
  have e1 : ∀ s, Ideal.exp ((a s : EReal) - (M : EReal)) = (Real.exp (a s - M) : EReal) := fun s => by
    rw [← EReal.coe_sub, Ideal.exp_coe]
  simp only [e1]
  rw [← coe_sum, ← coe_sum, Ideal.div_coe hP.ne', sum_mul_real _ _ _ (by positivity)]
  refine Finset.sum_congr rfl fun s _ => ?_
  rw [Ideal.div_coe hE.ne', mul_right_comm, ← EReal.coe_mul, ← EReal.coe_mul]
  congr 2
  have hs : ∑ s, Real.exp (a s - M) = (∑ s, Real.exp (a s)) * Real.exp (-M) := by
    rw [Finset.sum_mul]
    exact Finset.sum_congr rfl fun s _ => by rw [← Real.exp_add, sub_eq_add_neg]
  rw [hs, sub_eq_add_neg, Real.exp_add]
  have := Real.exp_pos (-M)
  field_simp

/-- A power of two of a similarity times the named constant is the exponential of the similarity over the temperature. -/
theorem exp2_scaled (x : ℝ) :
    Real.rpow (2 : ℝ) (x * ((134217728 / 13421773) * (Real.log 2)⁻¹)) = Real.exp (x * (1 / (13421773 / 134217728))) := by
  show (2 : ℝ) ^ (x * ((134217728 / 13421773) * (Real.log 2)⁻¹) : ℝ) = _
  rw [Real.rpow_def_of_pos (by norm_num)]
  congr 1
  have : Real.log 2 ≠ 0 := (Real.log_pos (by norm_num)).ne'
  field_simp

end Cert.Maths
-- ==== Proof.KernelIdeal.LstmChain.lean ====
module

public import proofs.«01_k».proof.Proof.KernelIdeal.LstmVal
public import proofs.«01_k».proof.Proof.ReferenceIdeal.Val
public import proofs.«01_k».proof.Proof.Maths.Reals
public import Idealize.ShloMosaic.Lib.Pipeline.ValueKit

/-!
# The recurrence over the fifty points

After each point the two scratch arrays hold the reference's hidden and cell state; after the last one the output array
is the reference's final hidden state.
-/

@[expose] public section

set_option maxRecDepth 16384

noncomputable section

namespace Cert.KernelIdeal.Lstm

open Cert.KernelIdeal Cert.KernelIdeal.Gen
open Idealize.ShloMosaic Idealize.ShloMosaic.TcCoe Idealize.ShloMosaic.Pipeline
open Cert.ReferenceIdeal.Loop (logis gates newC newH state gates_apply newC_apply newH_apply stepInput_apply state_zero)
open Idealize.ShloMosaic.Pipeline (Dat Cfg Window cellOf)

variable [Named Ideal]

/-- The kernel's logistic function is the reference's. -/
theorem halfTanh_eq (x : EReal) : halfTanh x = logis x := by
  unfold halfTanh hf logis
  rw [Cert.Maths.half_word]
  exact Cert.Maths.logistic_tanh x

/-- A sum over 256 columns is the sum over the first 128 and the sum over the last 128. -/
theorem sum_halves (f : Fin 256 → EReal) :
    (∑ k : Fin 256, f k) = (∑ k : Fin 128, f ⟨k.val, by omega⟩) + ∑ k : Fin 128, f ⟨128 + k.val, by omega⟩ :=
  Fin.sum_univ_add (a := 128) (b := 128) f

section Step

variable (wih whh : Cert.ReferenceIdeal.Loop.Arr Ideal Cert.ReferenceIdeal.S512x128) (bih bhh : Cert.ReferenceIdeal.Loop.Arr Ideal Cert.ReferenceIdeal.S512)
variable (xh : Vec Ideal S512x256 .bf16) (W : Vec Ideal S256x512 .bf16) (B : Vec Ideal S1x512 .f32)
variable (x h c c' : Cert.ReferenceIdeal.Loop.Arr Ideal Cert.ReferenceIdeal.S512x128)

/-- The kernel's joined product is the sum of the reference's two products and its two biases. -/
theorem gate_eq (hx : ∀ r (k : Fin 128), xh (ix2 r ⟨k.val, by omega⟩) = x (ix2 r k))
    (hh : ∀ r (k : Fin 128), xh (ix2 r ⟨128 + k.val, by omega⟩) = h (ix2 r k))
    (hW1 : ∀ (k : Fin 128) j, W (ix2 ⟨k.val, by omega⟩ j) = wih (ix2 j k))
    (hW2 : ∀ (k : Fin 128) j, W (ix2 ⟨128 + k.val, by omega⟩ j) = whh (ix2 j k))
    (hB : ∀ j, B (ix2 0 j) = bih (ix1 j) + bhh (ix1 j)) (r j : Fin 512) :
    gate xh W B r j = gates wih whh bih bhh x h (ix2 r j) := by
  unfold gate
  rw [gates_apply, sum_halves, hB, ← add_assoc]
  simp only [hx, hh, hW1, hW2]

/-- The kernel's new cell state is the reference's. -/
theorem cellNew_eq (g : Cert.ReferenceIdeal.Loop.Arr Ideal Cert.ReferenceIdeal.S512x512) (hg : ∀ r j, gate xh W B r j = g (ix2 r j))
    (hc : ∀ r (j : Fin 128), c' (ix2 r j) = c (ix2 r j)) (r : Fin 512) (j : Fin 128) :
    cellNew xh W B c' r j = newC g c (ix2 r j) := by
  unfold cellNew
  rw [newC_apply, halfTanh_eq, halfTanh_eq, hg, hg, hg, hc]

/-- The kernel's new hidden state is the reference's. -/
theorem hidNew_eq (g : Cert.ReferenceIdeal.Loop.Arr Ideal Cert.ReferenceIdeal.S512x512) (hg : ∀ r j, gate xh W B r j = g (ix2 r j))
    (hc : ∀ r (j : Fin 128), c' (ix2 r j) = c (ix2 r j)) (r : Fin 512) (j : Fin 128) :
    hidNew xh W B c' r j = newH g (newC g c) (ix2 r j) := by
  unfold hidNew
  rw [newH_apply, halfTanh_eq, hg, cellNew_eq xh W B c c' g hg hc]

end Step

/-! ## The points at an index -/

/-- A first point leaves the new hidden state in the joined scratch. -/
theorem ptA_0 (c : Dev nD) (t : Fin cfg0.N) (h0 : t.val % 50 = 0) (h1 : ¬t.val % 50 = 49) (x0 : Vec Ideal S1x512x128 .f32) (x1 : Vec Ideal S256x512 .bf16) (x2 : Vec Ideal S1x512 .f32) (r : Fin 512) (j : Fin 128) :
    (ptA c t h0 h1 x0 x1 x2).2.1 (ix2 r ⟨128 + j.val, by omega⟩) = hidNew (joined x0 (fun _ => 0)) x1 x2 (fun _ => 0) r j := by
  unfold ptA
  dsimp only
  rw [sout0_A_0_apply]

/-- A first point leaves the new cell state in its scratch. -/
theorem ptA_1 (c : Dev nD) (t : Fin cfg0.N) (h0 : t.val % 50 = 0) (h1 : ¬t.val % 50 = 49) (x0 : Vec Ideal S1x512x128 .f32) (x1 : Vec Ideal S256x512 .bf16) (x2 : Vec Ideal S1x512 .f32) (r : Fin 512) (j : Fin 128) :
    (ptA c t h0 h1 x0 x1 x2).2.2 (ix2 r j) = cellNew (joined x0 (fun _ => 0)) x1 x2 (fun _ => 0) r j := by
  unfold ptA
  dsimp only
  rw [sout0_A_1_apply]

/-- A middle point leaves the new hidden state in the joined scratch. -/
theorem ptB_0 (c : Dev nD) (t : Fin cfg0.N) (h0 : ¬t.val % 50 = 0) (h1 : ¬t.val % 50 = 49) (x0 : Vec Ideal S1x512x128 .f32) (x1 : Vec Ideal S256x512 .bf16) (x2 : Vec Ideal S1x512 .f32) (xs0 : Vec Ideal S512x256 .bf16) (xs1 : Vec Ideal S512x128 .f32) (r : Fin 512) (j : Fin 128) :
    (ptB c t h0 h1 x0 x1 x2 xs0 xs1).2.1 (ix2 r ⟨128 + j.val, by omega⟩) = hidNew (joined x0 xs0) x1 x2 xs1 r j := by
  unfold ptB
  dsimp only
  rw [sout0_B_0_apply]

/-- A middle point leaves the new cell state in its scratch. -/
theorem ptB_1 (c : Dev nD) (t : Fin cfg0.N) (h0 : ¬t.val % 50 = 0) (h1 : ¬t.val % 50 = 49) (x0 : Vec Ideal S1x512x128 .f32) (x1 : Vec Ideal S256x512 .bf16) (x2 : Vec Ideal S1x512 .f32) (xs0 : Vec Ideal S512x256 .bf16) (xs1 : Vec Ideal S512x128 .f32) (r : Fin 512) (j : Fin 128) :
    (ptB c t h0 h1 x0 x1 x2 xs0 xs1).2.2 (ix2 r j) = cellNew (joined x0 xs0) x1 x2 xs1 r j := by
  unfold ptB
  dsimp only
  rw [sout0_B_1_apply]

/-- A last point leaves the new hidden state in the joined scratch. -/
theorem ptC_0 (c : Dev nD) (t : Fin cfg0.N) (h0 : ¬t.val % 50 = 0) (h1 : t.val % 50 = 49) (x0 : Vec Ideal S1x512x128 .f32) (x1 : Vec Ideal S256x512 .bf16) (x2 : Vec Ideal S1x512 .f32) (xs0 : Vec Ideal S512x256 .bf16) (xs1 : Vec Ideal S512x128 .f32) (r : Fin 512) (j : Fin 128) :
    (ptC c t h0 h1 x0 x1 x2 xs0 xs1).2.1 (ix2 r ⟨128 + j.val, by omega⟩) = hidNew (joined x0 xs0) x1 x2 xs1 r j := by
  unfold ptC
  dsimp only
  rw [sout0_C_0_apply]

/-- A last point leaves the new cell state in its scratch. -/
theorem ptC_1 (c : Dev nD) (t : Fin cfg0.N) (h0 : ¬t.val % 50 = 0) (h1 : t.val % 50 = 49) (x0 : Vec Ideal S1x512x128 .f32) (x1 : Vec Ideal S256x512 .bf16) (x2 : Vec Ideal S1x512 .f32) (xs0 : Vec Ideal S512x256 .bf16) (xs1 : Vec Ideal S512x128 .f32) (r : Fin 512) (j : Fin 128) :
    (ptC c t h0 h1 x0 x1 x2 xs0 xs1).2.2 (ix2 r j) = cellNew (joined x0 xs0) x1 x2 xs1 r j := by
  unfold ptC
  dsimp only
  rw [sout0_C_1_apply]

/-- A last point leaves the new hidden state in the output. -/
theorem ptC_2 (c : Dev nD) (t : Fin cfg0.N) (h0 : ¬t.val % 50 = 0) (h1 : t.val % 50 = 49) (x0 : Vec Ideal S1x512x128 .f32) (x1 : Vec Ideal S256x512 .bf16) (x2 : Vec Ideal S1x512 .f32) (xs0 : Vec Ideal S512x256 .bf16) (xs1 : Vec Ideal S512x128 .f32) (r : Fin 512) (j : Fin 128) :
    (ptC c t h0 h1 x0 x1 x2 xs0 xs1).1 (ix2 r j) = hidNew (joined x0 xs0) x1 x2 xs1 r j := by
  unfold ptC
  dsimp only
  rw [out0_C_3_apply]

variable (V : (c : Dev nD) → (b : Ref sig .tc) → Buf (Elt Ideal) ((c : Thread nD τ).loc b))

section Blocks

variable (c : Dev nD)

/-- The input window's block of a point. -/
theorem idx_0 : ∀ t : Fin cfg0.N, win0_0.index t = ![t.val, 0, 0] := by decide +kernel
/-- The weights' window has one block. -/
theorem idx_1 : ∀ t : Fin cfg0.N, win0_1.index t = ![0, 0] := by decide +kernel
/-- The bias window has one block. -/
theorem idx_2 : ∀ t : Fin cfg0.N, win0_2.index t = ![0, 0] := by decide +kernel

/-- A block of the input at an index. -/
theorem iblk_0_apply (t : Fin cfg0.N) (k : Fin 50) (hk : k.val = t.val) (r : Fin 512) (j : Fin 128) :
    (iblk V c 0 t : Vec Ideal S1x512x128 .f32) (ix3 0 r j) = (V c main_call0_v0 : Vec Ideal S50x512x128 .f32) (ix3 k r j) := by
  blk_ext [iblk, idx_0 t, hk]

/-- The block of the weights at an index. -/
theorem iblk_1_apply (t : Fin cfg0.N) (k j : _) :
    (iblk V c 1 t : Vec Ideal S256x512 .bf16) (ix2 k j) = (V c main_call0_v4 : Vec Ideal S256x512 .bf16) (ix2 k j) := by
  blk_ext [iblk, idx_1 t]

/-- The block of the bias at an index. -/
theorem iblk_2_apply (t : Fin cfg0.N) (j : _) :
    (iblk V c 2 t : Vec Ideal S1x512 .f32) (ix2 0 j) = (V c main_call0_v6 : Vec Ideal S1x512 .f32) (ix2 0 j) := by
  blk_ext [iblk, idx_2 t]

end Blocks

section Chain

variable (c : Dev nD)
variable (a0 : Cert.ReferenceIdeal.Loop.Arr Ideal Cert.ReferenceIdeal.S512x50x128)
variable (wih whh : Cert.ReferenceIdeal.Loop.Arr Ideal Cert.ReferenceIdeal.S512x128) (bih bhh : Cert.ReferenceIdeal.Loop.Arr Ideal Cert.ReferenceIdeal.S512)

/-- What the region's input blocks hold, in the reference's terms. -/
structure Inputs : Prop where
  /-- The input block of a point is the reference's input at that time. -/
  x : ∀ (t : Fin cfg0.N) (k : Fin 50), k.val = t.val → ∀ (r : Fin 512) (j : Fin 128), (iblk V c 0 t : Vec Ideal S1x512x128 .f32) (ix3 0 r j) = a0 (ix3 r k j)
  /-- The first 128 rows of the weights. -/
  w1 : ∀ (t : Fin cfg0.N) (k : Fin 128) (j : Fin 512), (iblk V c 1 t : Vec Ideal S256x512 .bf16) (ix2 ⟨k.val, by omega⟩ j) = wih (ix2 j k)
  /-- The last 128 rows of the weights. -/
  w2 : ∀ (t : Fin cfg0.N) (k : Fin 128) (j : Fin 512), (iblk V c 1 t : Vec Ideal S256x512 .bf16) (ix2 ⟨128 + k.val, by omega⟩ j) = whh (ix2 j k)
  /-- The bias row. -/
  b : ∀ (t : Fin cfg0.N) (j : Fin 512), (iblk V c 2 t : Vec Ideal S1x512 .f32) (ix2 0 j) = bih (ix1 j) + bhh (ix1 j)

variable {V c a0 wih whh bih bhh}

/-- One step from matching states ends in matching states. -/
theorem step_eq (H : Inputs V c a0 wih whh bih bhh) (t : Fin cfg0.N) (ht : t.val < 50) (xs0 : Vec Ideal S512x256 .bf16) (xs1 : Vec Ideal S512x128 .f32)
    (h0 : ∀ r (j : Fin 128), xs0 (ix2 r ⟨128 + j.val, by omega⟩) = (state a0 wih whh bih bhh t.val).1 (ix2 r j))
    (h1 : ∀ r (j : Fin 128), xs1 (ix2 r j) = (state a0 wih whh bih bhh t.val).2 (ix2 r j)) (r : Fin 512) (j : Fin 128) :
    hidNew (joined (iblk V c 0 t) xs0) (iblk V c 1 t) (iblk V c 2 t) xs1 r j = (state a0 wih whh bih bhh (t.val + 1)).1 (ix2 r j)
      ∧ cellNew (joined (iblk V c 0 t) xs0) (iblk V c 1 t) (iblk V c 2 t) xs1 r j = (state a0 wih whh bih bhh (t.val + 1)).2 (ix2 r j) := by
  have hg := gate_eq wih whh bih bhh (joined (iblk V c 0 t) xs0) (iblk V c 1 t) (iblk V c 2 t)
    (Cert.ReferenceIdeal.Loop.stepInput (transpose _ [1, 0, 2] a0 Cert.ReferenceIdeal.Gen.transposes_S512x50x128_S50x512x128_1_0_2) (fun _ => Scf.iv 0#32 1#32 t.val))
    (state a0 wih whh bih bhh t.val).1
    (fun r k => by
      rw [stepInput_apply a0 ⟨t.val, ht⟩ r k, ← H.x t ⟨t.val, ht⟩ rfl r k]
      show (if h : k.val < 128 then _ else _) = _
      rw [dif_pos k.isLt]
      rfl)
    (fun r k => by
      rw [← h0]
      show (if h : 128 + k.val < 128 then _ else _) = _
      rw [dif_neg (by omega)])
    (H.w1 t) (H.w2 t) (H.b t)
  exact ⟨hidNew_eq _ _ _ _ _ _ hg h1 r j, cellNew_eq _ _ _ _ _ _ hg h1 r j⟩

/-- After a point the scratch arrays hold the reference's states. -/
theorem chain_eq (H : Inputs V c a0 wih whh bih bhh) (n : ℕ) (hn : n < cfg0.N) (r : Fin 512) (j : Fin 128) :
    (outsAt0 V c n hn).2.1 (ix2 r ⟨128 + j.val, by omega⟩) = (state a0 wih whh bih bhh (n + 1)).1 (ix2 r j)
      ∧ (outsAt0 V c n hn).2.2 (ix2 r j) = (state a0 wih whh bih bhh (n + 1)).2 (ix2 r j) := by
  have hN : n < 50 := lt_of_lt_of_eq hn N_0
  induction n generalizing r j with
  | zero =>
    have e := outsAt0_A V c ⟨0, hn⟩ (Nat.zero_mod _) (show ¬ 0 % 50 = 49 by decide)
    rw [show outsAt0 V c 0 hn = _ from e]
    have s := step_eq H ⟨0, hn⟩ (show 0 < 50 by decide) (fun _ => (0 : EReal)) (fun _ => (0 : EReal))
      (fun r j => by exact (state_zero a0 wih whh bih bhh r j).1.symm) (fun r j => by exact (state_zero a0 wih whh bih bhh r j).2.symm) r j
    rw [ptA_0, ptA_1]
    exact s
  | succ n ih =>
    have hn' : n < cfg0.N := Nat.lt_of_succ_lt hn
    have h0 : ¬ (n + 1) % 50 = 0 := by omega
    have s := step_eq H ⟨n + 1, hn⟩ hN (outsAt0 V c n hn').2.1 (outsAt0 V c n hn').2.2
      (fun r j => (ih hn' r j (by omega)).1) (fun r j => (ih hn' r j (by omega)).2) r j
    by_cases h1 : (n + 1) % 50 = 49
    · rw [show outsAt0 V c (n + 1) hn = _ from outsAt0_C V c ⟨n + 1, hn⟩ h0 h1]
      rw [ptC_0, ptC_1]
      exact s
    · rw [show outsAt0 V c (n + 1) hn = _ from outsAt0_B V c ⟨n + 1, hn⟩ h0 h1]
      rw [ptB_0, ptB_1]
      exact s

/-- The last point's output is the reference's final hidden state. -/
theorem last_eq (H : Inputs V c a0 wih whh bih bhh) (t : Fin cfg0.N) (ht : t.val = 49) (r : Fin 512) (j : Fin 128) :
    (outsAt0 V c t.val t.isLt).1 (ix2 r j) = (state a0 wih whh bih bhh 50).1 (ix2 r j) := by
  rw [outsAt0_C V c t (by omega) (by omega)]
  have s := step_eq H t (by omega) (outsAt0 V c (t.val - 1) (Nat.lt_of_le_of_lt (Nat.sub_le _ _) t.isLt)).2.1 (outsAt0 V c (t.val - 1) (Nat.lt_of_le_of_lt (Nat.sub_le _ _) t.isLt)).2.2
    (fun r j => by rw [(chain_eq H _ _ r j).1, show t.val - 1 + 1 = t.val by omega])
    (fun r j => by rw [(chain_eq H _ _ r j).2, show t.val - 1 + 1 = t.val by omega]) r j
  rw [show t.val + 1 = 50 by omega] at s
  rw [ptC_2]
  exact s.1

/-- The last point. -/
def tLast : Fin cfg0.N := ⟨49, by decide⟩

/-- The output array at the region's end is the reference's final hidden state. -/
theorem arr_eq (H : Inputs V c a0 wih whh bih bhh) (j : S512x128.Idx) :
    ((dat V c).arrAt 3 cfg0.N : Vec Ideal S512x128 .f32) j = (state a0 wih whh bih bhh 50).1 j := by
  have key : (dat V c).arrAt 3 cfg0.N = (state a0 wih whh bih bhh 50).1 := by
    refine (dat V c).arrAt_eq_of_after_last 3 tLast (by decide +kernel) _ fun j => ?_
    blk_simp
    rw [after0_3]
    obtain ⟨r, k, rfl⟩ : ∃ (r : Fin 512) (k : Fin 128), j = ix2 r k := ⟨j 0, j 1, eq_ix2 j⟩
    exact last_eq H tLast rfl r k
  rw [key]

end Chain

end Cert.KernelIdeal.Lstm
-- ==== Proof.KernelIdeal.MemVal.lean ====
module

public import proofs.«01_k».proof.Proof.KernelIdeal.MemDat
public import Idealize.ShloMosaic.Lib.Pointwise
public import Idealize.ShloMosaic.Lib.WritesUnit
public import Idealize.ShloMosaic.Lib.Pipeline.ValueKit

/-!
# What one tile of the memory read leaves, over the extended reals

The read kernel's payloads read at an index, and through them the scratch arrays and the output after a first, a middle
and a last point.
-/

@[expose] public section

set_option maxRecDepth 16384

noncomputable section

namespace Cert.KernelIdeal.Mem

open Cert.KernelIdeal Cert.KernelIdeal.Gen
open Idealize.ShloMosaic Idealize.ShloMosaic.TcCoe Idealize.ShloMosaic.Pipeline
open Idealize.SL Idealize.SL.RA Idealize.SL.BI
open Idealize.ShloMosaic.Pipeline (Dat Cfg Window BodyObligation cellOf)

variable [Named Ideal]

/-- The small constant added to the norms. -/
abbrev eps : EReal := Ideal.ofBits .f32 0x322BCC77#32

/-- The query at row `r`, column `d`. -/
def qRow (cq : Vec Ideal S512x64 .f32) (kpw : Vec Ideal S64x64 .f32) (kpb : Vec Ideal S1x64 .f32) (r : Fin 512) (d : Fin 64) : EReal :=
  (∑ k : Fin 64, cq (ix2 r k) * kpw (ix2 k d)) + kpb (ix2 0 d)

/-- The scaled normalised query. -/
def qScaled (cq : Vec Ideal S512x64 .f32) (kpw : Vec Ideal S64x64 .f32) (kpb : Vec Ideal S1x64 .f32) (r : Fin 512) (d : Fin 64) : EReal :=
  Ideal.div (qRow cq kpw kpb r d) (Ideal.sqrt (∑ k : Fin 64, qRow cq kpw kpb r k * qRow cq kpw kpb r k) + eps)
    * (Named.named (F := Ideal) κ "log2e_over_temp" (φ := .f32) 0x4166D4CA#32 : EReal)

/-- The weight of a tile's lane `l` in row `r`. -/
def weight (keys : Vec Ideal S64x8192 .f32) (qa : Vec Ideal S512x64 .fp8e4m3) (r : Fin 512) (l : Fin 8192) : EReal :=
  Ideal.exp2 (∑ d : Fin 64, qa (ix2 r d) * (keys (ix2 d l) * Ideal.div 1 (Ideal.sqrt (∑ e : Fin 64, keys (ix2 e l) * keys (ix2 e l)) + eps)))

/-- The scaled normalised query read at an index. -/
theorem pay2_apply (cq : Vec Ideal S512x64 .f32) (kpw : Vec Ideal S64x64 .f32) (kpb : Vec Ideal S1x64 .f32) (r : Fin 512) (d : Fin 64) :
    k1_pay2 (F := Ideal) cq kpw kpb (ix2 r d) = qScaled cq kpw kpb r d := by
  pointwise [k1_pay2, qScaled, qRow]

/-- The stored ones. -/
theorem pay3_apply (r : Fin 64) (j : Fin 8192) : k1_pay3 (F := Ideal) (ix2 r j) = 1 := by
  pointwise [k1_pay3]

/-- The accumulator starts at zero. -/
theorem pay4_apply (r : Fin 512) (j : Fin 128) : k1_pay4 (F := Ideal) (ix2 r j) = 0 := by
  pointwise [k1_pay4]

/-- The stored values. -/
theorem pay5_apply (x : Vec Ideal S64x8192 .f32) (r : Fin 64) (j : Fin 8192) : k1_pay5 (F := Ideal) x (ix2 r j) = x (ix2 r j) := by
  pointwise [k1_pay5]

/-- The accumulator after a tile. -/
theorem pay6_apply (keys : Vec Ideal S64x8192 .f32) (qa : Vec Ideal S512x64 .fp8e4m3) (acc : Vec Ideal S512x128 .f32) (va : Vec Ideal S128x8192 .bf16) (r : Fin 512) (j : Fin 128) :
    k1_pay6 (F := Ideal) keys qa acc va (ix2 r j) = acc (ix2 r j) + ∑ l : Fin 8192, weight keys qa r l * va (ix2 j l) := by
  pointwise [k1_pay6, weight]
  rfl

/-- The output. -/
theorem pay1_apply (num : Vec Ideal S512x64 .f32) (den : Vec Ideal S512x1 .f32) (fh : Vec Ideal S512x128 .f32) (owh : Vec Ideal S128x128 .f32) (owc : Vec Ideal S64x128 .f32) (ob : Vec Ideal S1x128 .f32) (r : Fin 512) (j : Fin 128) :
    k1_pay1 (F := Ideal) num den fh owh owc ob (ix2 r j) = (∑ k : Fin 128, fh (ix2 r k) * owh (ix2 k j)) + (∑ k : Fin 64, Ideal.div (num (ix2 r k)) (den (ix2 r 0)) * owc (ix2 k j)) + ob (ix2 0 j) := by
  pointwise [k1_pay1]

/-- The values the product reads: the tile's values in the first 64 rows, what the scratch held in the others. -/
def joined (x : Vec Ideal S64x8192 .f32) (xs : Vec Ideal S128x8192 .bf16) : Vec Ideal S128x8192 .bf16 :=
  fun y => if h : (y 0).val < 64 then x (ix2 ⟨(y 0).val, h⟩ (y 1)) else xs y

/-- The index whose two entries are zero. -/
theorem zero2 : (![0, 0] : Fin 2 → ℕ) = fun _ => 0 := by funext a; fin_cases a <;> rfl

/-- Storing a tile's values over the first 64 rows of an array leaves the joined array. -/
theorem read_joined {sp : Space} (v : View sig .tc sp S128x8192 .bf16) (f : v.ty.Contents (Elt Ideal)) (x : Vec Ideal S64x8192 .f32)
    (L : List (View.Piece (Elt Ideal) S128x8192 .bf16)) (xs : Vec Ideal S128x8192 .bf16)
    (hL : ∀ (k : Fin 128) (l : Fin 8192), ¬ k.val < 64 → v.read (Elt Ideal) (v.writes (Elt Ideal) f L) (ix2 k l) = xs (ix2 k l)) :
    v.read (Elt Ideal) (v.writes (Elt Ideal) f (⟨Rect.unit ![0, 0] ![64, 8192] inb_S128x8192_S64x8192_0_0, k1_pay5 x⟩ :: L)) = joined x xs := by
  funext y
  obtain ⟨k, l, rfl⟩ : ∃ (k : Fin 128) (l : Fin 8192), y = ix2 k l := ⟨y 0, y 1, eq_ix2 y⟩
  show _ = if h : k.val < 64 then x (ix2 ⟨k.val, h⟩ l) else xs (ix2 k l)
  by_cases h : k.val < 64
  · rw [dif_pos h]
    refine (View.read_writes_cons_unit_of_mem v f _ _ _ (ix2 k l) (ix2 (⟨k.val, h⟩ : Fin 64) l) rfl
      (fun a => by fin_cases a <;> simp [ix2])).trans ?_
    exact pay5_apply x ⟨k.val, h⟩ l
  · rw [dif_neg h, View.read_writes_cons_unit_of_not_mem v f _ _ _ (ix2 k l) rfl (0 : Fin 2)
      (Or.inr (by show 0 + 64 ≤ k.val; omega)), hL k l h]

/-- The rows stored with ones hold ones. -/
theorem read_ones {sp : Space} (v : View sig .tc sp S128x8192 .bf16) (f : v.ty.Contents (Elt Ideal)) (k : Fin 128) (l : Fin 8192) (h : ¬ k.val < 64) :
    v.read (Elt Ideal) (v.writes (Elt Ideal) f [⟨Rect.unit ![64, 0] ![64, 8192] inb_S128x8192_S64x8192_64_0, k1_pay3 (F := Ideal)⟩]) (ix2 k l) = 1 := by
  refine (View.read_writes_cons_unit_of_mem v f _ _ _ (ix2 k l) (ix2 (⟨k.val - 64, by omega⟩ : Fin 64) l) rfl
    (fun a => by fin_cases a <;> simp [ix2] <;> omega)).trans ?_
  exact pay3_apply _ l

/-- The accumulator after zeros are stored. -/
theorem read_zero4 {sp : Space} (v : View sig .tc sp S512x128 .f32) (f : v.ty.Contents (Elt Ideal)) :
    v.read (Elt Ideal) (v.writes (Elt Ideal) f [⟨Rect.unit ![0, 0] ![512, 128] inb_S512x128_S512x128_0_0, k1_pay4 (F := Ideal)⟩]) = fun _ => 0 := by
  funext y
  obtain ⟨r, k, rfl⟩ : ∃ (r : Fin 512) (k : Fin 128), y = ix2 r k := ⟨y 0, y 1, eq_ix2 y⟩
  refine (View.read_writes_cons_unit_of_mem v f _ _ _ (ix2 r k) (ix2 r k) rfl (fun a => by fin_cases a <;> simp [ix2])).trans ?_
  exact pay4_apply r k

/-- The query after it is stored. -/
theorem read_query {sp : Space} (v : View sig .tc sp S512x64 .fp8e4m3) (f : v.ty.Contents (Elt Ideal)) (p : Vec Ideal S512x64 .fp8e4m3) :
    v.read (Elt Ideal) (v.writes (Elt Ideal) f [⟨Rect.unit ![0, 0] ![512, 64] inb_S512x64_S512x64_0_0, p⟩]) = p := by
  funext y
  obtain ⟨r, k, rfl⟩ : ∃ (r : Fin 512) (k : Fin 64), y = ix2 r k := ⟨y 0, y 1, eq_ix2 y⟩
  exact View.read_writes_cons_unit_of_mem v f _ _ _ (ix2 r k) (ix2 r k) rfl (fun a => by fin_cases a <;> simp [ix2])

/-- The accumulator after it is stored. -/
theorem read_acc {sp : Space} (v : View sig .tc sp S512x128 .f32) (f : v.ty.Contents (Elt Ideal)) (p : Vec Ideal S512x128 .f32) :
    v.read (Elt Ideal) (v.writes (Elt Ideal) f [⟨Rect.unit ![0, 0] ![512, 128] inb_S512x128_S512x128_0_0, p⟩]) = p := by
  funext y
  obtain ⟨r, k, rfl⟩ : ∃ (r : Fin 512) (k : Fin 128), y = ix2 r k := ⟨y 0, y 1, eq_ix2 y⟩
  exact View.read_writes_cons_unit_of_mem v f _ _ _ (ix2 r k) (ix2 r k) rfl (fun a => by fin_cases a <;> simp [ix2])

/-- The first 64 columns of the accumulator. -/
theorem ld_num (p : Vec Ideal S512x128 .f32) (r : Fin 512) (k : Fin 64) :
    View.ld p (Rect.unit ![0, 0] ![512, 64] inb_S512x128_S512x64_0_0) (ix2 r k) = p (ix2 r ⟨k.val, by omega⟩) := by
  rw [View.ld_apply]
  congr 1
  funext a
  fin_cases a <;> exact Fin.ext (by simp [ix2])

/-- The column of the accumulator that holds the sum of the weights. -/
theorem ld_den (p : Vec Ideal S512x128 .f32) (r : Fin 512) :
    View.ld p (Rect.unit ![0, 64] ![512, 1] inb_S512x128_S512x1_0_64) (ix2 r 0) = p (ix2 r 64) := by
  rw [View.ld_apply]
  congr 1
  funext a
  fin_cases a <;> exact Fin.ext (by simp [ix2])

/-- The output at an index, from the accumulator. -/
def outRow (fh : Vec Ideal S512x128 .f32) (owh : Vec Ideal S128x128 .f32) (owc : Vec Ideal S64x128 .f32) (ob : Vec Ideal S1x128 .f32)
    (acc : Vec Ideal S512x128 .f32) (r : Fin 512) (j : Fin 128) : EReal :=
  (∑ k : Fin 128, fh (ix2 r k) * owh (ix2 k j)) + (∑ k : Fin 64, Ideal.div (acc (ix2 r ⟨k.val, by omega⟩)) (acc (ix2 r 64)) * owc (ix2 k j)) + ob (ix2 0 j)

section Body

variable (c : Dev nD) (i : grid1.Coords) (arg1 : Memref sig .tc .vmem S512x64 .f32) (harg1 : arg1.IsWhole) (arg2 : Memref sig .tc .vmem S64x64 .f32) (harg2 : arg2.IsWhole) (arg3 : Memref sig .tc .vmem S1x64 .f32) (harg3 : arg3.IsWhole) (arg4 : Memref sig .tc .vmem S64x8192 .f32) (harg4 : arg4.IsWhole) (arg5 : Memref sig .tc .vmem S64x8192 .f32) (harg5 : arg5.IsWhole) (arg6 : Memref sig .tc .vmem S512x128 .f32) (harg6 : arg6.IsWhole) (arg7 : Memref sig .tc .vmem S128x128 .f32) (harg7 : arg7.IsWhole) (arg8 : Memref sig .tc .vmem S64x128 .f32) (harg8 : arg8.IsWhole) (arg9 : Memref sig .tc .vmem S1x128 .f32) (harg9 : arg9.IsWhole) (arg10 : Memref sig .tc .vmem S512x128 .f32) (harg10 : arg10.IsWhole) (arg11 : Memref sig .tc .vmem S512x64 .fp8e4m3) (harg11 : arg11.IsWhole) (arg12 : Memref sig .tc .vmem S128x8192 .bf16) (harg12 : arg12.IsWhole) (arg13 : Memref sig .tc .vmem S512x128 .f32) (harg13 : arg13.IsWhole)
variable (x0 : Vec Ideal S512x64 .f32) (x1 : Vec Ideal S64x64 .f32) (x2 : Vec Ideal S1x64 .f32) (x3 : Vec Ideal S64x8192 .f32) (x4 : Vec Ideal S64x8192 .f32) (x5 : Vec Ideal S512x128 .f32) (x6 : Vec Ideal S128x128 .f32) (x7 : Vec Ideal S64x128 .f32) (x8 : Vec Ideal S1x128 .f32)

/-- A first point leaves the scaled normalised query. -/
theorem sout0_A_0_apply (hc0 : cond0_0 i) (hc1 : ¬cond0_1 i) (r : Fin 512) (d : Fin 64) :
    sout0_A_0 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 (ix2 r d) = qScaled x0 x1 x2 r d := by
  unfold sout0_A_0 kernelRun0_A
  dsimp only
  sl_unfold_words
  simp only [View.readCov, View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread]
  rw [read_query]
  rw [View.ld_unit_zero zero2 _ x0, View.ld_unit_zero zero2 _ x1, View.ld_unit_zero zero2 _ x2]
  exact pay2_apply x0 x1 x2 r d

/-- A first point leaves its values and ones. -/
theorem sout0_A_1_apply (hc0 : cond0_0 i) (hc1 : ¬cond0_1 i) (k : Fin 128) (l : Fin 8192) :
    sout0_A_1 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 (ix2 k l) = joined x4 (fun _ => 1) (ix2 k l) := by
  unfold sout0_A_1 kernelRun0_A
  dsimp only
  sl_unfold_words
  simp only [View.readCov, View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread]
  rw [View.ld_unit_zero zero2 _ x4]
  rw [read_joined VS0_1 VS0_1.junk x4 _ (fun _ => 1) (fun k l h => read_ones VS0_1 _ k l h)]

/-- A first point leaves its tile's sums. -/
theorem sout0_A_2_apply (hc0 : cond0_0 i) (hc1 : ¬cond0_1 i) (r : Fin 512) (j : Fin 128) :
    sout0_A_2 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 (ix2 r j) = 0 + ∑ l : Fin 8192, weight x3 (k1_pay2 (F := Ideal) x0 x1 x2) r l * joined x4 (fun _ => 1) (ix2 j l) := by
  unfold sout0_A_2 kernelRun0_A
  dsimp only
  sl_unfold_words
  simp only [View.readCov, View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread]
  rw [View.ld_unit_zero zero2 _ x0, View.ld_unit_zero zero2 _ x1, View.ld_unit_zero zero2 _ x2, View.ld_unit_zero zero2 _ x3, View.ld_unit_zero zero2 _ x4]
  rw [read_query arg11.view, read_zero4 arg13.view, read_joined arg12.view arg12.view.junk x4 _ (fun _ => 1) (fun k l h => read_ones arg12.view _ k l h)]
  rw [View.ld_unit_zero zero2 inb_S512x64_S512x64_0_0, View.ld_unit_zero zero2 inb_S512x128_S512x128_0_0, View.ld_unit_zero zero2 inb_S128x8192_S128x8192_0_0]
  refine (View.read_writes_cons_unit_of_mem VS0_2 _ _ _ _ (ix2 r j) (ix2 r j) rfl (fun a => by fin_cases a <;> simp [ix2])).trans ?_
  exact pay6_apply x3 (k1_pay2 x0 x1 x2) (fun _ => 0) (joined x4 (fun _ => 1)) r j

/-- A middle point leaves its values over what the scratch held. -/
theorem sout0_B_1_apply (hc0 : ¬cond0_0 i) (hc1 : ¬cond0_1 i) (xs0 : Vec Ideal S512x64 .fp8e4m3) (xs1 : Vec Ideal S128x8192 .bf16) (xs2 : Vec Ideal S512x128 .f32) (k : Fin 128) (l : Fin 8192) :
    sout0_B_1 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs0 xs1 xs2 (ix2 k l) = joined x4 xs1 (ix2 k l) := by
  unfold sout0_B_1 kernelRun0_B
  dsimp only
  sl_unfold_words
  simp only [View.readCov, View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread]
  rw [View.ld_unit_zero zero2 _ x4]
  exact congrFun (read_joined arg12.view (harg12.unread xs1) x4 [] xs1 (fun k l _ => congrFun (harg12.read_unread xs1) (ix2 k l))) (ix2 k l)

/-- A middle point adds its tile's sums. -/
theorem sout0_B_2_apply (hc0 : ¬cond0_0 i) (hc1 : ¬cond0_1 i) (xs0 : Vec Ideal S512x64 .fp8e4m3) (xs1 : Vec Ideal S128x8192 .bf16) (xs2 : Vec Ideal S512x128 .f32) (r : Fin 512) (j : Fin 128) :
    sout0_B_2 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs0 xs1 xs2 (ix2 r j) = xs2 (ix2 r j) + ∑ l : Fin 8192, weight x3 xs0 r l * joined x4 xs1 (ix2 j l) := by
  unfold sout0_B_2 kernelRun0_B
  dsimp only
  sl_unfold_words
  simp only [View.readCov, View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread]
  rw [View.ld_unit_zero zero2 _ x3, View.ld_unit_zero zero2 _ x4, View.ld_unit_zero zero2 _ xs0, View.ld_unit_zero zero2 _ xs2]
  rw [read_joined arg12.view (harg12.unread xs1) x4 [] xs1 (fun k l _ => congrFun (harg12.read_unread xs1) (ix2 k l))]
  rw [View.ld_unit_zero zero2 inb_S128x8192_S128x8192_0_0]
  refine (View.read_writes_cons_unit_of_mem VS0_2 _ _ _ _ (ix2 r j) (ix2 r j) rfl (fun a => by fin_cases a <;> simp [ix2])).trans ?_
  exact pay6_apply x3 xs0 xs2 (joined x4 xs1) r j

/-- A last point leaves its values over what the scratch held. -/
theorem sout0_C_1_apply (hc0 : ¬cond0_0 i) (hc1 : cond0_1 i) (xs0 : Vec Ideal S512x64 .fp8e4m3) (xs1 : Vec Ideal S128x8192 .bf16) (xs2 : Vec Ideal S512x128 .f32) (k : Fin 128) (l : Fin 8192) :
    sout0_C_1 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs0 xs1 xs2 (ix2 k l) = joined x4 xs1 (ix2 k l) := by
  unfold sout0_C_1 kernelRun0_C
  dsimp only
  sl_unfold_words
  simp only [View.readCov, View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread]
  rw [View.ld_unit_zero zero2 _ x4]
  exact congrFun (read_joined arg12.view (harg12.unread xs1) x4 [] xs1 (fun k l _ => congrFun (harg12.read_unread xs1) (ix2 k l))) (ix2 k l)

/-- A last point adds its tile's sums. -/
theorem sout0_C_2_apply (hc0 : ¬cond0_0 i) (hc1 : cond0_1 i) (xs0 : Vec Ideal S512x64 .fp8e4m3) (xs1 : Vec Ideal S128x8192 .bf16) (xs2 : Vec Ideal S512x128 .f32) (r : Fin 512) (j : Fin 128) :
    sout0_C_2 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs0 xs1 xs2 (ix2 r j) = xs2 (ix2 r j) + ∑ l : Fin 8192, weight x3 xs0 r l * joined x4 xs1 (ix2 j l) := by
  unfold sout0_C_2 kernelRun0_C
  dsimp only
  sl_unfold_words
  simp only [View.readCov, View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread]
  rw [View.ld_unit_zero zero2 _ x3, View.ld_unit_zero zero2 _ x4, View.ld_unit_zero zero2 _ xs0, View.ld_unit_zero zero2 _ xs2]
  rw [read_joined arg12.view (harg12.unread xs1) x4 [] xs1 (fun k l _ => congrFun (harg12.read_unread xs1) (ix2 k l))]
  rw [View.ld_unit_zero zero2 inb_S128x8192_S128x8192_0_0]
  refine (View.read_writes_cons_unit_of_mem VS0_2 _ _ _ _ (ix2 r j) (ix2 r j) rfl (fun a => by fin_cases a <;> simp [ix2])).trans ?_
  exact pay6_apply x3 xs0 xs2 (joined x4 xs1) r j

/-- A last point's output, from its accumulator. -/
theorem out0_C_9_apply (hc0 : ¬cond0_0 i) (hc1 : cond0_1 i) (xs0 : Vec Ideal S512x64 .fp8e4m3) (xs1 : Vec Ideal S128x8192 .bf16) (xs2 : Vec Ideal S512x128 .f32) (r : Fin 512) (j : Fin 128) :
    out0_C_9 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs0 xs1 xs2 (ix2 r j) = outRow x5 x6 x7 x8 (k1_pay6 (F := Ideal) x3 xs0 xs2 (joined x4 xs1)) r j := by
  unfold out0_C_9 kernelRun0_C
  dsimp only
  sl_unfold_words
  simp only [View.readCov, View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread]
  rw [View.ld_unit_zero zero2 _ x3, View.ld_unit_zero zero2 _ x4, View.ld_unit_zero zero2 _ xs0, View.ld_unit_zero zero2 _ xs2, View.ld_unit_zero zero2 _ x5, View.ld_unit_zero zero2 _ x6, View.ld_unit_zero zero2 _ x7, View.ld_unit_zero zero2 _ x8]
  rw [read_joined arg12.view (harg12.unread xs1) x4 [] xs1 (fun k l _ => congrFun (harg12.read_unread xs1) (ix2 k l))]
  rw [View.ld_unit_zero zero2 inb_S128x8192_S128x8192_0_0, read_acc arg13.view]
  refine (View.read_writes_cons_unit_of_mem VO0_9 _ _ _ _ (ix2 r j) (ix2 r j) rfl (fun a => by fin_cases a <;> simp [ix2])).trans ?_
  rw [pay1_apply]
  refine congrArg₂ (· + ·) (congrArg₂ (· + ·) rfl (Finset.sum_congr rfl fun k _ => ?_)) rfl
  exact congrArg₂ (· * ·) (congrArg₂ Ideal.div (ld_num _ r k) (ld_den _ r)) rfl

end Body

end Cert.KernelIdeal.Mem
-- ==== Proof.KernelIdeal.MemChain.lean ====
module

public import proofs.«01_k».proof.Proof.KernelIdeal.MemVal
public import Idealize.ShloMosaic.Lib.Pipeline.ValueKit

/-!
# The memory read over the eight tiles

After each tile the accumulator holds the weighted sums over the keys seen; after the last one the output array holds
the output row of the whole sums.
-/

@[expose] public section

set_option maxRecDepth 16384

noncomputable section

namespace Cert.KernelIdeal.Mem

open Cert.KernelIdeal Cert.KernelIdeal.Gen
open Idealize.ShloMosaic Idealize.ShloMosaic.TcCoe Idealize.ShloMosaic.Pipeline
open Idealize.ShloMosaic.Pipeline (Dat Cfg Window cellOf)

variable [Named Ideal]

/-! ## The points at an index -/

/-- What a first point leaves: the values. -/
theorem ptA_va (c : Dev nD) (t : Fin cfg1.N) (h0 : t.val % 8 = 0) (h1 : ¬t.val % 8 = 7) (x0 : Vec Ideal S512x64 .f32) (x1 : Vec Ideal S64x64 .f32) (x2 : Vec Ideal S1x64 .f32) (x3 : Vec Ideal S64x8192 .f32) (x4 : Vec Ideal S64x8192 .f32) (x5 : Vec Ideal S512x128 .f32) (x6 : Vec Ideal S128x128 .f32) (x7 : Vec Ideal S64x128 .f32) (x8 : Vec Ideal S1x128 .f32) (k : Fin 128) (l : Fin 8192) :
    (ptA c t h0 h1 x0 x1 x2 x3 x4 x5 x6 x7 x8).2.2.1 (ix2 k l) = joined x4 (fun _ => 1) (ix2 k l) := by
  unfold ptA
  dsimp only
  rw [sout0_A_1_apply]

/-- What a first point leaves: the accumulator. -/
theorem ptA_acc (c : Dev nD) (t : Fin cfg1.N) (h0 : t.val % 8 = 0) (h1 : ¬t.val % 8 = 7) (x0 : Vec Ideal S512x64 .f32) (x1 : Vec Ideal S64x64 .f32) (x2 : Vec Ideal S1x64 .f32) (x3 : Vec Ideal S64x8192 .f32) (x4 : Vec Ideal S64x8192 .f32) (x5 : Vec Ideal S512x128 .f32) (x6 : Vec Ideal S128x128 .f32) (x7 : Vec Ideal S64x128 .f32) (x8 : Vec Ideal S1x128 .f32) (r : Fin 512) (j : Fin 128) :
    (ptA c t h0 h1 x0 x1 x2 x3 x4 x5 x6 x7 x8).2.2.2 (ix2 r j) = 0 + ∑ l : Fin 8192, weight x3 (k1_pay2 (F := Ideal) x0 x1 x2) r l * joined x4 (fun _ => 1) (ix2 j l) := by
  unfold ptA
  dsimp only
  rw [sout0_A_2_apply]

/-- What a first point leaves: the query. -/
theorem ptA_q (c : Dev nD) (t : Fin cfg1.N) (h0 : t.val % 8 = 0) (h1 : ¬t.val % 8 = 7) (x0 : Vec Ideal S512x64 .f32) (x1 : Vec Ideal S64x64 .f32) (x2 : Vec Ideal S1x64 .f32) (x3 : Vec Ideal S64x8192 .f32) (x4 : Vec Ideal S64x8192 .f32) (x5 : Vec Ideal S512x128 .f32) (x6 : Vec Ideal S128x128 .f32) (x7 : Vec Ideal S64x128 .f32) (x8 : Vec Ideal S1x128 .f32) (r : Fin 512) (d : Fin 64) :
    (ptA c t h0 h1 x0 x1 x2 x3 x4 x5 x6 x7 x8).2.1 (ix2 r d) = qScaled x0 x1 x2 r d := by
  unfold ptA
  dsimp only
  rw [sout0_A_0_apply]

/-- What a middle point leaves: the values. -/
theorem ptB_va (c : Dev nD) (t : Fin cfg1.N) (h0 : ¬t.val % 8 = 0) (h1 : ¬t.val % 8 = 7) (x0 : Vec Ideal S512x64 .f32) (x1 : Vec Ideal S64x64 .f32) (x2 : Vec Ideal S1x64 .f32) (x3 : Vec Ideal S64x8192 .f32) (x4 : Vec Ideal S64x8192 .f32) (x5 : Vec Ideal S512x128 .f32) (x6 : Vec Ideal S128x128 .f32) (x7 : Vec Ideal S64x128 .f32) (x8 : Vec Ideal S1x128 .f32) (xs0 : Vec Ideal S512x64 .fp8e4m3) (xs1 : Vec Ideal S128x8192 .bf16) (xs2 : Vec Ideal S512x128 .f32) (k : Fin 128) (l : Fin 8192) :
    (ptB c t h0 h1 x0 x1 x2 x3 x4 x5 x6 x7 x8 xs0 xs1 xs2).2.2.1 (ix2 k l) = joined x4 xs1 (ix2 k l) := by
  unfold ptB
  dsimp only
  rw [sout0_B_1_apply]

/-- What a middle point leaves: the accumulator. -/
theorem ptB_acc (c : Dev nD) (t : Fin cfg1.N) (h0 : ¬t.val % 8 = 0) (h1 : ¬t.val % 8 = 7) (x0 : Vec Ideal S512x64 .f32) (x1 : Vec Ideal S64x64 .f32) (x2 : Vec Ideal S1x64 .f32) (x3 : Vec Ideal S64x8192 .f32) (x4 : Vec Ideal S64x8192 .f32) (x5 : Vec Ideal S512x128 .f32) (x6 : Vec Ideal S128x128 .f32) (x7 : Vec Ideal S64x128 .f32) (x8 : Vec Ideal S1x128 .f32) (xs0 : Vec Ideal S512x64 .fp8e4m3) (xs1 : Vec Ideal S128x8192 .bf16) (xs2 : Vec Ideal S512x128 .f32) (r : Fin 512) (j : Fin 128) :
    (ptB c t h0 h1 x0 x1 x2 x3 x4 x5 x6 x7 x8 xs0 xs1 xs2).2.2.2 (ix2 r j) = xs2 (ix2 r j) + ∑ l : Fin 8192, weight x3 xs0 r l * joined x4 xs1 (ix2 j l) := by
  unfold ptB
  dsimp only
  rw [sout0_B_2_apply]

/-- A middle point keeps the query. -/
theorem ptB_q (c : Dev nD) (t : Fin cfg1.N) (h0 : ¬t.val % 8 = 0) (h1 : ¬t.val % 8 = 7) (x0 : Vec Ideal S512x64 .f32) (x1 : Vec Ideal S64x64 .f32) (x2 : Vec Ideal S1x64 .f32) (x3 : Vec Ideal S64x8192 .f32) (x4 : Vec Ideal S64x8192 .f32) (x5 : Vec Ideal S512x128 .f32) (x6 : Vec Ideal S128x128 .f32) (x7 : Vec Ideal S64x128 .f32) (x8 : Vec Ideal S1x128 .f32) (xs0 : Vec Ideal S512x64 .fp8e4m3) (xs1 : Vec Ideal S128x8192 .bf16) (xs2 : Vec Ideal S512x128 .f32) :
    (ptB c t h0 h1 x0 x1 x2 x3 x4 x5 x6 x7 x8 xs0 xs1 xs2).2.1 = xs0 := by
  unfold ptB
  rfl

/-- What a last point leaves: the values. -/
theorem ptC_va (c : Dev nD) (t : Fin cfg1.N) (h0 : ¬t.val % 8 = 0) (h1 : t.val % 8 = 7) (x0 : Vec Ideal S512x64 .f32) (x1 : Vec Ideal S64x64 .f32) (x2 : Vec Ideal S1x64 .f32) (x3 : Vec Ideal S64x8192 .f32) (x4 : Vec Ideal S64x8192 .f32) (x5 : Vec Ideal S512x128 .f32) (x6 : Vec Ideal S128x128 .f32) (x7 : Vec Ideal S64x128 .f32) (x8 : Vec Ideal S1x128 .f32) (xs0 : Vec Ideal S512x64 .fp8e4m3) (xs1 : Vec Ideal S128x8192 .bf16) (xs2 : Vec Ideal S512x128 .f32) (k : Fin 128) (l : Fin 8192) :
    (ptC c t h0 h1 x0 x1 x2 x3 x4 x5 x6 x7 x8 xs0 xs1 xs2).2.2.1 (ix2 k l) = joined x4 xs1 (ix2 k l) := by
  unfold ptC
  dsimp only
  rw [sout0_C_1_apply]

/-- What a last point leaves: the accumulator. -/
theorem ptC_acc (c : Dev nD) (t : Fin cfg1.N) (h0 : ¬t.val % 8 = 0) (h1 : t.val % 8 = 7) (x0 : Vec Ideal S512x64 .f32) (x1 : Vec Ideal S64x64 .f32) (x2 : Vec Ideal S1x64 .f32) (x3 : Vec Ideal S64x8192 .f32) (x4 : Vec Ideal S64x8192 .f32) (x5 : Vec Ideal S512x128 .f32) (x6 : Vec Ideal S128x128 .f32) (x7 : Vec Ideal S64x128 .f32) (x8 : Vec Ideal S1x128 .f32) (xs0 : Vec Ideal S512x64 .fp8e4m3) (xs1 : Vec Ideal S128x8192 .bf16) (xs2 : Vec Ideal S512x128 .f32) (r : Fin 512) (j : Fin 128) :
    (ptC c t h0 h1 x0 x1 x2 x3 x4 x5 x6 x7 x8 xs0 xs1 xs2).2.2.2 (ix2 r j) = xs2 (ix2 r j) + ∑ l : Fin 8192, weight x3 xs0 r l * joined x4 xs1 (ix2 j l) := by
  unfold ptC
  dsimp only
  rw [sout0_C_2_apply]

/-- What a last point leaves: the output. -/
theorem ptC_out (c : Dev nD) (t : Fin cfg1.N) (h0 : ¬t.val % 8 = 0) (h1 : t.val % 8 = 7) (x0 : Vec Ideal S512x64 .f32) (x1 : Vec Ideal S64x64 .f32) (x2 : Vec Ideal S1x64 .f32) (x3 : Vec Ideal S64x8192 .f32) (x4 : Vec Ideal S64x8192 .f32) (x5 : Vec Ideal S512x128 .f32) (x6 : Vec Ideal S128x128 .f32) (x7 : Vec Ideal S64x128 .f32) (x8 : Vec Ideal S1x128 .f32) (xs0 : Vec Ideal S512x64 .fp8e4m3) (xs1 : Vec Ideal S128x8192 .bf16) (xs2 : Vec Ideal S512x128 .f32) (r : Fin 512) (j : Fin 128) :
    (ptC c t h0 h1 x0 x1 x2 x3 x4 x5 x6 x7 x8 xs0 xs1 xs2).1 (ix2 r j) = outRow x5 x6 x7 x8 (k1_pay6 (F := Ideal) x3 xs0 xs2 (joined x4 xs1)) r j := by
  unfold ptC
  dsimp only
  rw [out0_C_9_apply]

/-- A last point keeps the query. -/
theorem ptC_q (c : Dev nD) (t : Fin cfg1.N) (h0 : ¬t.val % 8 = 0) (h1 : t.val % 8 = 7) (x0 : Vec Ideal S512x64 .f32) (x1 : Vec Ideal S64x64 .f32) (x2 : Vec Ideal S1x64 .f32) (x3 : Vec Ideal S64x8192 .f32) (x4 : Vec Ideal S64x8192 .f32) (x5 : Vec Ideal S512x128 .f32) (x6 : Vec Ideal S128x128 .f32) (x7 : Vec Ideal S64x128 .f32) (x8 : Vec Ideal S1x128 .f32) (xs0 : Vec Ideal S512x64 .fp8e4m3) (xs1 : Vec Ideal S128x8192 .bf16) (xs2 : Vec Ideal S512x128 .f32) :
    (ptC c t h0 h1 x0 x1 x2 x3 x4 x5 x6 x7 x8 xs0 xs1 xs2).2.1 = xs0 := by
  unfold ptC
  rfl

/-- The first 64 rows of the joined values are the tile's. -/
theorem joined_lt (x : Vec Ideal S64x8192 .f32) (xs : Vec Ideal S128x8192 .bf16) (k : Fin 128) (l : Fin 8192) (h : k.val < 64) :
    joined x xs (ix2 k l) = x (ix2 ⟨k.val, h⟩ l) := dif_pos h

/-- The other rows of the joined values are the scratch's. -/
theorem joined_ge (x : Vec Ideal S64x8192 .f32) (xs : Vec Ideal S128x8192 .bf16) (k : Fin 128) (l : Fin 8192) (h : ¬ k.val < 64) :
    joined x xs (ix2 k l) = xs (ix2 k l) := dif_neg h

variable (V : (c : Dev nD) → (b : Ref sig .tc) → Buf (Elt Ideal) ((c : Thread nD τ).loc b))

section Chain

variable (c : Dev nD) (Q : Vec Ideal S512x64 .fp8e4m3) (pw : Fin 512 → ℕ → EReal) (vw : Fin 64 → ℕ → EReal)

/-- What the region's blocks hold: the scaled query, the weights of the tile's keys under it, and the tile's values. -/
structure Inputs : Prop where
  /-- The query the first point stores. -/
  q : ∀ (t : Fin cfg1.N) (r : Fin 512) (d : Fin 64), qScaled (iblk V c 0 t) (iblk V c 1 t) (iblk V c 2 t) r d = Q (ix2 r d)
  /-- The weights. -/
  w : ∀ (t : Fin cfg1.N) (r : Fin 512) (l : Fin 8192), weight (iblk V c 3 t) Q r l = pw r (8192 * t.val + l.val)
  /-- The values. -/
  v : ∀ (t : Fin cfg1.N) (k : Fin 64) (l : Fin 8192), (iblk V c 4 t : Vec Ideal S64x8192 .f32) (ix2 k l) = vw k (8192 * t.val + l.val)

/-- The row of values a column of the accumulator sums: the values in the first 64, ones in the others. -/
def col (j : Fin 128) (s : ℕ) : EReal := if h : j.val < 64 then vw ⟨j.val, h⟩ s else 1

/-- The sum over one tile. -/
def tile (r : Fin 512) (j : Fin 128) (t : ℕ) : EReal := ∑ l : Fin 8192, pw r (8192 * t + l.val) * col vw j (8192 * t + l.val)

variable {V c Q pw vw}

/-- One tile's step over a scratch that holds ones in the last rows. -/
theorem tile_eq (H : Inputs V c Q pw vw) (t : Fin cfg1.N) (xs1 : Vec Ideal S128x8192 .bf16) (h1 : ∀ (k : Fin 128) (l : Fin 8192), ¬ k.val < 64 → xs1 (ix2 k l) = (1 : EReal)) (r : Fin 512) (j : Fin 128) :
    (∑ l : Fin 8192, weight (iblk V c 3 t) Q r l * joined (iblk V c 4 t) xs1 (ix2 j l)) = tile pw vw r j t.val := by
  unfold tile col
  refine Finset.sum_congr rfl fun l _ => ?_
  rw [H.w]
  by_cases h : j.val < 64
  · rw [joined_lt _ _ _ _ h, dif_pos h, H.v]
  · rw [joined_ge _ _ _ _ h, dif_neg h, h1 j l h]

/-- The stored query is `Q`. -/
theorem query_eq (H : Inputs V c Q pw vw) (t : Fin cfg1.N) : k1_pay2 (F := Ideal) (iblk V c 0 t) (iblk V c 1 t) (iblk V c 2 t) = Q := by
  funext y
  obtain ⟨r, d, rfl⟩ : ∃ (r : Fin 512) (d : Fin 64), y = ix2 r d := ⟨y 0, y 1, eq_ix2 y⟩
  exact (pay2_apply _ _ _ r d).trans (H.q t r d)

/-- After a tile: the query, the ones, and the sums over the tiles so far. -/
theorem chain_eq (H : Inputs V c Q pw vw) (n : ℕ) (hn : n < cfg1.N) :
    (outsAt0 V c n hn).2.1 = Q
      ∧ (∀ (k : Fin 128) (l : Fin 8192), ¬ k.val < 64 → (outsAt0 V c n hn).2.2.1 (ix2 k l) = (1 : EReal))
      ∧ ∀ (r : Fin 512) (j : Fin 128), (outsAt0 V c n hn).2.2.2 (ix2 r j) = ∑ t ∈ Finset.range (n + 1), tile pw vw r j t := by
  have hN : n < 8 := lt_of_lt_of_eq hn N_1
  induction n with
  | zero =>
    rw [show outsAt0 V c 0 hn = _ from outsAt0_A V c ⟨0, hn⟩ (Nat.zero_mod _) (show ¬ 0 % 8 = 7 by decide)]
    refine ⟨?_, fun k l h => ?_, fun r j => ?_⟩
    · funext y
      obtain ⟨r, d, rfl⟩ : ∃ (r : Fin 512) (d : Fin 64), y = ix2 r d := ⟨y 0, y 1, eq_ix2 y⟩
      rw [ptA_q, H.q]
    · rw [ptA_va, joined_ge _ _ _ _ h]
    · rw [ptA_acc, query_eq H, tile_eq H _ _ (fun _ _ _ => rfl), Finset.sum_range_one, zero_add]
  | succ n ih =>
    obtain ⟨i0, i1, i2⟩ := ih (Nat.lt_of_succ_lt hn) (by omega)
    have h0 : ¬ (n + 1) % 8 = 0 := by omega
    by_cases h1 : (n + 1) % 8 = 7
    · rw [show outsAt0 V c (n + 1) hn = _ from outsAt0_C V c ⟨n + 1, hn⟩ h0 h1]
      refine ⟨(ptC_q ..).trans i0, fun k l h => ?_, fun r j => ?_⟩
      · rw [ptC_va, joined_ge _ _ _ _ h]
        exact i1 k l h
      · rw [ptC_acc, show (outsAt0 V c ((⟨n + 1, hn⟩ : Fin cfg1.N).val - 1) _).2.1 = Q from i0, Finset.sum_range_succ _ (n + 1)]
        exact congrArg₂ (· + ·) (i2 r j) (tile_eq H ⟨n + 1, hn⟩ _ i1 r j)
    · rw [show outsAt0 V c (n + 1) hn = _ from outsAt0_B V c ⟨n + 1, hn⟩ h0 h1]
      refine ⟨(ptB_q ..).trans i0, fun k l h => ?_, fun r j => ?_⟩
      · rw [ptB_va, joined_ge _ _ _ _ h]
        exact i1 k l h
      · rw [ptB_acc, show (outsAt0 V c ((⟨n + 1, hn⟩ : Fin cfg1.N).val - 1) _).2.1 = Q from i0, Finset.sum_range_succ _ (n + 1)]
        exact congrArg₂ (· + ·) (i2 r j) (tile_eq H ⟨n + 1, hn⟩ _ i1 r j)

/-- The tiles make up the whole sum. -/
theorem sum_tiles (A B N : ℕ) (hN : N = A * B) (f : ℕ → EReal) :
    (∑ t ∈ Finset.range A, ∑ l : Fin B, f (B * t + l.val)) = ∑ s : Fin N, f s.val := by
  subst hN
  rw [Fin.sum_univ_eq_sum_range f (A * B), Finset.sum_range_mul_split A B f]
  refine Finset.sum_congr rfl fun t _ => ?_
  rw [Fin.sum_univ_eq_sum_range (fun l => f (B * t + l)) B]
  exact Finset.sum_congr rfl fun l _ => by rw [Nat.mul_comm]

/-- The accumulator's column after the last tile, over all the keys. -/
theorem acc_last (r : Fin 512) (j : Fin 128) :
    (∑ t ∈ Finset.range 8, tile pw vw r j t) = ∑ s : Fin 65536, pw r s.val * col vw j s.val :=
  sum_tiles 8 8192 65536 (by norm_num) fun s => pw r s * col vw j s

/-- The output at an index, from the weighted sums of the values and the sum of the weights. -/
def outOf (fh : Vec Ideal S512x128 .f32) (owh : Vec Ideal S128x128 .f32) (owc : Vec Ideal S64x128 .f32) (ob : Vec Ideal S1x128 .f32)
    (num : Fin 64 → EReal) (den : EReal) (r : Fin 512) (j : Fin 128) : EReal :=
  (∑ k : Fin 128, fh (ix2 r k) * owh (ix2 k j)) + (∑ k : Fin 64, Ideal.div (num k) den * owc (ix2 k j)) + ob (ix2 0 j)

/-- The last tile's output at an index. -/
theorem last_eq (H : Inputs V c Q pw vw) (t : Fin cfg1.N) (ht : t.val = 7) (r : Fin 512) (j : Fin 128) :
    (outsAt0 V c t.val t.isLt).1 (ix2 r j)
      = outOf (iblk V c 5 t) (iblk V c 6 t) (iblk V c 7 t) (iblk V c 8 t) (fun k => ∑ s : Fin 65536, pw r s.val * vw k s.val) (∑ s : Fin 65536, pw r s.val) r j := by
  have h0 : ¬ t.val % 8 = 0 := by omega
  have h1 : t.val % 8 = 7 := by omega
  have hacc : ∀ (r : Fin 512) (j : Fin 128), k1_pay6 (F := Ideal) (iblk V c 3 t) (outsAt0 V c (t.val - 1) (Nat.lt_of_le_of_lt (Nat.sub_le _ _) t.isLt)).2.1 (outsAt0 V c (t.val - 1) (Nat.lt_of_le_of_lt (Nat.sub_le _ _) t.isLt)).2.2.2 (joined (iblk V c 4 t) (outsAt0 V c (t.val - 1) (Nat.lt_of_le_of_lt (Nat.sub_le _ _) t.isLt)).2.2.1) (ix2 r j)
      = ∑ s : Fin 65536, pw r s.val * col vw j s.val := fun r j => by
    obtain ⟨i0, i1, i2⟩ := chain_eq H (t.val - 1) (Nat.lt_of_le_of_lt (Nat.sub_le _ _) t.isLt)
    rw [pay6_apply, i0, tile_eq H _ _ i1, i2, ← acc_last, show t.val - 1 + 1 = 7 by omega, ht, Finset.sum_range_succ _ 7]
  rw [outsAt0_C V c t h0 h1, ptC_out]
  unfold outRow outOf
  simp only [hacc]
  refine congrArg₂ (· + ·) (congrArg₂ (· + ·) rfl (Finset.sum_congr rfl fun k _ => ?_)) rfl
  have e1 : ∀ s : ℕ, col vw (⟨k.val, by omega⟩ : Fin 128) s = vw k s := fun s => dif_pos k.isLt
  have e2 : ∀ s : ℕ, col vw (64 : Fin 128) s = 1 := fun s => dif_neg (by decide)
  simp only [e1, e2, mul_one]

end Chain

section Blocks

variable (c : Dev nD)

/-- Window 0 has one block. -/
theorem idx_0 : ∀ t : Fin cfg1.N, win1_0.index t = ![0, 0] := by decide +kernel

/-- The block of window 0 at an index. -/
theorem iblk_0_apply (t : Fin cfg1.N) (a b : _) :
    (iblk V c 0 t : Vec Ideal S512x64 .f32) (ix2 a b) = (V c main_call0_v9 : Vec Ideal S512x64 .f32) (ix2 a b) := by
  blk_ext [iblk, idx_0 t]

/-- Window 1 has one block. -/
theorem idx_1 : ∀ t : Fin cfg1.N, win1_1.index t = ![0, 0] := by decide +kernel

/-- The block of window 1 at an index. -/
theorem iblk_1_apply (t : Fin cfg1.N) (a b : _) :
    (iblk V c 1 t : Vec Ideal S64x64 .f32) (ix2 a b) = (V c main_call0_v10 : Vec Ideal S64x64 .f32) (ix2 a b) := by
  blk_ext [iblk, idx_1 t]

/-- Window 2 has one block. -/
theorem idx_2 : ∀ t : Fin cfg1.N, win1_2.index t = ![0, 0] := by decide +kernel

/-- The block of window 2 at an index. -/
theorem iblk_2_apply (t : Fin cfg1.N) (a b : _) :
    (iblk V c 2 t : Vec Ideal S1x64 .f32) (ix2 a b) = (V c main_call0_v11 : Vec Ideal S1x64 .f32) (ix2 a b) := by
  blk_ext [iblk, idx_2 t]

/-- Window 5 has one block. -/
theorem idx_5 : ∀ t : Fin cfg1.N, win1_5.index t = ![0, 0] := by decide +kernel

/-- The block of window 5 at an index. -/
theorem iblk_5_apply (t : Fin cfg1.N) (a b : _) :
    (iblk V c 5 t : Vec Ideal S512x128 .f32) (ix2 a b) = (V c main_call0_v7 : Vec Ideal S512x128 .f32) (ix2 a b) := by
  blk_ext [iblk, idx_5 t]

/-- Window 6 has one block. -/
theorem idx_6 : ∀ t : Fin cfg1.N, win1_6.index t = ![0, 0] := by decide +kernel

/-- The block of window 6 at an index. -/
theorem iblk_6_apply (t : Fin cfg1.N) (a b : _) :
    (iblk V c 6 t : Vec Ideal S128x128 .f32) (ix2 a b) = (V c main_call0_v15 : Vec Ideal S128x128 .f32) (ix2 a b) := by
  blk_ext [iblk, idx_6 t]

/-- Window 7 has one block. -/
theorem idx_7 : ∀ t : Fin cfg1.N, win1_7.index t = ![0, 0] := by decide +kernel

/-- The block of window 7 at an index. -/
theorem iblk_7_apply (t : Fin cfg1.N) (a b : _) :
    (iblk V c 7 t : Vec Ideal S64x128 .f32) (ix2 a b) = (V c main_call0_v17 : Vec Ideal S64x128 .f32) (ix2 a b) := by
  blk_ext [iblk, idx_7 t]

/-- Window 8 has one block. -/
theorem idx_8 : ∀ t : Fin cfg1.N, win1_8.index t = ![0, 0] := by decide +kernel

/-- The block of window 8 at an index. -/
theorem iblk_8_apply (t : Fin cfg1.N) (a b : _) :
    (iblk V c 8 t : Vec Ideal S1x128 .f32) (ix2 a b) = (V c main_call0_v18 : Vec Ideal S1x128 .f32) (ix2 a b) := by
  blk_ext [iblk, idx_8 t]

/-- The tile of window 3. -/
theorem idx_3 : ∀ t : Fin cfg1.N, win1_3.index t = ![0, t.val] := by decide +kernel

/-- A tile of window 3 at an index. -/
theorem iblk_3_apply (t : Fin cfg1.N) (d : Fin 64) (l : Fin 8192) (s : Fin 65536) (hs : s.val = 8192 * t.val + l.val) :
    (iblk V c 3 t : Vec Ideal S64x8192 .f32) (ix2 d l) = (V c main_call0_v12 : Vec Ideal S64x65536 .f32) (ix2 d s) := by
  blk_ext [iblk, idx_3 t, hs]

/-- The tile of window 4. -/
theorem idx_4 : ∀ t : Fin cfg1.N, win1_4.index t = ![0, t.val] := by decide +kernel

/-- A tile of window 4 at an index. -/
theorem iblk_4_apply (t : Fin cfg1.N) (d : Fin 64) (l : Fin 8192) (s : Fin 65536) (hs : s.val = 8192 * t.val + l.val) :
    (iblk V c 4 t : Vec Ideal S64x8192 .f32) (ix2 d l) = (V c main_call0_v13 : Vec Ideal S64x65536 .f32) (ix2 d s) := by
  blk_ext [iblk, idx_4 t, hs]

end Blocks

section Final

variable {V} {c : Dev nD} {Q : Vec Ideal S512x64 .fp8e4m3} {pw : Fin 512 → ℕ → EReal} {vw : Fin 64 → ℕ → EReal}

/-- The last point. -/
def tLast : Fin cfg1.N := ⟨7, by decide⟩

/-- The output array at the region's end. -/
theorem arr_eq (H : Inputs V c Q pw vw) (G : Vec Ideal S512x128 .f32)
    (hG : ∀ (r : Fin 512) (j : Fin 128), G (ix2 r j)
      = outOf (V c main_call0_v7) (V c main_call0_v15) (V c main_call0_v17) (V c main_call0_v18) (fun k => ∑ s : Fin 65536, pw r s.val * vw k s.val) (∑ s : Fin 65536, pw r s.val) r j) :
    (dat V c).arrAt 9 cfg1.N = G := by
  refine (dat V c).arrAt_eq_of_after_last 9 tLast (by decide +kernel) _ fun j => ?_
  blk_simp
  rw [after0_9]
  obtain ⟨r, k, rfl⟩ : ∃ (r : Fin 512) (k : Fin 128), j = ix2 r k := ⟨j 0, j 1, eq_ix2 j⟩
  rw [hG]
  refine (last_eq H tLast rfl r k).trans ?_
  unfold outOf
  simp only [iblk_5_apply, iblk_6_apply, iblk_7_apply, iblk_8_apply]

end Final

end Cert.KernelIdeal.Mem
-- ==== Proof.Maths.Attention.lean ====
module

public import proofs.«01_k».proof.Proof.ReferenceIdeal.Val
public import proofs.«01_k».proof.Proof.Maths.Reals

/-!
# The reference's memory read as real weights

The normalised query and keys are real whatever the arguments hold, so the similarities are real; the softmax average
is then the average under the exponentials of the similarities, with no maximum taken off.
-/

@[expose] public section

set_option maxRecDepth 16384

noncomputable section

namespace Cert.Maths

open Idealize.ShloMosaic
open Cert.ReferenceIdeal.Loop

variable [Named Ideal]

/-- The normalised query is real. -/
theorem query_real (q : Arr Ideal Cert.ReferenceIdeal.S512x64) :
    ∃ u : Fin 512 → Fin 64 → ℝ, ∀ r d, qUnit q (qNorm q) (ix2 r d) = (u r d : EReal) := by
  obtain ⟨e, he, hE⟩ := eps_word
  have h : ∀ r : Fin 512, ∃ u : Fin 64 → ℝ, ∀ d, qUnit q (qNorm q) (ix2 r d) = (u d : EReal) := fun r => by
    obtain ⟨u, hu⟩ := unit_real (fun d : Fin 64 => q (ix2 r d)) e he
    refine ⟨u, fun d => ?_⟩
    rw [qUnit_apply, qNorm_apply, hE]
    exact hu d
  choose u hu using h
  exact ⟨u, hu⟩

/-- The normalised keys are real. -/
theorem keys_real (k : Arr Ideal Cert.ReferenceIdeal.S65536x64) :
    ∃ w : Fin 65536 → Fin 64 → ℝ, ∀ s d, Ideal.div (k (ix2 s d)) (kNorm k (ix2 s 0) + Ideal.ofBits .f32 0x322BCC77#32) = (w s d : EReal) := by
  obtain ⟨e, he, hE⟩ := eps_word
  have h : ∀ s : Fin 65536, ∃ w : Fin 64 → ℝ, ∀ d, Ideal.div (k (ix2 s d)) (kNorm k (ix2 s 0) + Ideal.ofBits .f32 0x322BCC77#32) = (w d : EReal) := fun s => by
    obtain ⟨w, hw⟩ := unit_real (fun d : Fin 64 => k (ix2 s d)) e he
    refine ⟨w, fun d => ?_⟩
    rw [kNorm_apply, hE]
    exact hw d
  choose w hw using h
  exact ⟨w, hw⟩

/-- The similarity of two real vectors over the temperature. -/
def sim (u : Fin 512 → Fin 64 → ℝ) (w : Fin 65536 → Fin 64 → ℝ) (r : Fin 512) (s : Fin 65536) : ℝ :=
  (∑ d, u r d * w s d) * (1 / (13421773 / 134217728))

/-- The reference's similarities. -/
theorem sims_real (qn : Arr Ideal Cert.ReferenceIdeal.S512x64) (k : Arr Ideal Cert.ReferenceIdeal.S65536x64) (u : Fin 512 → Fin 64 → ℝ) (w : Fin 65536 → Fin 64 → ℝ)
    (hu : ∀ r d, qn (ix2 r d) = (u r d : EReal))
    (hw : ∀ s d, Ideal.div (k (ix2 s d)) (kNorm k (ix2 s 0) + Ideal.ofBits .f32 0x322BCC77#32) = (w s d : EReal)) (r : Fin 512) (s : Fin 65536) :
    sims qn k (kNorm k) (ix2 r s) = (sim u w r s : EReal) := by
  rw [sims_apply, temp_word, Ideal.div_coe (by norm_num)]
  simp only [hu, hw]
  unfold sim
  rw [EReal.coe_mul, coe_sum]
  simp only [EReal.coe_mul]

/-- The reference's context is the average of the values under the exponentials of the similarities. -/
theorem context_real (x : Arr Ideal Cert.ReferenceIdeal.S512x65536) (v : Arr Ideal Cert.ReferenceIdeal.S65536x64) (a : Fin 512 → Fin 65536 → ℝ)
    (hx : ∀ r s, x (ix2 r s) = (a r s : EReal)) (r : Fin 512) (j : Fin 64) :
    context (expos x) v (ix2 r j)
      = Ideal.div (∑ s : Fin 65536, (Real.exp (a r s) : EReal) * v (ix2 s j)) (∑ s : Fin 65536, (Real.exp (a r s) : EReal)) := by
  haveI : Nonempty (Fin 65536) := ⟨⟨0, by norm_num⟩⟩
  obtain ⟨M, hM⟩ := max_real (fun s : Fin 65536 => a r s)
  have hR : rowMax x r = (M : EReal) := by
    unfold rowMax
    rw [ninf_word]
    simp only [hx]
    exact hM
  rw [context_apply, softmax_average (fun s : Fin 65536 => a r s) M (fun s => v (ix2 s j))]
  simp only [expos_apply, hR, hx]

/-- The kernel's weight of a key: a power of two of the scaled product is the exponential of the similarity. -/
theorem weight_real (u : Fin 512 → Fin 64 → ℝ) (w : Fin 65536 → Fin 64 → ℝ) (r : Fin 512) (s : Fin 65536) :
    Ideal.exp2 (∑ d, ((u r d : EReal) * (((134217728 / 13421773) * (Real.log 2)⁻¹ : ℝ) : EReal)) * (w s d : EReal))
      = (Real.exp (sim u w r s) : EReal) := by
  have h : (∑ d, ((u r d : EReal) * (((134217728 / 13421773) * (Real.log 2)⁻¹ : ℝ) : EReal)) * (w s d : EReal))
      = (((∑ d, u r d * w s d) * ((134217728 / 13421773) * (Real.log 2)⁻¹) : ℝ) : EReal) := by
    rw [Finset.sum_mul, coe_sum]
    refine Finset.sum_congr rfl fun d _ => ?_
    rw [← EReal.coe_mul, ← EReal.coe_mul]
    congr 1
    ring
  rw [h, Ideal.exp2_coe]
  unfold sim
  rw [← exp2_scaled]

end Cert.Maths
-- ==== Proof.KernelIdeal.Equal.lean ====
module

public import proofs.«01_k».proof.Proof.KernelIdeal.HostVal
public import proofs.«01_k».proof.Proof.KernelIdeal.LstmChain
public import proofs.«01_k».proof.Proof.KernelIdeal.MemChain
public import proofs.«01_k».proof.Proof.Maths.Attention

/-!
# The kernel's result is the reference's

The two calls' input blocks in terms of the arguments, and the output array of the second call as the reference's logits.
-/

@[expose] public section

set_option maxRecDepth 16384

noncomputable section

namespace Cert.KernelIdeal.Whole

open Cert.KernelIdeal Cert.KernelIdeal.Gen
open Idealize.ShloMosaic Idealize.ShloMosaic.TcCoe
open Cert.ReferenceIdeal.Loop (qRaw qNorm qUnit kNorm sims expos context logits state readout out qRaw_apply qUnit_apply qNorm_apply kNorm_apply logits_apply)

variable (m : (ℓ : Loc nD τ sig) → Buf (Elt Ideal) ℓ) (ρ : Dev nD → PrngReg) (c : Dev nD)

/-- The first call's blocks hold the reference's inputs, weights and biases. -/
theorem lstm_inputs : Lstm.Inputs (V1 m ρ) c (A0 m c) (A1 m c) (A2 m c) (A3 m c) (A4 m c) where
  x t k hk r j := (Lstm.iblk_0_apply (V1 m ρ) c t k hk r j).trans (v0_apply m ρ c k r j)
  w1 t k j := (Lstm.iblk_1_apply (V1 m ρ) c t _ j).trans (v4_lo m ρ c k j)
  w2 t k j := (Lstm.iblk_1_apply (V1 m ρ) c t _ j).trans (v4_hi m ρ c k j)
  b t j := (Lstm.iblk_2_apply (V1 m ρ) c t j).trans (v6_apply m ρ c j)

/-- The second call finds the reference's final hidden state. -/
theorem v7_apply (r : Fin 512) (j : Fin 128) :
    (V3 m ρ c main_call0_v7 : (⟨S512x128, .f32⟩ : BufTy).Contents (Elt Ideal)) (ix2 r j) = (state (A0 m c) (A1 m c) (A2 m c) (A3 m c) (A4 m c) 50).1 (ix2 r j) := by
  have e : V3 m ρ c main_call0_v7 = (Lstm.dat (V1 m ρ) c).arrAt 3 cfg0.N :=
    (W3_of m ρ c main_call0_v7 (by decide +kernel)).trans (W2_arr m ρ c 3)
  rw [e]
  exact Lstm.arr_eq (lstm_inputs m ρ c) (ix2 r j)

/-- The reference's query. -/
abbrev q : Cert.ReferenceIdeal.Loop.Arr Ideal Cert.ReferenceIdeal.S512x64 := qRaw (A0 m c) (A5 m c) (A6 m c)

/-- The kernel's query is the reference's. -/
theorem qRow_eq (t : Fin cfg1.N) (r : Fin 512) (d : Fin 64) :
    Mem.qRow (Mem.iblk (V3 m ρ) c 0 t) (Mem.iblk (V3 m ρ) c 1 t) (Mem.iblk (V3 m ρ) c 2 t) r d = q m c (ix2 r d) := by
  unfold Mem.qRow q
  rw [qRaw_apply, Mem.iblk_2_apply, v11_apply]
  refine congrArg (· + _) (Finset.sum_congr rfl fun k _ => ?_)
  rw [Mem.iblk_0_apply, Mem.iblk_1_apply, v9_apply, v10_apply]

/-- The named constant's value. -/
theorem named_value : (Named.named (F := Ideal) κ "log2e_over_temp" (φ := .f32) 0x4166D4CA#32 : EReal) = (((134217728 / 13421773) * (Real.log 2)⁻¹ : ℝ) : EReal) := rfl

/-- The kernel's scaled query is the reference's normalised query times the named constant. -/
theorem qScaled_eq (t : Fin cfg1.N) (r : Fin 512) (d : Fin 64) :
    Mem.qScaled (Mem.iblk (V3 m ρ) c 0 t) (Mem.iblk (V3 m ρ) c 1 t) (Mem.iblk (V3 m ρ) c 2 t) r d
      = qUnit (q m c) (qNorm (q m c)) (ix2 r d) * (((134217728 / 13421773) * (Real.log 2)⁻¹ : ℝ) : EReal) := by
  unfold Mem.qScaled
  rw [qUnit_apply, qNorm_apply, named_value]
  simp only [qRow_eq]

section Weights

variable (u : Fin 512 → Fin 64 → ℝ) (w : Fin 65536 → Fin 64 → ℝ)

/-- The scaled query as the first point stores it. -/
def Q : Vec Ideal S512x64 .fp8e4m3 := fun y => (u (y 0) (y 1) : EReal) * (((134217728 / 13421773) * (Real.log 2)⁻¹ : ℝ) : EReal)

/-- The weight of a key, at its position among all of them. -/
def pw (r : Fin 512) (s : ℕ) : EReal := if h : s < 65536 then (Real.exp (Cert.Maths.sim u w r ⟨s, h⟩) : EReal) else 0

/-- A value, at its position among all of them. -/
def vw (k : Fin 64) (s : ℕ) : EReal := if h : s < 65536 then A8 m c (ix2 ⟨s, h⟩ k) else (0 : EReal)

/-- At a key's position stands its weight. -/
theorem pw_val (r : Fin 512) (s : Fin 65536) : pw u w r s.val = (Real.exp (Cert.Maths.sim u w r s) : EReal) := dif_pos s.isLt

/-- At a key's position stands its value. -/
theorem vw_val (k : Fin 64) (s : Fin 65536) : vw m c k s.val = A8 m c (ix2 s k) := dif_pos s.isLt

/-- The second call's blocks hold the reference's query, weights and values. -/
theorem mem_inputs (hu : ∀ r d, qUnit (q m c) (qNorm (q m c)) (ix2 r d) = (u r d : EReal))
    (hw : ∀ s d, Ideal.div (A7 m c (ix2 s d)) (kNorm (A7 m c) (ix2 s 0) + Ideal.ofBits .f32 0x322BCC77#32) = (w s d : EReal)) :
    Mem.Inputs (V3 m ρ) c (Q u) (pw u w) (vw m c) where
  q t r d := by
    rw [qScaled_eq, hu]
    rfl
  w t r l := by
    have hN : t.val < 8 := lt_of_lt_of_eq t.isLt N_1
    have hs : 8192 * t.val + l.val < 65536 := by have := l.isLt; omega
    rw [show pw u w r (8192 * t.val + l.val) = _ from pw_val u w r ⟨8192 * t.val + l.val, hs⟩, ← Cert.Maths.weight_real]
    unfold Mem.weight
    refine congrArg Ideal.exp2 (Finset.sum_congr rfl fun d _ => congrArg₂ (· * ·) rfl ?_)
    have hk : ∀ d : Fin 64, (Mem.iblk (V3 m ρ) c 3 t : Vec Ideal S64x8192 .f32) (ix2 d l) = A7 m c (ix2 ⟨8192 * t.val + l.val, hs⟩ d) := fun d =>
      (Mem.iblk_3_apply (V3 m ρ) c t d l ⟨8192 * t.val + l.val, hs⟩ rfl).trans (v12_apply m ρ c d _)
    obtain ⟨e, he, hE⟩ := Cert.Maths.eps_word
    rw [← hw, kNorm_apply]
    simp only [hk]
    rw [show Mem.eps = _ from hE, hE]
    exact Cert.Maths.mul_recip (fun d : Fin 64 => A7 m c (ix2 ⟨8192 * t.val + l.val, hs⟩ d)) e he _
  v t k l := by
    have hN : t.val < 8 := lt_of_lt_of_eq t.isLt N_1
    have hs : 8192 * t.val + l.val < 65536 := by have := l.isLt; omega
    rw [show vw m c k (8192 * t.val + l.val) = _ from vw_val m c k ⟨8192 * t.val + l.val, hs⟩]
    exact (Mem.iblk_4_apply (V3 m ρ) c t k l ⟨8192 * t.val + l.val, hs⟩ rfl).trans (v13_apply m ρ c k _)

end Weights

/-- The last tile's output from the entries of what it reads. -/
theorem outOf_of (fh : Vec Ideal S512x128 .f32) (owh : Vec Ideal S128x128 .f32) (owc : Vec Ideal S64x128 .f32) (ob : Vec Ideal S1x128 .f32)
    (num : Fin 64 → EReal) (den : EReal) (r : Fin 512) (j : Fin 128) (f g : Fin 128 → EReal) (h : Fin 64 → EReal) (b : EReal)
    (hf : ∀ k, fh (ix2 r k) = f k) (hg : ∀ k, owh (ix2 k j) = g k) (hh : ∀ k, owc (ix2 k j) = h k) (hb : ob (ix2 0 j) = b) :
    Mem.outOf fh owh owc ob num den r j = (∑ k, f k * g k) + (∑ k, Ideal.div (num k) den * h k) + b := by
  unfold Mem.outOf
  simp only [hf, hg, hh, hb]

/-- The array the kernel's result is read from is the reference's logits of the same arguments. -/
theorem result_eq :
    (Mem.dat (V3 m ρ) c).arrAt 9 cfg1.N = out (A0 m c) (A1 m c) (A2 m c) (A3 m c) (A4 m c) (A5 m c) (A6 m c) (A7 m c) (A8 m c) (A9 m c) (A10 m c) := by
  obtain ⟨u, hu⟩ := Cert.Maths.query_real (q m c)
  obtain ⟨w, hw⟩ := Cert.Maths.keys_real (A7 m c)
  refine Mem.arr_eq (mem_inputs m ρ c u w hu hw) _ fun r j => ?_
  unfold out readout
  rw [logits_apply]
  refine Eq.trans ?_ (outOf_of _ _ _ _ _ _ r j _ _ _ _ (fun k => v7_apply m ρ c r k) (fun k => v15_apply m ρ c k j) (fun k => v17_apply m ρ c k j) (v18_apply m ρ c j)).symm
  simp only [pw_val, vw_val, Cert.Maths.context_real _ (A8 m c) (Cert.Maths.sim u w) (Cert.Maths.sims_real _ (A7 m c) u w hu hw) r]

end Cert.KernelIdeal.Whole
-- ==== Proof.lean ====
/- The proof of the claim: the frames of the kernel, of its idealization and of the reference, the named constant, and the equality of the two results. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Kernel.Whole
public import proofs.«01_k».proof.Proof.KernelIdeal.Whole
public import proofs.«01_k».proof.Proof.KernelIdeal.Equal
public import proofs.«01_k».proof.Proof.ReferenceIdeal.Run
public import Idealize.ShloMosaic.Adequacy
public import Idealize.ShloMosaic.Init

@[expose] public section

noncomputable section

namespace Cert.Proof

open Idealize.ShloMosaic Idealize.SL.Sem

/-- The kernel on machine words terminates, keeps its arguments and leaves every counter at zero. -/
theorem kernel_frame : Cert.quiescent_Kernel (hKernel := Cert.Kernel.Gen.facts) :=
  fun m g _ => Cert.Kernel.Whole.frame m g

/-- The idealized kernel terminates, keeps its arguments and leaves every counter at zero. -/
theorem kernelIdeal_frame : Cert.quiescent_KernelIdeal (hKernelIdeal := Cert.KernelIdeal.Gen.facts) :=
  fun m g _ => Cert.KernelIdeal.Whole.frame m g

/-- The reference terminates, keeps its arguments and leaves every counter at zero. -/
theorem reference_frame : Cert.quiescent_ReferenceIdeal (hReferenceIdeal := Cert.ReferenceIdeal.Gen.facts) :=
  fun m g _ => (θ_run Cert.ReferenceIdeal.defs _ _).mono (fun _ h => ⟨fun c => (h.1 c).2, h.2⟩) (Cert.ReferenceIdeal.Loop.run m g)

/-- The kernel's constant is the named one's float word, and the idealized kernel reads the name's value. -/
theorem constant_named : Cert.preserves_Kernel_KernelIdeal :=
  IdealRules.named_const.statement Cert.KernelIdeal.κ "log2e_over_temp" .f32 0x4166D4CA#32 (((134217728 / 13421773) * (Real.log 2)⁻¹ : ℝ) : EReal) rfl

/-- Run from the same arguments, the idealized kernel and the reference end with the same logits. -/
theorem results_equal : Cert.algebraic_KernelIdeal_ReferenceIdeal (hKernelIdeal := Cert.KernelIdeal.Gen.facts) (hReferenceIdeal := Cert.ReferenceIdeal.Gen.facts) := by
  intro m g m' g' _ hargs
  refine ⟨fun c => (Cert.KernelIdeal.Mem.dat (Cert.KernelIdeal.Whole.V3 m g) c).arrAt 9 Cert.KernelIdeal.cfg1.N, Cert.KernelIdeal.Whole.value m g,
    (θ_run Cert.ReferenceIdeal.defs _ _).mono (fun r h c => ⟨(h.1 c).1.trans ?_, (h.1 c).2⟩) (Cert.ReferenceIdeal.Loop.run m' g')⟩
  obtain ⟨h0, h1, h2, h3, h4, h5, h6, h7, h8, h9, h10⟩ := hargs c
  rw [h0, h1, h2, h3, h4, h5, h6, h7, h8, h9, h10]
  exact (Cert.KernelIdeal.Whole.result_eq m g c).symm

/-- Everything the certificate claims. -/
theorem claim : Cert.Claim := ⟨Cert.Kernel.Gen.facts, Cert.KernelIdeal.Gen.facts, Cert.ReferenceIdeal.Gen.facts,
  kernel_frame, kernelIdeal_frame, reference_frame, constant_named, results_equal⟩

end Cert.Proof

end
